-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_scores_finite [hPre_scores_finite : Cert.Pre_scores_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_scores_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_scores_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_scores_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2.1 = (fun _ => 1#1)
    ∧ (Cert.Pre_scores_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_scores_finite [hPre_scores_finite : Cert.Pre_scores_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_scores_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_scores_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_scores_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2.1 = (fun _ => 1#1)
    ∧ (Cert.Pre_scores_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_scores_finite [hKernel8Ideal : Cert.Kernel8Ideal.Facts] [hPre_scores_finite : Cert.Pre_scores_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_scores_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_scores_finite [hReference8Ideal : Cert.Reference8Ideal.Facts] [hPre_scores_finite : Cert.Pre_scores_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_scores_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "masked" .f32 0xF149F2CA#32 ⊥

def algebraic_Kernel8Ideal_Reference8Ideal_pre_scores_finite [hKernel8Ideal : Cert.Kernel8Ideal.Facts] [hReference8Ideal : Cert.Reference8Ideal.Facts] [hPre_scores_finite : Cert.Pre_scores_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_scores_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v74) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_queries_and_keys_finite : Cert.Pre_queries_and_keys_finite.Facts) (hPre_scores_finite : Cert.Pre_scores_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_scores_finite (hKernel8Ideal := hKernel8Ideal) (hPre_scores_finite := hPre_scores_finite)
    ∧ quiescent_Reference8Ideal (hReference8Ideal := hReference8Ideal)
    ∧ quiescent_Reference8Ideal_pre_scores_finite (hReference8Ideal := hReference8Ideal) (hPre_scores_finite := hPre_scores_finite)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_scores_finite (hKernel8Ideal := hKernel8Ideal) (hReference8Ideal := hReference8Ideal) (hPre_scores_finite := hPre_scores_finite)
-- ==== Pre_queries_and_keys_finite.lean ====
abbrev S8192x6144 : Shape := ⟨2, ![8192, 6144]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x6144 .bf16) : IVec S8192x4096 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  main_v4
-- ==== Pre_scores_finite.lean ====
abbrev S8192x3584 : Shape := ⟨2, ![8192, 3584]⟩
abbrev S32x16 : Shape := ⟨2, ![32, 16]⟩
abbrev S16 : Shape := ⟨1, ![16]⟩
abbrev S128x256 : Shape := ⟨2, ![128, 256]⟩
abbrev S8192x1024 : Shape := ⟨2, ![8192, 1024]⟩
abbrev S_ : Shape := ⟨0, ![]⟩
abbrev S8192x256 : Shape := ⟨2, ![8192, 256]⟩

class Facts : Prop where
  slices_S8192x3584_S8192x1024_0_0 : S8192x3584.Slices ![0, 0] S8192x1024
  bcast_S_S8192x1024 : S_.BroadcastsInDim S8192x1024 (![] : Fin 0 → Fin S8192x1024.rank)
  slices_S8192x3584_S8192x256_0_3072 : S8192x3584.Slices ![0, 3072] S8192x256
  bcast_S_S8192x256 : S_.BroadcastsInDim S8192x256 (![] : Fin 0 → Fin S8192x256.rank)
  bcast_S_S32x16 : S_.BroadcastsInDim S32x16 (![] : Fin 0 → Fin S32x16.rank)
  bcast_S_S16 : S_.BroadcastsInDim S16 (![] : Fin 0 → Fin S16.rank)

variable [Facts]

def fn {F : FTy → Type} [FloatOps F] (main_arg0 : FVec F S8192x3584 .f32) (main_arg1 : FVec F S32x16 .f32) (main_arg2 : FVec F S16 .f32) (main_arg3 : IVec S128x256 32) : IVec S8192x1024 1 × IVec S8192x256 1 × IVec S32x16 1 × IVec S16 1 :=
  let main_v0 : FVec F S8192x1024 .f32 := (extractStridedSlice S8192x1024 ![0, 0] · slices_S8192x3584_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x256 .f32 := (extractStridedSlice S8192x256 ![0, 3072] · slices_S8192x3584_S8192x256_0_3072) main_arg0
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : FVec F S32x16 .f32 := Host.absf main_arg1
  let main_cst_1 : FVec F S_ .f32 := constant S_ .f32 0x7F800000#32
  let main_v9 : FVec F S32x16 .f32 := broadcastInDim S32x16 ![] bcast_S_S32x16 main_cst_1
  let main_v10 : IVec S32x16 1 := cmpf .olt main_v8 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  (main_v3, main_v7, main_v10, main_v13)
-- ==== Kernel.lean ====
abbrev S8192x6144 : Shape := ⟨2, ![8192, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x2048 : Shape := ⟨2, ![8192, 2048]⟩
abbrev S256x128 : Shape := ⟨2, ![256, 128]⟩
abbrev S8192x128 : Shape := ⟨2, ![8192, 128]⟩

abbrev nBuf : Space → Nat
  | .hbm => 9
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S8192x2048, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let arg1 : BitVec 32 := BitVec.ofNat 32 (i 1).val
  let c256_i32 : BitVec 32 := 256#32
  let v8 : BitVec 32 := Scalar.muli arg1 c256_i32
  v8
def k0_off1 (i : grid0.Coords) : Fin 2 → Nat :=
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  let c0_4 : Index := 0#32
  ![v10.toNat, 0]
@[reducible] def k0_t1_loop (i : grid0.Coords) : Scf.Loop 32 :=
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_17 : BitVec 32 := 1#32
  ⟨c0_i32, v53, c1_i32_17⟩
def k0_mult2 (i : grid0.Coords) (k0_t1 : Fin (k0_t1_loop i).trips) : BitVec 32 :=
  let arg1 : BitVec 32 := BitVec.ofNat 32 (i 1).val
  let c1_i32_21 : BitVec 32 := 1#32
  let v58 : BitVec 32 := Scalar.subi arg1 c1_i32_21
  let c0_i32 : BitVec 32 := 0#32
  let c1_i32_17 : BitVec 32 := 1#32
  let arg7 : BitVec 32 := Scf.iv c0_i32 c1_i32_17 k0_t1
  let v59 : BitVec 32 := Scalar.subi v58 arg7
  let c256_i32_22 : BitVec 32 := 256#32
  let v60 : BitVec 32 := Scalar.muli v59 c256_i32_22
  v60
def k0_off2 (i : grid0.Coords) (k0_t1 : Fin (k0_t1_loop i).trips) : Fin 2 → Nat :=
  let arg1 : BitVec 32 := BitVec.ofNat 32 (i 1).val
  let c1_i32_21 : BitVec 32 := 1#32
  let v58 : BitVec 32 := Scalar.subi arg1 c1_i32_21
  let c0_i32 : BitVec 32 := 0#32
  let c1_i32_17 : BitVec 32 := 1#32
  let arg7 : BitVec 32 := Scf.iv c0_i32 c1_i32_17 k0_t1
  let v59 : BitVec 32 := Scalar.subi v58 arg7
  let c256_i32_22 : BitVec 32 := 256#32
  let v60 : BitVec 32 := Scalar.muli v59 c256_i32_22
  let v61 : BitVec 32 := v60
  let v62 : Index := Scalar.indexCast v61
  let c0_23 : Index := 0#32
  ![v62.toNat, 0]
@[reducible] def k0_t2_loop (i : grid0.Coords) : Scf.Loop 32 :=
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let v50 : BitVec 32 := Scalar.addi c0_i32 v49
  let c1_i32_18 : BitVec 32 := 1#32
  ⟨v53, v50, c1_i32_18⟩
def k0_mult3 (i : grid0.Coords) (k0_t2 : Fin (k0_t2_loop i).trips) : BitVec 32 :=
  let arg1 : BitVec 32 := BitVec.ofNat 32 (i 1).val
  let c1_i32_21 : BitVec 32 := 1#32
  let v58 : BitVec 32 := Scalar.subi arg1 c1_i32_21
  let c0_i32 : BitVec 32 := 0#32
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_18 : BitVec 32 := 1#32
  let arg7 : BitVec 32 := Scf.iv v53 c1_i32_18 k0_t2
  let v59 : BitVec 32 := Scalar.subi v58 arg7
  let c256_i32_22 : BitVec 32 := 256#32
  let v60 : BitVec 32 := Scalar.muli v59 c256_i32_22
  v60
def k0_off3 (i : grid0.Coords) (k0_t2 : Fin (k0_t2_loop i).trips) : Fin 2 → Nat :=
  let arg1 : BitVec 32 := BitVec.ofNat 32 (i 1).val
  let c1_i32_21 : BitVec 32 := 1#32
  let v58 : BitVec 32 := Scalar.subi arg1 c1_i32_21
  let c0_i32 : BitVec 32 := 0#32
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_18 : BitVec 32 := 1#32
  let arg7 : BitVec 32 := Scf.iv v53 c1_i32_18 k0_t2
  let v59 : BitVec 32 := Scalar.subi v58 arg7
  let c256_i32_22 : BitVec 32 := 256#32
  let v60 : BitVec 32 := Scalar.muli v59 c256_i32_22
  let v61 : BitVec 32 := v60
  let v62 : Index := Scalar.indexCast v61
  let c0_23 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x6144 : Shape := ⟨2, ![8192, 6144]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S8192 : Shape := ⟨1, ![8192]⟩
abbrev S16x8192x8192 : Shape := ⟨3, ![16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩
abbrev S8192x2048 : Shape := ⟨2, ![8192, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S8192x3x16x128, .f32⟩
  | .hbm, ⟨3, _⟩ => ⟨S8192x1x16x128, .f32⟩
  | .hbm, ⟨4, _⟩ => ⟨S8192x16x128, .f32⟩
  | .hbm, ⟨5, _⟩ => ⟨S8192x1x16x128, .f32⟩
  | .hbm, ⟨6, _⟩ => ⟨S8192x16x128, .f32⟩
  | .hbm, ⟨7, _⟩ => ⟨S8192x1x16x128, .f32⟩
  | .hbm, ⟨8, _⟩ => ⟨S8192x16x128, .f32⟩
  | .hbm, ⟨9, _⟩ => ⟨S8192, .i32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S_, .f32⟩
  | .hbm, ⟨38, _⟩ => ⟨S16x8192x8192, .i1⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S_, .f32⟩
  | .hbm, ⟨43, _⟩ => ⟨S16x8192x8192, .f32⟩
  | .hbm, ⟨44, _⟩ => ⟨S16x8192x8192, .f32⟩
  | .hbm, ⟨45, _⟩ => ⟨S16x8192x8192, .f32⟩
  | .hbm, ⟨46, _⟩ => ⟨S_, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .i1⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S_, .f32⟩
  | .hbm, ⟨64, _⟩ => ⟨S_, .f32⟩
  | .hbm, ⟨65, _⟩ => ⟨S16x8192x8192, .i1⟩
  | .hbm, ⟨66, _⟩ => ⟨S16x8192x8192, .f32⟩
  | .hbm, ⟨67, _⟩ => ⟨S16x8192x8192, .f32⟩
  | .hbm, ⟨68, _⟩ => ⟨S16x128x8192, .f32⟩
  | .hbm, ⟨69, _⟩ => ⟨S8192x16x128, .f32⟩
  | .hbm, ⟨70, _⟩ => ⟨S8192x2048, .f32⟩
  | .hbm, ⟨71, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond4 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_cond4 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x6144 : Shape := ⟨2, ![2048, 6144]⟩
abbrev S1x2048 : Shape := ⟨2, ![1, 2048]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6144, .f32⟩
  | .hbm, ⟨3, _⟩ => ⟨S2048x6144, .bf16⟩
  | .hbm, ⟨4, _⟩ => ⟨S1x2048, .f32⟩
  | .hbm, ⟨5, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S2048x6144 : Shape := ⟨2, ![2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6144 : Shape := ⟨2, ![8192, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6144, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6144, .f32⟩
  | .hbm, ⟨20, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x3584 : Shape := ⟨2, ![2048, 3584]⟩
abbrev S1x2048 : Shape := ⟨2, ![1, 2048]⟩
abbrev S8192x3584 : Shape := ⟨2, ![8192, 3584]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3584, .f32⟩
  | .hbm, ⟨3, _⟩ => ⟨S2048x3584, .bf16⟩
  | .hbm, ⟨4, _⟩ => ⟨S1x2048, .f32⟩
  | .hbm, ⟨5, _⟩ => ⟨S8192x3584, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048 : Shape := ⟨1, ![2048]⟩
abbrev S2048x3584 : Shape := ⟨2, ![2048, 3584]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3584 : Shape := ⟨2, ![8192, 3584]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3584, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x3584, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S8192x3584 : Shape := ⟨2, ![8192, 3584]⟩
abbrev S32x16 : Shape := ⟨2, ![32, 16]⟩
abbrev S16 : Shape := ⟨1, ![16]⟩
abbrev S128x256 : Shape := ⟨2, ![128, 256]⟩
abbrev S8192x1024 : Shape := ⟨2, ![8192, 1024]⟩
abbrev S128x1024 : Shape := ⟨2, ![128, 1024]⟩
abbrev S4x512x256 : Shape := ⟨3, ![4, 512, 256]⟩
abbrev S1x1 : Shape := ⟨2, ![1, 1]⟩
abbrev S1x128x256 : Shape := ⟨3, ![1, 128, 256]⟩
abbrev S128x64 : Shape := ⟨2, ![128, 64]⟩
abbrev S512x64 : Shape := ⟨2, ![512, 64]⟩
abbrev S512x128 : Shape := ⟨2, ![512, 128]⟩
abbrev S1x512x128 : Shape := ⟨3, ![1, 512, 128]⟩
abbrev S1 : Shape := ⟨1, ![1]⟩
abbrev S128x1 : Shape := ⟨2, ![128, 1]⟩
abbrev S512x1 : Shape := ⟨2, ![512, 1]⟩
abbrev S512 : Shape := ⟨1, ![512]⟩

abbrev nBuf : Space → Nat
  | .hbm => 5
  | .vmem => 14
  | .smem => 2
  | _ => 0

abbrev bufTy : (tb : Table) → Fin (tcTables nBuf tb) → BufTy
  | .hbm, ⟨0, _⟩ => ⟨S8192x3584, .f32⟩
  | .hbm, ⟨1, _⟩ => ⟨S32x16, .f32⟩
  | .hbm, ⟨2, _⟩ => ⟨S16, .f32⟩
  | .hbm, ⟨3, _⟩ => ⟨S128x256, .i32⟩
  | .hbm, ⟨4, _⟩ => ⟨S8192x1024, .bf16⟩
  | .local _ .vmem, ⟨0, _⟩ => ⟨S128x256, .i32⟩
  | .local _ .vmem, ⟨1, _⟩ => ⟨S128x1024, .f32⟩
  | .local _ .vmem, ⟨2, _⟩ => ⟨S128x1024, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x1024, .bf16⟩
  | .local _ .vmem, ⟨12, _⟩ => ⟨S128x1024, .bf16⟩
  | .local _ .vmem, ⟨13, _⟩ => ⟨S4x512x256, .f32⟩
  | .local _ .smem, ⟨0, _⟩ => ⟨S32x16, .f32⟩
  | .local _ .smem, ⟨1, _⟩ => ⟨S16, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let c0_i32_0 : BitVec 32 := 0#32
  ![v1.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c13_i32 : BitVec 32 := 13#32
  let c0_i32_0 : BitVec 32 := 0#32
  ![v1.toNat, c13_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel8Ideal.lean ====
variable {F : FTy → Type} [FloatOps F] [Named F]
def κ : String → Option EReal := fun
  | "masked" => some ⊥
  | _ => none
-- ==== Reference8Ideal.lean ====
abbrev S8192x3584 : Shape := ⟨2, ![8192, 3584]⟩
abbrev S32x16 : Shape := ⟨2, ![32, 16]⟩
abbrev S16 : Shape := ⟨1, ![16]⟩
abbrev S128x256 : Shape := ⟨2, ![128, 256]⟩
abbrev S8192x1024 : Shape := ⟨2, ![8192, 1024]⟩
abbrev S64x128x4x4x64 : Shape := ⟨5, ![64, 128, 4, 4, 64]⟩
abbrev S8192x256 : Shape := ⟨2, ![8192, 256]⟩
abbrev S64x128x4x64 : Shape := ⟨4, ![64, 128, 4, 64]⟩
abbrev S_ : Shape := ⟨0, ![]⟩
abbrev S1x128x4x64 : Shape := ⟨4, ![1, 128, 4, 64]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128x256x1 : Shape := ⟨3, ![128, 256, 1]⟩
abbrev S32 : Shape := ⟨1, ![32]⟩
abbrev S1x1x32 : Shape := ⟨3, ![1, 1, 32]⟩
abbrev S128x256x32 : Shape := ⟨3, ![128, 256, 32]⟩
abbrev S32x4x4 : Shape := ⟨3, ![32, 4, 4]⟩
abbrev S4x4x128x256 : Shape := ⟨4, ![4, 4, 128, 256]⟩
abbrev S64 : Shape := ⟨1, ![64]⟩
abbrev S64x1 : Shape := ⟨2, ![64, 1]⟩
abbrev S256 : Shape := ⟨1, ![256]⟩
abbrev S1x256 : Shape := ⟨2, ![1, 256]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x4x4x128x256 : Shape := ⟨5, ![1, 4, 4, 128, 256]⟩
abbrev S4x4 : Shape := ⟨2, ![4, 4]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S32x16, .f32⟩
  | .hbm, ⟨2, _⟩ => ⟨S16, .f32⟩
  | .hbm, ⟨3, _⟩ => ⟨S128x256, .i32⟩
  | .hbm, ⟨4, _⟩ => ⟨S8192x1024, .f32⟩
  | .hbm, ⟨5, _⟩ => ⟨S64x128x4x4x64, .f32⟩
  | .hbm, ⟨6, _⟩ => ⟨S8192x256, .f32⟩
  | .hbm, ⟨7, _⟩ => ⟨S64x128x4x64, .f32⟩
  | .hbm, ⟨8, _⟩ => ⟨S8192x256, .f32⟩
  | .hbm, ⟨9, _⟩ => ⟨S64x128x4x64, .f32⟩
  | .hbm, ⟨10, _⟩ => ⟨S_, .f32⟩
  | .hbm, ⟨11, _⟩ => ⟨S1x128x4x64, .f32⟩
  | .hbm, ⟨12, _⟩ => ⟨S63x128x4x64, .f32⟩
  | .hbm, ⟨13, _⟩ => ⟨S64x128x4x64, .f32⟩
  | .hbm, ⟨14, _⟩ => ⟨S64x256x4x64, .f32⟩
  | .hbm, ⟨15, _⟩ => ⟨S63x128x4x64, .f32⟩
  | .hbm, ⟨16, _⟩ => ⟨S64x128x4x64, .f32⟩
  | .hbm, ⟨17, _⟩ => ⟨S64x256x4x64, .f32⟩
  | .hbm, ⟨18, _⟩ => ⟨S64x4x256x128x4, .f32⟩
  | .hbm, ⟨19, _⟩ => ⟨S64x4x4x128x256, .f32⟩
  | .hbm, ⟨20, _⟩ => ⟨S_, .f32⟩
  | .hbm, ⟨21, _⟩ => ⟨S64x4x4x128x256, .f32⟩
  | .hbm, ⟨22, _⟩ => ⟨S64x4x4x128x256, .f32⟩
  | .hbm, ⟨23, _⟩ => ⟨S128x256x1, .i32⟩
  | .hbm, ⟨24, _⟩ => ⟨S32, .i32⟩
  | .hbm, ⟨25, _⟩ => ⟨S1x1x32, .i32⟩
  | .hbm, ⟨26, _⟩ => ⟨S128x256x32, .i32⟩
  | .hbm, ⟨27, _⟩ => ⟨S128x256x32, .i32⟩
  | .hbm, ⟨28, _⟩ => ⟨S128x256x32, .i1⟩
  | .hbm, ⟨29, _⟩ => ⟨S128x256x32, .f32⟩
  | .hbm, ⟨30, _⟩ => ⟨S32x4x4, .f32⟩
  | .hbm, ⟨31, _⟩ => ⟨S4x4x128x256, .f32⟩
  | .hbm, ⟨32, _⟩ => ⟨S64, .i32⟩
  | .hbm, ⟨33, _⟩ => ⟨S64x1, .i32⟩
  | .hbm, ⟨34, _⟩ => ⟨S_, .i32⟩
  | .hbm, ⟨35, _⟩ => ⟨S64x1, .i32⟩
  | .hbm, ⟨36, _⟩ => ⟨S64x1, .i32⟩
  | .hbm, ⟨37, _⟩ => ⟨S256, .i32⟩
  | .hbm, ⟨38, _⟩ => ⟨S1x256, .i32⟩
  | .hbm, ⟨39, _⟩ => ⟨S64x256, .i32⟩
  | .hbm, ⟨40, _⟩ => ⟨S64x256, .i32⟩
  | .hbm, ⟨41, _⟩ => ⟨S64x256, .i32⟩
  | .hbm, ⟨42, _⟩ => ⟨S_, .i32⟩
  | .hbm, ⟨43, _⟩ => ⟨S64x256, .i32⟩
  | .hbm, ⟨44, _⟩ => ⟨S64x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S1x128x256, .i1⟩
  | .hbm, ⟨53, _⟩ => ⟨S_, .i32⟩
  | .hbm, ⟨54, _⟩ => ⟨S64x256, .i32⟩
  | .hbm, ⟨55, _⟩ => ⟨S64x256, .i1⟩
  | .hbm, ⟨56, _⟩ => ⟨S64x1x256, .i1⟩
  | .hbm, ⟨57, _⟩ => ⟨S64x128x256, .i1⟩
  | .hbm, ⟨58, _⟩ => ⟨S64x128x256, .i1⟩
  | .hbm, ⟨59, _⟩ => ⟨S64x128x256, .i1⟩
  | .hbm, ⟨60, _⟩ => ⟨S64x1x1x128x256, .i1⟩
  | .hbm, ⟨61, _⟩ => ⟨S1x4x4x128x256, .f32⟩
  | .hbm, ⟨62, _⟩ => ⟨S64x4x4x128x256, .f32⟩
  | .hbm, ⟨63, _⟩ => ⟨S64x4x4x128x256, .f32⟩
  | .hbm, ⟨64, _⟩ => ⟨S_, .f32⟩
  | .hbm, ⟨65, _⟩ => ⟨S_, .f32⟩
  | .hbm, ⟨66, _⟩ => ⟨S64x4x4x128x256, .i1⟩
  | .hbm, ⟨67, _⟩ => ⟨S64x4x4x128x256, .f32⟩
  | .hbm, ⟨68, _⟩ => ⟨S64x4x4x128x256, .f32⟩
  | .hbm, ⟨69, _⟩ => ⟨S4x4, .f32⟩
  | .hbm, ⟨70, _⟩ => ⟨S1x4x4x1x1, .f32⟩
  | .hbm, ⟨71, _⟩ => ⟨S_, .f32⟩
  | .hbm, ⟨72, _⟩ => ⟨S64x4x4x128, .f32⟩
  | .hbm, ⟨73, _⟩ => ⟨S64x4x4x128x1, .f32⟩
  | .hbm, ⟨74, _⟩ => ⟨S64x4x4x128x1, .f32⟩
  | .hbm, ⟨75, _⟩ => ⟨S64x4x4x128x1, .f32⟩
  | .hbm, ⟨76, _⟩ => ⟨S64x4x4x128x256, .f32⟩
  | .hbm, ⟨77, _⟩ => ⟨S64x4x4x128x256, .f32⟩
  | .hbm, ⟨78, _⟩ => ⟨S64x4x4x128x256, .f32⟩
  | .hbm, ⟨79, _⟩ => ⟨S_, .f32⟩
  | .hbm, ⟨80, _⟩ => ⟨S64x4x4x128, .f32⟩
  | .hbm, ⟨81, _⟩ => ⟨S64x4x4x128x1, .f32⟩
  | .hbm, ⟨82, _⟩ => ⟨S64x4x4x128x1, .f32⟩
  | .hbm, ⟨83, _⟩ => ⟨S64x4x4x128x1, .f32⟩
  | .hbm, ⟨84, _⟩ => ⟨S64x4x4x128x1, .f32⟩
  | .hbm, ⟨85, _⟩ => ⟨S64x4x4x128x1, .f32⟩
  | .hbm, ⟨86, _⟩ => ⟨S64x4x4x128x256, .f32⟩
  | .hbm, ⟨87, _⟩ => ⟨S64x4x4x128x256, .f32⟩
  | .hbm, ⟨88, _⟩ => ⟨S64x4x64x4x128, .f32⟩
  | .hbm, ⟨89, _⟩ => ⟨S64x128x4x4x64, .f32⟩
  | .hbm, ⟨90, _⟩ => ⟨S8192x1024, .f32⟩
  | .hbm, ⟨91, _⟩ => ⟨S8192x1024, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Proof.Sb.Run.lean ====
/- Stick-breaking attention, the kernel's side: what one grid point leaves in the output block, as a plain
   recursion over the key blocks. The generated loop invariant hides the trip's result behind the run that found it;
   this module opens it once and states it in the printed payloads. -/
module

public import proofs.«01_k».proof.Proof.Gen.KernelIdeal.Value
public import Idealize.ShloMosaic.Lib.Pipeline.ValueKit
public import Idealize.ShloMosaic.Lib.ValueIdx

@[expose] public section

set_option maxRecDepth 16384

noncomputable section

namespace Cert.KernelIdeal.Sb

open Cert.KernelIdeal Cert.KernelIdeal.Gen Idealize.ShloMosaic Idealize.ShloMosaic.TcCoe Idealize.SL.Sem Idealize.ShloMosaic.Pipeline

variable {F : FTy → Type} [FloatOps F]

/-- Rows `256 b … 256 b + 255` of a head's keys or values. -/
def rows (x : Vec F S8192x128 .bf16) (b : ℕ) : Vec F S256x128 .bf16 :=
  fun j => x (ValueIdx.ix2 ⟨(b * 256 + (j 0).val) % 8192, Nat.mod_lt _ (by omega)⟩ (j 1))

/-- The pair the kernel carries (running sum of log-keep, accumulated output) after the diagonal block and `k` blocks
    to its left. -/
def state (q : Vec F S256x128 .bf16) (tri : Vec F S256x256 .bf16) (x1 x2 : Vec F S8192x128 .bf16) (b : ℕ) :
    ℕ → FVec F S256x1 .f32 × FVec F S256x128 .f32
  | 0 => (k0_pay2 k0_pay16 (k0_pay20 q (rows x1 b)), k0_pay1 k0_pay15 k0_pay17 (rows x2 b) (k0_pay21 q tri (rows x1 b)))
  | k + 1 =>
    (k0_pay7 q (state q tri x1 x2 b k).1 (rows x1 (b - 1 - k)),
      k0_pay6 q (k0_pay14 tri) (state q tri x1 x2 b k).1 (state q tri x1 x2 b k).2 (rows x1 (b - 1 - k)) (rows x2 (b - 1 - k)))

/-- A load of 256 rows at row `256 b` is that block of rows. -/
theorem ld_rows (x : Vec F S8192x128 .bf16) (off : Fin 2 → ℕ) (inb) (b : ℕ) (hb : b < 32) (h0 : off 0 = b * 256)
    (h1 : off 1 = 0) : View.ld (S := S8192x128) x (Rect.unit off ![256, 128] inb) = rows x b := by
  funext j
  refine View.ld_unit_apply_of x off ![256, 128] inb j _ fun a => ?_
  have hj : (j 0).val < 256 := (j 0).isLt
  match a with
  | ⟨0, _⟩ => show (b * 256 + (j 0).val) % 8192 = off 0 + (j 0).val; omega
  | ⟨1, _⟩ => show (j 1).val = off 1 + (j 1).val; omega

/-- The offset of the diagonal block, the left blocks' offsets, and the two trip counts, as numbers. -/
theorem off_diag : ∀ b : Fin 32,
    (Scalar.indexCast (Scalar.muli (BitVec.ofNat 32 b.val) 256#32)).toNat = b.val * 256 := by decide +kernel

theorem off_left : ∀ b : Fin 32, ∀ k : Fin 32, k.val < b.val →
    (Scalar.indexCast (Scalar.muli (Scalar.subi (Scalar.subi (BitVec.ofNat 32 b.val) 1#32) (Scf.iv 0#32 1#32 k.val)) 256#32)).toNat
      = (b.val - 1 - k.val) * 256 := by decide +kernel

theorem trips_left : ∀ b : Fin 32,
    Scf.trips (0#32) (Scalar.addi (0#32)
      (Scalar.muli (Scalar.divsi (Scalar.subi (BitVec.ofNat 32 b.val) 0#32) 1#32) 1#32)) 1#32 = b.val := by decide +kernel

theorem trips_rest : ∀ b : Fin 32,
    Scf.trips (Scalar.addi (0#32) (Scalar.muli (Scalar.divsi (Scalar.subi (BitVec.ofNat 32 b.val) 0#32) 1#32) 1#32))
      (Scalar.addi (0#32) (Scalar.subi (BitVec.ofNat 32 b.val) 0#32)) 1#32 = 0 := by decide +kernel

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole) (arg6 : Memref sig .tc .vmem S256x128 .bf16) (harg6 : arg6.IsWhole)

/-- One trip's result: the next carry and accumulator from the block of keys and values it loads. -/
theorem trip_eq (v0 : Vec F S256x128 .bf16) (v2 : Vec F S256x256 .bf16) (x1 x2 : Vec F S8192x128 .bf16)
    (k : Fin (k0_t1_loop i).trips) (acc : FVec F S256x1 .f32 × FVec F S256x128 .f32) :
    tripR_k0_t1 (F := F) 𝒱 c bd i arg2 harg2 arg3 harg3 arg4 harg4 arg5 harg5 arg6 harg6 v0 v2 (harg3.unread x1) (harg4.unread x2) k acc
      = (k0_pay7 v0 acc.1 (rows x1 ((i 1).val - 1 - k.val)),
          k0_pay6 v0 v2 acc.1 acc.2 (rows x1 ((i 1).val - 1 - k.val)) (rows x2 ((i 1).val - 1 - k.val))) := by
  have hi : (i 1).val < 32 := (i 1).isLt
  have ht : (k0_t1_loop i).trips = (i 1).val := trips_left (i 1)
  have hk : k.val < (i 1).val := ht ▸ k.isLt
  have ho := off_left (i 1) ⟨k.val, by omega⟩ hk
  unfold tripR_k0_t1 trip_k0_t1
  dsimp only
  sl_unfold_words
  simp only [View.readAt_eq_ld, harg3.read_unread, harg4.read_unread]
  set_option backward.isDefEq.respectTransparency false in
  rw [ld_rows x1 _ _ ((i 1).val - 1 - k.val) (by omega) ho rfl, ld_rows x2 _ _ ((i 1).val - 1 - k.val) (by omega) ho rfl]

/-- The loop's carried value is the recursion's. -/
theorem st_eq (v0 : Vec F S256x128 .bf16) (tri : Vec F S256x256 .bf16) (x1 x2 : Vec F S8192x128 .bf16) (k : ℕ)
    (hk : k ≤ (i 1).val) :
    st_k0_t1 (F := F) 𝒱 c bd i arg2 harg2 arg3 harg3 arg4 harg4 arg5 harg5 arg6 harg6 v0 (k0_pay14 tri) (harg3.unread x1) (harg4.unread x2)
        (state v0 tri x1 x2 (i 1).val 0) k
      = state v0 tri x1 x2 (i 1).val k := by
  have ht : (k0_t1_loop i).trips = (i 1).val := trips_left (i 1)
  induction k with
  | zero => rfl
  | succ k ih =>
    have e := st_k0_t1_succ (F := F) 𝒱 c bd i arg2 harg2 arg3 harg3 arg4 harg4 arg5 harg5 arg6 harg6 v0 (k0_pay14 tri)
      (harg3.unread x1) (harg4.unread x2) (state v0 tri x1 x2 (i 1).val 0) ⟨k, by omega⟩
    refine e.trans ?_
    rw [trip_eq, ih (by omega)]
    rfl

/-- What the body leaves in the output block: the accumulator after all the blocks to the left, rounded. -/
theorem out_eq (x0 : Vec F S256x128 .bf16) (x1 x2 : Vec F S8192x128 .bf16) (x3 : Vec F S256x256 .bf16) :
    out0_A_4 c i arg2 harg2 arg3 harg3 arg4 harg4 arg5 harg5 arg6 harg6 x0 x1 x2 x3
      = k0_pay13 (state x0 x3 x1 x2 (i 1).val (i 1).val).2 := by
  have hi : (i 1).val < 32 := (i 1).isLt
  have h1 := trips_left (i 1)
  have h2 := trips_rest (i 1)
  have ho := off_diag (i 1)
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  simp only [View.readAt_eq_ld, harg2.read_unread, harg3.read_unread, harg4.read_unread, harg5.read_unread]
  rw [View.canon_unit_zero (by funext a; fin_cases a <;> rfl)]
  rw [View.ld_unit_zero (S := S256x128) (by funext a; fin_cases a <;> rfl), View.ld_unit_zero (S := S256x256) (by funext a; fin_cases a <;> rfl)]
  set_option backward.isDefEq.respectTransparency false in
  rw [ld_rows x1 _ _ (i 1).val hi ho rfl, ld_rows x2 _ _ (i 1).val hi ho rfl]
  rw [h1, h2]
  rw [show st_k0_t2 (F := F) Variants.none c none i arg2 harg2 arg3 harg3 arg4 harg4 arg5 harg5 arg6 harg6 x0 (k0_pay14 x3)
    (harg3.unread x1) (harg4.unread x2) _ 0 = _ from rfl]
  exact congrArg (fun s => k0_pay13 s.2) (st_eq Variants.none c none i arg2 harg2 arg3 harg3 arg4 harg4 arg5 harg5 arg6 harg6 x0 x3 x1 x2 _ le_rfl)

end

end Cert.KernelIdeal.Sb

end
-- ==== Proof.Sb.Math.lean ====
/- Stick-breaking attention, the mathematics alone: the softplus of a finite score is finite, the two log-sigmoids are
   `-softplus` and `z - softplus`, and sums over a block of 256 keys are sums over an interval of key positions. -/
module

public import Idealize.ShloMosaic.PureOps.Ideal
public import Idealize.ShloMosaic.PureOps.Ideal.Laws
public import Mathlib.Algebra.BigOperators.Intervals

@[expose] public section

noncomputable section

namespace Cert.StickBreaking

open Idealize.ShloMosaic

/-- `max(x, 0) + log(1 + e^(0 - |x|))`, the softplus as both programs compute it. -/
def sp (x : EReal) : EReal := max x 0 + Ideal.log1p (Ideal.exp (0 - max x (-x)))

/-- An extended real that is a real number. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_neg {x : EReal} (hx : Fin' x) : Fin' (-x) := by
  obtain ⟨a, rfl⟩ := hx; exact ⟨-a, (EReal.coe_neg a).symm⟩

theorem fin_zero : Fin' 0 := ⟨0, rfl⟩

theorem fin_sum {ι : Type*} (s : Finset ι) (f : ι → EReal) (h : ∀ i ∈ s, Fin' (f i)) : Fin' (∑ i ∈ s, f i) := by
  classical
  induction s using Finset.induction_on with
  | empty => simpa using fin_zero
  | insert a s ha ih =>
    rw [Finset.sum_insert ha]
    exact fin_add (h a (Finset.mem_insert_self a s)) (ih fun i hi => h i (Finset.mem_insert_of_mem hi))

/-- A number minus itself is zero when it is a real number. -/
theorem fin_sub_self {x : EReal} (hx : Fin' x) : x - x = 0 := by
  obtain ⟨a, rfl⟩ := hx; rw [← EReal.coe_sub, sub_self]; rfl

/-- Adding a real number and taking it away again changes nothing. -/
theorem fin_add_sub_cancel {x y : EReal} (hx : Fin' x) (hy : Fin' y) : x + y - x = y := by
  obtain ⟨a, rfl⟩ := hx; obtain ⟨b, rfl⟩ := hy
  rw [← EReal.coe_add, ← EReal.coe_sub, add_sub_cancel_left]

/-- The absolute value of a finite number is below the top element exactly because the number is real. -/
theorem fin_of_abs_lt {x : EReal} (h : max x (-x) < ⊤) : Fin' x := by
  induction x using EReal.rec with
  | bot => simp at h
  | top => simp at h
  | coe a => exact ⟨a, rfl⟩

theorem coe_max (a b : ℝ) : max (a : EReal) (b : EReal) = ((max a b : ℝ) : EReal) :=
  (EReal.coe_strictMono.monotone.map_max (a := a) (b := b)).symm

/-- The softplus of a real number, as a real number. -/
theorem sp_coe (a : ℝ) : sp (a : EReal) = ((max a 0 + Real.log (1 + Real.exp (-(max a (-a)))) : ℝ) : EReal) := by
  have e1 : (0 : EReal) - max (a : EReal) (-(a : EReal)) = ((-(max a (-a)) : ℝ) : EReal) := by
    rw [← EReal.coe_neg, coe_max, zero_sub, EReal.coe_neg]
  have e2 : Ideal.log1p (Ideal.exp ((-(max a (-a)) : ℝ) : EReal)) = ((Real.log (1 + Real.exp (-(max a (-a)))) : ℝ) : EReal) := by
    show Ideal.log (1 + ((Real.exp (-(max a (-a))) : ℝ) : EReal)) = _
    rw [show (1 : EReal) + ((Real.exp (-(max a (-a))) : ℝ) : EReal) = ((1 + Real.exp (-(max a (-a))) : ℝ) : EReal) from
      (EReal.coe_add 1 _).symm]
    show (if (1 + Real.exp (-(max a (-a)))) ≤ 0 then ⊥ else ((Real.log (1 + Real.exp (-(max a (-a)))) : ℝ) : EReal)) = _
    rw [if_neg (by have := Real.exp_pos (-(max a (-a))); linarith)]
  unfold sp
  rw [e1, e2, show (0 : EReal) = ((0 : ℝ) : EReal) from rfl, coe_max, ← EReal.coe_add]

theorem fin_sp {x : EReal} (hx : Fin' x) : Fin' (sp x) := by
  obtain ⟨a, rfl⟩ := hx; exact ⟨_, sp_coe a⟩

/-- `-softplus(-z)` is `z - softplus(z)` for a real `z`. -/
theorem neg_sp_neg {x : EReal} (hx : Fin' x) : -(sp (-x)) = x - sp x := by
  obtain ⟨a, rfl⟩ := hx
  rw [← EReal.coe_neg, sp_coe, sp_coe, ← EReal.coe_neg, ← EReal.coe_sub, neg_neg, max_comm (-a) a]
  congr 1
  rcases le_total a 0 with h | h
  · rw [max_eq_left (by linarith : (0 : ℝ) ≤ -a), max_eq_right h]; ring
  · rw [max_eq_right (by linarith : -a ≤ (0 : ℝ)), max_eq_left h]; ring

/-! ## Sums over blocks of keys -/

/-- A sum over the 256 places of block `j` is the sum over its key positions. -/
theorem sum_block (j : ℕ) (f : ℕ → EReal) :
    ∑ s : Fin 256, f (j * 256 + s.val) = ∑ t ∈ Finset.Ico (j * 256) ((j + 1) * 256), f t := by
  rw [Finset.sum_Ico_eq_sum_range, show (j + 1) * 256 - j * 256 = 256 by omega]
  exact Fin.sum_univ_eq_sum_range (fun t => f (j * 256 + t)) 256

/-- A block's terms right of place `s`, picked out by a 0/1 factor, sum to the rest of the block. -/
theorem sum_block_after (j : ℕ) (s : Fin 256) (f : ℕ → EReal) :
    ∑ k : Fin 256, f (j * 256 + k.val) * (if s.val < k.val then 1 else 0)
      = ∑ t ∈ Finset.Ico (j * 256 + s.val + 1) ((j + 1) * 256), f t := by
  have hs := s.isLt
  have e := sum_block j fun t => if j * 256 + s.val < t then f t else 0
  refine (Finset.sum_congr rfl fun k _ => ?_).trans (e.trans ?_)
  · by_cases h : s.val < k.val
    · rw [if_pos h, if_pos (by omega), mul_one]
    · rw [if_neg h, if_neg (by omega), mul_zero]
  · rw [← Finset.sum_Ico_consecutive _ (show j * 256 ≤ j * 256 + s.val + 1 by omega)
      (show j * 256 + s.val + 1 ≤ (j + 1) * 256 by omega),
      Finset.sum_eq_zero (fun t ht => if_neg (by have := Finset.mem_Ico.1 ht; omega)), zero_add]
    exact Finset.sum_congr rfl fun t ht => if_pos (by have := Finset.mem_Ico.1 ht; omega)

end Cert.StickBreaking

end
-- ==== Proof.Sb.Block.lean ====
/- Stick-breaking attention, the kernel's payloads at an index, over the extended reals: scores, softplus, log-keep,
   the weighted sum and the carried sum of one block of 256 keys. -/
module

public import proofs.«01_k».proof.Proof.Sb.Run
public import proofs.«01_k».proof.Proof.Sb.Math
public import Idealize.ShloMosaic.Lib.WordCmp
public import Idealize.ShloMosaic.Lib.IdealHost

@[expose] public section

set_option maxRecDepth 16384

noncomputable section

namespace Cert.KernelIdeal.Sb

open Cert.KernelIdeal Cert.KernelIdeal.Gen Cert.StickBreaking Idealize.ShloMosaic.TcCoe Idealize.ShloMosaic.ValueIdx
open Idealize.ShloMosaic hiding ix0 ix1 ix2 ix3

/-- The scale `128 ^ (-1/2)` as both programs hold it. -/
abbrev scale : EReal := Ideal.ofBits .f32 0x3DB504F3#32

theorem fin_scale : Fin' scale := by
  refine ⟨(11863283 : ℝ) * (2 : ℝ) ^ (-27 : ℤ), ?_⟩
  simp [scale, Ideal.ofBits, Ideal.ieee]

/-- The score of query row `r` against key row `s`. -/
def score {n : ℕ} (q : Vec Ideal S256x128 .bf16) (k : Fin n → Fin 128 → EReal) (r : Fin 256) (s : Fin n) : EReal :=
  (∑ d : Fin 128, q (ix2 r d) * k s d) * scale

/-- Rows by columns of two 256-row blocks: the contraction of their 128 columns. -/
theorem dot_nt (a b : FVec Ideal S256x128 .bf16) (r s : Fin 256) :
    matmul dot_S256x128_S256x128_S256x256_1_1_0_0_n_n none a b (constant S256x256 .f32 0x00000000#32) (ix2 r s)
      = ∑ d : Fin 128, a (ix2 r d) * b (ix2 s d) := by
  refine (Ideal.matmul_constant_zero_apply _ none _ _ _).trans ?_
  rw [← Equiv.sum_comp (contrEquiv1 dot_S256x128_S256x128_S256x256_1_1_0_0_n_n 128 rfl rfl).symm]
  refine Finset.sum_congr rfl fun d _ => ?_
  have hv := contrEquiv1_symm_val dot_S256x128_S256x128_S256x256_1_1_0_0_n_n 128 rfl rfl d
  congr 2
  · funext x; refine Fin.ext ?_; match x with | ⟨0, _⟩ => rfl | ⟨1, _⟩ => exact hv
  · funext x; refine Fin.ext ?_; match x with | ⟨0, _⟩ => rfl | ⟨1, _⟩ => exact hv

/-- A 256 × 256 block times a 256 × 256 block. -/
theorem dot_nn (a b : FVec Ideal S256x256 .bf16) (r s : Fin 256) :
    matmul dot_S256x256_S256x256_S256x256_1_0_0_1_n_n none a b (constant S256x256 .f32 0x00000000#32) (ix2 r s)
      = ∑ k : Fin 256, a (ix2 r k) * b (ix2 k s) := by
  refine (Ideal.matmul_constant_zero_apply _ none _ _ _).trans ?_
  rw [← Equiv.sum_comp (contrEquiv1 dot_S256x256_S256x256_S256x256_1_0_0_1_n_n 256 rfl rfl).symm]
  refine Finset.sum_congr rfl fun d _ => ?_
  have hv := contrEquiv1_symm_val dot_S256x256_S256x256_S256x256_1_0_0_1_n_n 256 rfl rfl d
  congr 2
  · funext x; refine Fin.ext ?_; match x with | ⟨0, _⟩ => rfl | ⟨1, _⟩ => exact hv
  · funext x; refine Fin.ext ?_; match x with | ⟨0, _⟩ => exact hv | ⟨1, _⟩ => rfl

/-- A 256 × 256 block times a block of 256 values. -/
theorem dot_nv (a : FVec Ideal S256x256 .bf16) (b : FVec Ideal S256x128 .bf16) (r : Fin 256) (d : Fin 128) :
    matmul dot_S256x256_S256x128_S256x128_1_0_0_1_n_n none a b (constant S256x128 .f32 0x00000000#32) (ix2 r d)
      = ∑ k : Fin 256, a (ix2 r k) * b (ix2 k d) := by
  refine (Ideal.matmul_constant_zero_apply _ none _ _ _).trans ?_
  rw [← Equiv.sum_comp (contrEquiv1 dot_S256x256_S256x128_S256x128_1_0_0_1_n_n 256 rfl rfl).symm]
  refine Finset.sum_congr rfl fun x _ => ?_
  have hv := contrEquiv1_symm_val dot_S256x256_S256x128_S256x128_1_0_0_1_n_n 256 rfl rfl x
  congr 2
  · funext x; refine Fin.ext ?_; match x with | ⟨0, _⟩ => rfl | ⟨1, _⟩ => exact hv
  · funext x; refine Fin.ext ?_; match x with | ⟨0, _⟩ => exact hv | ⟨1, _⟩ => rfl

/-- A column of 256 numbers spread over the columns. -/
theorem spread_apply (x : FVec Ideal S256x1 .f32) (r s : Fin 256) :
    broadcastTo S256x256 x broadcasts_S256x1_S256x256 (ix2 r s) = x (ix2 r 0) :=
  broadcastTo_apply x broadcasts_S256x1_S256x256 (ix2 r s) (ix2 r 0) fun a => by
    match a with
    | ⟨0, _⟩ => rfl
    | ⟨1, _⟩ => rfl

/-- The sum of each row, as a column. -/
theorem rowsum_apply (x : FVec Ideal S256x256 .f32) (r : Fin 256) (u : Fin 1) :
    shapeCast S256x1 (multiReduction .add [1] S256 x 0x00000000#32 reduces_S256x256_S256 (.inl rfl) rfl) shapeCasts_S256_S256x1 (ix2 r u)
      = ∑ s : Fin 256, x (ix2 r s) := by
  refine (shapeCast_apply _ shapeCasts_S256_S256x1 (ix2 r u) (ix1 r) ?_).trans ?_
  · have hu : u.val = 0 := by omega
    rw [Shape.rowMajor_val_one, Shape.rowMajor_val_two]
    show r.val = r.val * 1 + u.val
    omega
  · refine (Ideal.multiReduction_add_single x _ reduces_S256x256_S256 _ _ (ix1 r)).trans ?_
    refine Finset.sum_congr rfl fun s _ => congrArg x ?_
    funext a
    match a with
    | ⟨0, _⟩ => rfl
    | ⟨1, _⟩ => rfl

/-- The keys of one block, row by row. -/
abbrev krow (k : Vec Ideal S256x128 .bf16) : Fin 256 → Fin 128 → EReal := fun s d => k (ix2 s d)

theorem pay3_apply (q k : Vec Ideal S256x128 .bf16) (r s : Fin 256) : k0_pay3 (F := Ideal) q k (ix2 r s) = score q (krow k) r s := by
  unfold k0_pay3 score
  show (matmul (F := Ideal) _ _ _ _ _ _ : EReal) * _ = _
  rw [dot_nt]; rfl

theorem pay4_apply (q k : Vec Ideal S256x128 .bf16) (r s : Fin 256) : k0_pay4 (F := Ideal) q k (ix2 r s) = sp (score q (krow k) r s) := by
  unfold k0_pay4
  show (max (k0_pay3 (F := Ideal) q k (ix2 r s)) (Ideal.ofBits .f32 0x00000000#32)
    + Ideal.log1p (Ideal.exp (Ideal.ofBits .f32 0x00000000#32 - max (k0_pay3 (F := Ideal) q k (ix2 r s)) (-(k0_pay3 (F := Ideal) q k (ix2 r s)))) )) = _
  rw [Ideal.ofBits_zero_f32, pay3_apply]; rfl

theorem pay5_apply (q k : Vec Ideal S256x128 .bf16) (r s : Fin 256) : k0_pay5 (F := Ideal) q k (ix2 r s) = -sp (score q (krow k) r s) := by
  unfold k0_pay5
  show (Ideal.ofBits .f32 0x00000000#32 - k0_pay4 (F := Ideal) q k (ix2 r s)) = _
  rw [Ideal.ofBits_zero_f32, pay4_apply, zero_sub]

/-- The new carry of a left block. -/
theorem pay7_apply (q k : Vec Ideal S256x128 .bf16) (c : FVec Ideal S256x1 .f32) (r : Fin 256) (u : Fin 1) :
    k0_pay7 (F := Ideal) q c k (ix2 r u) = c (ix2 r u) + ∑ s : Fin 256, -sp (score q (krow k) r s) := by
  unfold k0_pay7
  show (c (ix2 r u) + shapeCast S256x1 _ _ (ix2 r u) : EReal) = _
  rw [rowsum_apply]
  exact congrArg (c (ix2 r u) + ·) (Finset.sum_congr rfl fun s _ => pay5_apply q k r s)

theorem pay14_eq (t : Vec Ideal S256x256 .bf16) : k0_pay14 (F := Ideal) t = t := by
  unfold k0_pay14; exact shapeCast_self _ _

/-- What the suffix sums need of the table of ones below the diagonal. -/
def IsTri (t : Vec Ideal S256x256 .bf16) : Prop := ∀ k s : Fin 256, t (ix2 k s) = (if s.val < k.val then (1 : EReal) else 0)

/-- The kernel's two-part suffix sum: for finite terms the low part is zero. -/
theorem suffix_apply (t : Vec Ideal S256x256 .bf16) (ht : IsTri t) (x : FVec Ideal S256x256 .f32) (r s : Fin 256)
    (hx : ∀ k, Fin' (x (ix2 r k))) :
    (∑ k : Fin 256, x (ix2 r k) * t (ix2 k s)) + (∑ k : Fin 256, (x (ix2 r k) - x (ix2 r k)) * t (ix2 k s))
      = ∑ k : Fin 256, x (ix2 r k) * (if s.val < k.val then (1 : EReal) else 0) := by
  rw [Finset.sum_eq_zero (s := Finset.univ) (f := fun k : Fin 256 => (x (ix2 r k) - x (ix2 r k)) * t (ix2 k s))
    (fun k _ => by rw [fin_sub_self (hx k), zero_mul]), add_zero]
  exact Finset.sum_congr rfl fun k _ => by rw [ht]

/-- The new accumulator of a left block. -/
theorem pay6_apply (q k v : Vec Ideal S256x128 .bf16) (t : Vec Ideal S256x256 .bf16) (ht : IsTri t) (c : FVec Ideal S256x1 .f32) (a : FVec Ideal S256x128 .f32)
    (r : Fin 256) (d : Fin 128) (hz : ∀ s, Fin' (score q (krow k) r s)) :
    k0_pay6 (F := Ideal) q (k0_pay14 t) c a k v (ix2 r d) = a (ix2 r d)
      + ∑ s : Fin 256, Ideal.exp ((score q (krow k) r s - sp (score q (krow k) r s))
          + ((∑ j : Fin 256, (-sp (score q (krow k) r j)) * (if s.val < j.val then (1 : EReal) else 0)) + c (ix2 r 0))) * v (ix2 s d) := by
  rw [pay14_eq]
  unfold k0_pay6
  show (a (ix2 r d) + matmul (F := Ideal) _ _ _ _ _ (ix2 r d) : EReal) = _
  rw [dot_nv]
  refine congrArg (a (ix2 r d) + ·) (Finset.sum_congr rfl fun s _ => congrArg (· * v (ix2 s d)) ?_)
  show Ideal.exp ((k0_pay3 (F := Ideal) q k (ix2 r s) - k0_pay4 (F := Ideal) q k (ix2 r s))
    + ((matmul (F := Ideal) _ _ _ _ _ (ix2 r s) + matmul (F := Ideal) _ _ _ _ _ (ix2 r s)) + broadcastTo S256x256 c _ (ix2 r s))) = _
  rw [dot_nn, dot_nn, spread_apply, pay3_apply, pay4_apply]
  have e := suffix_apply t ht (k0_pay5 (F := Ideal) q k) r s (fun j => by rw [pay5_apply]; exact fin_neg (fin_sp (hz j)))
  have e' : (∑ x : Fin 256, k0_pay5 (F := Ideal) q k (ix2 r x) * (if s.val < x.val then (1 : EReal) else 0))
      = ∑ j : Fin 256, (-sp (score q (krow k) r j)) * (if s.val < j.val then (1 : EReal) else 0) :=
    Finset.sum_congr rfl fun j _ => by rw [pay5_apply]
  exact congrArg (fun y => Ideal.exp ((score q (krow k) r s - sp (score q (krow k) r s)) + (y + c (ix2 r 0)))) (e.trans e')

/-! ## The diagonal block -/

/-- The mask of the diagonal block: column before row. -/
theorem pay15_apply {α : Type} (r s : Fin 256) (a b : α) :
    Scalar.select (k0_pay15 (ix2 r s)) a b = if s.val < r.val then a else b := by
  have e : k0_pay15 (ix2 r s) = BitVec.ofBool (decide (s.val < r.val)) := by
    unfold k0_pay15
    show IntOp.cmpi .slt (iota .tc S256x256 32 [1] _ (ix2 r s)) (iota .tc S256x256 32 [0] _ (ix2 r s)) = _
    rw [iota_single_apply, iota_single_apply]
    exact WordCmp.cmpi_slt_ofNat (by have := s.isLt; show s.val < _; omega) (by have := r.isLt; show r.val < _; omega)
  rw [e]
  by_cases h : s.val < r.val
  · rw [if_pos h, decide_eq_true h]; rfl
  · rw [if_neg h, decide_eq_false h]; rfl

theorem pay18_eq (q k : Vec Ideal S256x128 .bf16) : k0_pay18 (F := Ideal) q k = k0_pay3 q k := rfl

theorem pay19_eq (q k : Vec Ideal S256x128 .bf16) : k0_pay19 (F := Ideal) q k = k0_pay4 q k := rfl

/-- Log-keep on the diagonal block, zero at keys not before the query. -/
theorem pay20_apply (q k : Vec Ideal S256x128 .bf16) (r s : Fin 256) :
    k0_pay20 (F := Ideal) q k (ix2 r s) = if s.val < r.val then -sp (score q (krow k) r s) else 0 := by
  unfold k0_pay20
  show Scalar.select (k0_pay15 (ix2 r s)) (k0_pay5 (F := Ideal) q k (ix2 r s)) (Ideal.ofBits .f32 0x00000000#32) = _
  rw [pay15_apply, Ideal.ofBits_zero_f32, pay5_apply]

/-- The carry after the diagonal block. -/
theorem pay2_apply (q k : Vec Ideal S256x128 .bf16) (r : Fin 256) (u : Fin 1) :
    k0_pay2 (F := Ideal) k0_pay16 (k0_pay20 q k) (ix2 r u)
      = ∑ s : Fin 256, if s.val < r.val then -sp (score q (krow k) r s) else 0 := by
  unfold k0_pay2
  show (Ideal.ofBits .f32 0x00000000#32 + shapeCast S256x1 _ _ (ix2 r u) : EReal) = _
  rw [rowsum_apply, Ideal.ofBits_zero_f32, zero_add]
  exact Finset.sum_congr rfl fun s _ => pay20_apply q k r s

/-- The accumulator after the diagonal block. -/
theorem pay1_apply (q k v : Vec Ideal S256x128 .bf16) (t : Vec Ideal S256x256 .bf16) (ht : IsTri t)
    (r : Fin 256) (d : Fin 128) (hz : ∀ s, Fin' (score q (krow k) r s)) :
    k0_pay1 (F := Ideal) k0_pay15 k0_pay17 v (k0_pay21 q t k) (ix2 r d)
      = ∑ s : Fin 256, (if s.val < r.val then Ideal.exp ((score q (krow k) r s - sp (score q (krow k) r s))
          + (∑ j : Fin 256, (if j.val < r.val then -sp (score q (krow k) r j) else 0) * (if s.val < j.val then (1 : EReal) else 0))) else 0) * v (ix2 s d) := by
  unfold k0_pay1
  show (Ideal.ofBits .f32 0x00000000#32 + matmul (F := Ideal) _ _ _ _ _ (ix2 r d) : EReal) = _
  rw [dot_nv, Ideal.ofBits_zero_f32, zero_add]
  refine Finset.sum_congr rfl fun s _ => congrArg (· * v (ix2 s d)) ?_
  show Scalar.select (k0_pay15 (ix2 r s)) (k0_pay21 (F := Ideal) q t k (ix2 r s)) (Ideal.ofBits .f32 0x00000000#32) = _
  rw [pay15_apply, Ideal.ofBits_zero_f32]
  by_cases h : s.val < r.val
  swap
  · rw [if_neg h, if_neg h]
  rw [if_pos h, if_pos h]
  unfold k0_pay21
  rw [pay14_eq, pay18_eq, pay19_eq]
  show Ideal.exp ((k0_pay3 (F := Ideal) q k (ix2 r s) - k0_pay4 (F := Ideal) q k (ix2 r s))
    + ((matmul (F := Ideal) _ _ _ _ _ (ix2 r s) + matmul (F := Ideal) _ _ _ _ _ (ix2 r s)) + broadcastTo S256x256 (k0_pay16 (F := Ideal)) _ (ix2 r s))) = _
  rw [dot_nn, dot_nn, spread_apply, pay3_apply, pay4_apply]
  have e := suffix_apply t ht (k0_pay20 (F := Ideal) q k) r s (fun j => by
    rw [pay20_apply]; split
    · exact fin_neg (fin_sp (hz j))
    · exact fin_zero)
  have e' : (∑ x : Fin 256, k0_pay20 (F := Ideal) q k (ix2 r x) * (if s.val < x.val then (1 : EReal) else 0))
      = ∑ j : Fin 256, (if j.val < r.val then -sp (score q (krow k) r j) else 0) * (if s.val < j.val then (1 : EReal) else 0) :=
    Finset.sum_congr rfl fun j _ => by rw [pay20_apply]
  have e0 : (k0_pay16 (F := Ideal) (ix2 r 0) : EReal) = 0 := by
    show Ideal.ofBits .f32 0x00000000#32 = 0
    exact Ideal.ofBits_zero_f32
  rw [e0, add_zero]
  exact congrArg (fun y => Ideal.exp ((score q (krow k) r s - sp (score q (krow k) r s)) + y)) (e.trans e')

end Cert.KernelIdeal.Sb

end
-- ==== Proof.Sb.State.lean ====
/- Stick-breaking attention, the loop in closed form: after the diagonal block and `k` blocks to its left the carry is
   the sum of log-keep over the keys visited, and the accumulator the weighted sum of their values. -/
module

public import proofs.«01_k».proof.Proof.Sb.Block

@[expose] public section

set_option maxRecDepth 16384

noncomputable section

namespace Cert.KernelIdeal.Sb

open Cert.KernelIdeal Cert.KernelIdeal.Gen Cert.StickBreaking Idealize.ShloMosaic.TcCoe Idealize.ShloMosaic.ValueIdx
open Idealize.ShloMosaic hiding ix0 ix1 ix2 ix3

/-- The log-keep of key `s` for a query at position `p` with scores `Z`: `-softplus` before the query, zero elsewhere. -/
def keep (Z : ℕ → EReal) (p s : ℕ) : EReal := if s < p then -sp (Z s) else 0

/-- The weight of key `s`: the sigmoid of its score times the kept stick between it and the query, in logarithms, `n`
    bounding the positions. -/
def weight (Z : ℕ → EReal) (p n s : ℕ) : EReal :=
  if s < p then Ideal.exp ((Z s - sp (Z s)) + ∑ t ∈ Finset.Ico (s + 1) n, keep Z p t) else 0

/-- Where the sum of the later log-keeps ends does not matter past the query. -/
theorem weight_end (Z : ℕ → EReal) (p n n' s : ℕ) (hn : p ≤ n) (hn' : n ≤ n') : weight Z p n s = weight Z p n' s := by
  unfold weight
  by_cases h : s < p
  · have e : ∑ t ∈ Finset.Ico n n', keep Z p t = 0 :=
      Finset.sum_eq_zero fun t ht => if_neg (by have := Finset.mem_Ico.1 ht; omega)
    rw [if_pos h, if_pos h, ← Finset.sum_Ico_consecutive _ (show s + 1 ≤ n by omega) hn', e, add_zero]
  · rw [if_neg h, if_neg h]

/-- The score of query row `r` of a block against the key at position `t`. -/
def scoreAt (q : Vec Ideal S256x128 .bf16) (x1 : Vec Ideal S8192x128 .bf16) (r : Fin 256) (t : ℕ) : EReal :=
  (∑ d : Fin 128, q (ix2 r d) * x1 (ix2 ⟨t % 8192, Nat.mod_lt _ (by omega)⟩ d)) * scale

/-- The value at position `t`, column `d`. -/
def valueAt (x2 : Vec Ideal S8192x128 .bf16) (d : Fin 128) (t : ℕ) : EReal := x2 (ix2 ⟨t % 8192, Nat.mod_lt _ (by omega)⟩ d)

theorem score_rows (q : Vec Ideal S256x128 .bf16) (x1 : Vec Ideal S8192x128 .bf16) (b : ℕ) (r s : Fin 256) :
    score q (krow (rows x1 b)) r s = scoreAt q x1 r (b * 256 + s.val) := rfl

theorem fin_scoreAt (q : Vec Ideal S256x128 .bf16) (x1 : Vec Ideal S8192x128 .bf16) (r : Fin 256) (t : ℕ)
    (hq : ∀ j, Fin' (q j)) (hk : ∀ j, Fin' (x1 j)) : Fin' (scoreAt q x1 r t) :=
  fin_mul (fin_sum _ _ fun d _ => fin_mul (hq _) (hk _)) fin_scale

/-- The closed form. -/
theorem state_eq (q : Vec Ideal S256x128 .bf16) (tri : Vec Ideal S256x256 .bf16) (ht : IsTri tri) (x1 x2 : Vec Ideal S8192x128 .bf16)
    (hq : ∀ j, Fin' (q j)) (hk : ∀ j, Fin' (x1 j)) (b k : ℕ) (hkb : k ≤ b) (r : Fin 256) :
    ((state q tri x1 x2 b k).1 (ix2 r 0)
        = ∑ t ∈ Finset.Ico ((b - k) * 256) ((b + 1) * 256), keep (scoreAt q x1 r) (b * 256 + r.val) t)
      ∧ ∀ d : Fin 128, (state q tri x1 x2 b k).2 (ix2 r d)
        = ∑ t ∈ Finset.Ico ((b - k) * 256) ((b + 1) * 256),
            weight (scoreAt q x1 r) (b * 256 + r.val) ((b + 1) * 256) t * valueAt x2 d t := by
  have hr := r.isLt
  have hfin := fun t => fin_scoreAt q x1 r t hq hk
  induction k with
  | zero =>
    rw [Nat.sub_zero]
    refine ⟨?_, fun d => ?_⟩
    · refine (pay2_apply q (rows x1 b) r 0).trans ?_
      rw [← sum_block b]
      refine Finset.sum_congr rfl fun s _ => ?_
      unfold keep
      by_cases h : s.val < r.val
      · rw [if_pos h, if_pos (by omega)]; rfl
      · rw [if_neg h, if_neg (by omega)]
    · refine (pay1_apply q (rows x1 b) (rows x2 b) tri ht r d fun s => hfin _).trans ?_
      rw [← sum_block b]
      refine Finset.sum_congr rfl fun s _ => ?_
      refine congrArg₂ (· * ·) ?_ rfl
      unfold weight
      by_cases h : s.val < r.val
      · rw [if_pos h, if_pos (by omega), ← sum_block_after b s]
        refine congrArg (fun y => Ideal.exp ((scoreAt q x1 r (b * 256 + s.val) - sp (scoreAt q x1 r (b * 256 + s.val))) + y)) ?_
        refine Finset.sum_congr rfl fun j _ => congrArg (· * _) ?_
        unfold keep
        by_cases h' : j.val < r.val
        · rw [if_pos h', if_pos (by omega)]; rfl
        · rw [if_neg h', if_neg (by omega)]
      · rw [if_neg h, if_neg (by omega)]
  | succ k ih =>
    obtain ⟨ih1, ih2⟩ := ih (by omega)
    have hj : b - k = b - 1 - k + 1 := by omega
    have hj' : b - (k + 1) = b - 1 - k := by omega
    have hlt : (b - 1 - k) * 256 ≤ (b - 1 - k + 1) * 256 := by omega
    have hle : (b - 1 - k + 1) * 256 ≤ (b + 1) * 256 := by omega
    rw [hj] at ih1 ih2
    rw [hj', ← Finset.sum_Ico_consecutive _ hlt hle]
    refine ⟨?_, fun d => ?_⟩
    · refine (pay7_apply q (rows x1 (b - 1 - k)) _ r 0).trans ?_
      rw [ih1, add_comm, ← sum_block (b - 1 - k)]
      refine congrArg (· + _) (Finset.sum_congr rfl fun s _ => ?_)
      unfold keep
      rw [if_pos (by have := s.isLt; omega)]; rfl
    · refine (pay6_apply q (rows x1 (b - 1 - k)) (rows x2 (b - 1 - k)) tri ht _ _ r d fun s => hfin _).trans ?_
      rw [ih1, ih2 d, ← Finset.sum_Ico_consecutive _ hlt hle, add_comm, ← sum_block (b - 1 - k)]
      refine congrArg (· + _) (Finset.sum_congr rfl fun s _ => congrArg₂ (· * ·) ?_ rfl)
      have hs := s.isLt
      unfold weight
      rw [if_pos (by omega), ← Finset.sum_Ico_consecutive _ (show (b - 1 - k) * 256 + s.val + 1 ≤ (b - 1 - k + 1) * 256 by omega) hle,
        ← sum_block_after (b - 1 - k) s]
      refine congrArg (fun y => Ideal.exp ((scoreAt q x1 r ((b - 1 - k) * 256 + s.val) - sp (scoreAt q x1 r ((b - 1 - k) * 256 + s.val))) + (y + _))) ?_
      refine Finset.sum_congr rfl fun j _ => congrArg (· * _) ?_
      unfold keep
      rw [if_pos (by have := j.isLt; omega)]; rfl

/-- The block's result: every query's weighted sum over all 8192 positions. -/
theorem state_final (q : Vec Ideal S256x128 .bf16) (tri : Vec Ideal S256x256 .bf16) (ht : IsTri tri) (x1 x2 : Vec Ideal S8192x128 .bf16)
    (hq : ∀ j, Fin' (q j)) (hk : ∀ j, Fin' (x1 j)) (b : ℕ) (hb : b < 32) (r : Fin 256) (d : Fin 128) :
    (state q tri x1 x2 b b).2 (ix2 r d)
      = ∑ t : Fin 8192, weight (scoreAt q x1 r) (b * 256 + r.val) 8192 t.val * valueAt x2 d t.val := by
  have hr := r.isLt
  rw [((state_eq q tri ht x1 x2 hq hk b b le_rfl r).2 d),
    Fin.sum_univ_eq_sum_range (fun t => weight (scoreAt q x1 r) (b * 256 + r.val) 8192 t * valueAt x2 d t) 8192,
    Finset.range_eq_Ico, ← Finset.sum_Ico_consecutive _ (show 0 ≤ (b + 1) * 256 by omega) (show (b + 1) * 256 ≤ 8192 by omega),
    Finset.sum_eq_zero (s := Finset.Ico ((b + 1) * 256) 8192) (fun t ht => by
      unfold weight; rw [if_neg (by have := Finset.mem_Ico.1 ht; omega), zero_mul]), add_zero, Nat.sub_self, Nat.zero_mul]
  exact Finset.sum_congr rfl fun t _ => by rw [weight_end _ _ _ 8192 _ (by omega) (by omega)]

end Cert.KernelIdeal.Sb

end
-- ==== Proof.Sb.Ref.lean ====
/- Stick-breaking attention, the reference's side: the program's stages read at an index, ending in the same weighted
   sum over all 8192 positions as the kernel's. -/
module

public import proofs.«01_k».proof.Proof.Sb.State
public import proofs.«01_k».proof.Proof.Gen.ReferenceIdeal.Read

@[expose] public section

set_option maxRecDepth 16384

noncomputable section

namespace Cert.ReferenceIdeal.Sb

open Cert.ReferenceIdeal Cert.ReferenceIdeal.Gen Cert.ReferenceIdeal.Read Cert.StickBreaking Idealize.ShloMosaic.TcCoe Idealize.ShloMosaic.ValueIdx
open Idealize.ShloMosaic hiding ix0 ix1 ix2 ix3
open Cert.KernelIdeal.Sb (keep weight scale fin_scale)

/-- A left fold that adds is the starting value plus the sum. -/
theorem foldl_add {n : ℕ} (g : Fin n → EReal) (v : EReal) :
    (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- The window of the running sum: one place on the two outer axes, 8192 on the last. -/
abbrev Win : Shape := ⟨3, ![1, 1, 8192]⟩

/-- A place in that window is its last coordinate. -/
def winEquiv : Fin 8192 ≃ Win.Idx where
  toFun k := ix3 (0 : Fin 1) (0 : Fin 1) k
  invFun i := i 2
  left_inv _ := rfl
  right_inv i := by
    have h0 : (i 0).val < 1 := (i 0).isLt
    have h1 : (i 1).val < 1 := (i 1).isLt
    funext a
    refine Fin.ext ?_
    match a with
    | ⟨0, _⟩ => show 0 = (i 0).val; omega
    | ⟨1, _⟩ => show 0 = (i 1).val; omega
    | ⟨2, _⟩ => rfl

/-- The reversed running sum along the last axis: the operand's elements from `t` on. -/
theorem revsum_apply (x : S16x8192x8192.Idx → EReal) (f : ℕ → EReal) (h : Fin 16) (p t : Fin 8192)
    (hx : ∀ s : Fin 8192, x (ix3 h p s) = f s.val)
    (hw : S16x8192x8192.ReduceWindows ![1, 1, 8192] ![1, 1, 1] ![0, 0, 0] ![0, 0, 8191] S16x8192x8192) :
    Ideal.hostReduceWindowAdd ![1, 1, 8192] ![1, 1, 1] ![0, 0, 0] ![0, 0, 8191] hw x 0 (ix3 h p t)
      = ∑ s ∈ Finset.Ico t.val 8192, f s := by
  have ht := t.isLt
  unfold Ideal.hostReduceWindowAdd Host.reduceWindow
  dsimp only
  refine (foldl_add _ _).trans ?_
  rw [zero_add]
  refine (Finset.sum_congr rfl fun n _ => ?_).trans ((Equiv.sum_comp Win.rowMajor.symm fun w : Win.Idx =>
    if t.val + (w 2).val < 8192 then f (t.val + (w 2).val) else (0 : EReal)).trans
      (Equiv.sum_comp winEquiv fun w : Win.Idx => if t.val + (w 2).val < 8192 then f (t.val + (w 2).val) else (0 : EReal)).symm) |>.trans ?_
  · have hh := h.isLt
    have hp := p.isLt
    show _ = if t.val + (Win.rowMajor.symm n 2).val < 8192 then f (t.val + (Win.rowMajor.symm n 2).val) else (0 : EReal)
    have w0 : (Win.rowMajor.symm n 0).val < 1 := (Win.rowMajor.symm n 0).isLt
    have w1 : (Win.rowMajor.symm n 1).val < 1 := (Win.rowMajor.symm n 1).isLt
    by_cases hk : t.val + (Win.rowMajor.symm n 2).val < 8192
    · rw [if_pos hk]
      refine (dif_pos ?_).trans ((congrArg x ?_).trans (hx ⟨t.val + (Win.rowMajor.symm n 2).val, hk⟩))
      · intro a
        match a with
        | ⟨0, _⟩ => show 0 ≤ h.val * 1 + (Win.rowMajor.symm n 0).val ∧ h.val * 1 + (Win.rowMajor.symm n 0).val - 0 < 16; omega
        | ⟨1, _⟩ => show 0 ≤ p.val * 1 + (Win.rowMajor.symm n 1).val ∧ p.val * 1 + (Win.rowMajor.symm n 1).val - 0 < 8192; omega
        | ⟨2, _⟩ => show 0 ≤ t.val * 1 + (Win.rowMajor.symm n 2).val ∧ t.val * 1 + (Win.rowMajor.symm n 2).val - 0 < 8192; omega
      · funext a
        refine Fin.ext ?_
        match a with
        | ⟨0, _⟩ => show h.val * 1 + (Win.rowMajor.symm n 0).val - 0 = h.val; omega
        | ⟨1, _⟩ => show p.val * 1 + (Win.rowMajor.symm n 1).val - 0 = p.val; omega
        | ⟨2, _⟩ => show t.val * 1 + (Win.rowMajor.symm n 2).val - 0 = t.val + (Win.rowMajor.symm n 2).val; omega
    · rw [if_neg hk]
      refine dif_neg fun hin => hk ?_
      have e2 : t.val * 1 + (Win.rowMajor.symm n 2).val - 0 < 8192 := (hin (2 : Fin 3)).2
      omega
  show (∑ k : Fin 8192, if t.val + k.val < 8192 then f (t.val + k.val) else (0 : EReal)) = _
  rw [Fin.sum_univ_eq_sum_range (fun k => if t.val + k < 8192 then f (t.val + k) else 0) 8192,
    Finset.sum_Ico_eq_sum_range, ← Finset.sum_range_add_sum_Ico (fun k => if t.val + k < 8192 then f (t.val + k) else 0) (show 8192 - t.val ≤ 8192 by omega),
    Finset.sum_eq_zero (s := Finset.Ico (8192 - t.val) 8192) (fun k hk => if_neg (by have := Finset.mem_Ico.1 hk; omega)), add_zero]
  exact Finset.sum_congr rfl fun k hk => if_pos (by have := Finset.mem_range.1 hk; omega)

variable (x0 : (⟨S8192x6144, .bf16⟩ : BufTy).Contents (Elt Ideal))

/-- Head `h`'s query at position `p`, column `d`; its key; its value. -/
abbrev qry (h : Fin 16) (p : Fin 8192) (d : Fin 128) : EReal := x0 (ix2 p ⟨h.val * 128 + d.val, by omega⟩)
abbrev key (h : Fin 16) (p : Fin 8192) (d : Fin 128) : EReal := x0 (ix2 p ⟨(16 + h.val) * 128 + d.val, by omega⟩)
abbrev vlu (h : Fin 16) (p : Fin 8192) (d : Fin 128) : EReal := x0 (ix2 p ⟨(32 + h.val) * 128 + d.val, by omega⟩)

/-- The score of the query at `p` against the key at position `t`. -/
def Z (h : Fin 16) (p : Fin 8192) (t : ℕ) : EReal :=
  (∑ d : Fin 128, qry x0 h p d * key x0 h ⟨t % 8192, Nat.mod_lt _ (by omega)⟩ d) * scale

theorem q_apply (h : Fin 16) (p : Fin 8192) (d : Fin 128) : val_main_v3 (F := Ideal) x0 (ix3 p h d) = qry x0 h p d := by
  rw [val_main_v3_apply, val_main_v2_apply, val_main_v1_apply]
  refine congrArg x0 (funext fun a => Fin.ext ?_)
  have := h.isLt; have := p.isLt; have := d.isLt
  match a with
  | ⟨0, _⟩ =>
    show ((((((p.val * 16 + h.val) * 128 + d.val) / 2048) * 3 + 0) * 16 + ((p.val * 16 + h.val) * 128 + d.val) / 128 % 16) * 128 + ((p.val * 16 + h.val) * 128 + d.val) % 128) / 6144 = p.val
    omega
  | ⟨1, _⟩ =>
    show ((((((p.val * 16 + h.val) * 128 + d.val) / 2048) * 3 + 0) * 16 + ((p.val * 16 + h.val) * 128 + d.val) / 128 % 16) * 128 + ((p.val * 16 + h.val) * 128 + d.val) % 128) % 6144 = h.val * 128 + d.val
    omega

theorem k_apply (h : Fin 16) (p : Fin 8192) (d : Fin 128) : val_main_v5 (F := Ideal) x0 (ix3 p h d) = key x0 h p d := by
  rw [val_main_v5_apply, val_main_v4_apply, val_main_v1_apply]
  refine congrArg x0 (funext fun a => Fin.ext ?_)
  have := h.isLt; have := p.isLt; have := d.isLt
  match a with
  | ⟨0, _⟩ =>
    show ((((((p.val * 16 + h.val) * 128 + d.val) / 2048) * 3 + (1 + 0)) * 16 + ((p.val * 16 + h.val) * 128 + d.val) / 128 % 16) * 128 + ((p.val * 16 + h.val) * 128 + d.val) % 128) / 6144 = p.val
    omega
  | ⟨1, _⟩ =>
    show ((((((p.val * 16 + h.val) * 128 + d.val) / 2048) * 3 + (1 + 0)) * 16 + ((p.val * 16 + h.val) * 128 + d.val) / 128 % 16) * 128 + ((p.val * 16 + h.val) * 128 + d.val) % 128) % 6144 = (16 + h.val) * 128 + d.val
    omega

theorem v_apply (h : Fin 16) (p : Fin 8192) (d : Fin 128) : val_main_v7 (F := Ideal) x0 (ix3 p h d) = vlu x0 h p d := by
  rw [val_main_v7_apply, val_main_v6_apply, val_main_v1_apply]
  refine congrArg x0 (funext fun a => Fin.ext ?_)
  have := h.isLt; have := p.isLt; have := d.isLt
  match a with
  | ⟨0, _⟩ =>
    show ((((((p.val * 16 + h.val) * 128 + d.val) / 2048) * 3 + (2 + 0)) * 16 + ((p.val * 16 + h.val) * 128 + d.val) / 128 % 16) * 128 + ((p.val * 16 + h.val) * 128 + d.val) % 128) / 6144 = p.val
    omega
  | ⟨1, _⟩ =>
    show ((((((p.val * 16 + h.val) * 128 + d.val) / 2048) * 3 + (2 + 0)) * 16 + ((p.val * 16 + h.val) * 128 + d.val) / 128 % 16) * 128 + ((p.val * 16 + h.val) * 128 + d.val) % 128) % 6144 = (32 + h.val) * 128 + d.val
    omega

/-- The scores. -/
theorem z_apply (h : Fin 16) (p t : Fin 8192) : val_main_v11 (F := Ideal) x0 (ix3 h p t) = Z x0 h p t.val := by
  rw [val_main_v11_apply, val_main_v9_apply]
  unfold Z
  show (_ * Ideal.ofBits .f32 0x3DB504F3#32 : EReal) = _
  refine congrArg (· * scale) (Finset.sum_congr rfl fun d _ => ?_)
  have el : lidx_main_v9 (ix3 h p t) d = ix3 p h d := funext fun a => by
    match a with | ⟨0, _⟩ => rfl | ⟨1, _⟩ => rfl | ⟨2, _⟩ => rfl
  have er : ridx_main_v9 (ix3 h p t) d = ix3 t h d := funext fun a => by
    match a with | ⟨0, _⟩ => rfl | ⟨1, _⟩ => rfl | ⟨2, _⟩ => rfl
  rw [el, er, q_apply, k_apply]
  refine congrArg (qry x0 h p d * ·) (congrArg (fun s => key x0 h s d) (Fin.ext ?_))
  exact (Nat.mod_eq_of_lt t.isLt).symm

/-- The mask: key position before query position. -/
theorem mask_apply {α : Type} (p t : Fin 8192) (a b : α) :
    Scalar.select (val_main_v16 (F := Ideal) (ix2 p t)) a b = if t.val < p.val then a else b := by
  have e : val_main_v16 (F := Ideal) (ix2 p t) = BitVec.ofBool (decide (t.val < p.val)) := by
    rw [val_main_v16_apply, val_main_v14_apply, val_main_v15_apply, val_main_v12_apply, val_main_v13_apply,
      val_main_v8_apply, val_main_v8_apply]
    exact WordCmp.cmpi_slt_ofNat (by have := t.isLt; show t.val < _; omega) (by have := p.isLt; show p.val < _; omega)
  rw [e]
  by_cases h : t.val < p.val
  · rw [if_pos h, decide_eq_true h]; rfl
  · rw [if_neg h, decide_eq_false h]; rfl

/-- The reference's softplus, `logaddexp(x, 0)` with its not-a-number case, is the plain one. -/
theorem softplus_apply (x : EReal) :
    Scalar.select (Ideal.cmp .une (x - 0) (x - 0)) (x + 0) (max x 0 + Ideal.log1p (Ideal.exp (-(max (x - 0) (-(x - 0)))))) = sp x := by
  have e : Ideal.cmp .une (x - 0) (x - 0) = 0#1 := by simp [Ideal.cmp]
  rw [e, select_zero, sub_zero]
  unfold sp
  rw [zero_sub]

theorem ls_neg_apply (h : Fin 16) (p t : Fin 8192) : val_main_v18 (F := Ideal) x0 (ix3 h p t) = -sp (Z x0 h p t.val) := by
  rw [← z_apply, ← neg_neg (val_main_v11 (F := Ideal) x0 (ix3 h p t)), ← softplus_apply]
  have e : (0 : EReal) = Ideal.ofBits .f32 0x00000000#32 := Ideal.ofBits_zero_f32.symm
  rw [e]
  rfl

theorem ls_apply (h : Fin 16) (p t : Fin 8192) : val_main_v22 (F := Ideal) x0 (ix3 h p t) = -sp (-(Z x0 h p t.val)) := by
  rw [← z_apply, ← softplus_apply]
  have e : (0 : EReal) = Ideal.ofBits .f32 0x00000000#32 := Ideal.ofBits_zero_f32.symm
  rw [e]
  rfl

/-- The masked log-keep. -/
theorem keep_apply (h : Fin 16) (p t : Fin 8192) :
    val_main_v19 (F := Ideal) x0 (ix3 h p t) = keep (Z x0 h p) p.val t.val := by
  show Scalar.select (val_main_call1_v1 (F := Ideal) (ix3 h p t)) (val_main_v18 (F := Ideal) x0 (ix3 h p t)) (val_main_call1_v2 (F := Ideal) (ix3 h p t)) = _
  rw [val_main_call1_v1_apply, ls_neg_apply]
  have ei : idx_main_call1_v1 (ix3 h p t) = ix2 p t := funext fun a => by match a with | ⟨0, _⟩ => rfl | ⟨1, _⟩ => rfl
  rw [ei, mask_apply]
  unfold keep
  refine congrArg (fun y => if t.val < p.val then -sp (Z x0 h p t.val) else y) ?_
  exact Ideal.ofBits_zero_f32

/-- The stick kept after key `t`: the running sum from `t` on less the term at `t`. -/
theorem stick_apply (h : Fin 16) (p t : Fin 8192) (hz : ∀ s, Fin' (Z x0 h p s)) :
    val_main_v21 (F := Ideal) x0 (ix3 h p t) = ∑ s ∈ Finset.Ico (t.val + 1) 8192, keep (Z x0 h p) p.val s := by
  have e20 : val_main_v20 (F := Ideal) x0 (ix3 h p t) = ∑ s ∈ Finset.Ico t.val 8192, keep (Z x0 h p) p.val s := by
    refine Eq.trans ?_ (revsum_apply (val_main_v19 (F := Ideal) x0) (keep (Z x0 h p) p.val) h p t (fun s => keep_apply x0 h p s)
      reduceWindows_S16x8192x8192_S16x8192x8192_w1s1p0_0_w1s1p0_0_w8192s1p0_8191)
    unfold val_main_v20 Host.reduceWindowAdd
    rw [Ideal.hostReduceWindowAdd_def]
    refine congrArg (fun y => Ideal.hostReduceWindowAdd _ _ _ _ _ _ y (ix3 h p t)) ?_
    rw [val_main_call2_v0_apply]
    exact Ideal.ofBits_zero_f32
  show (val_main_v20 (F := Ideal) x0 (ix3 h p t) - val_main_v19 (F := Ideal) x0 (ix3 h p t) : EReal) = _
  rw [e20, keep_apply, Finset.sum_eq_sum_Ico_succ_bot t.isLt]
  have fk : ∀ s, Fin' (keep (Z x0 h p) p.val s) := fun s => by
    unfold keep; split
    · exact fin_neg (fin_sp (hz s))
    · exact fin_zero
  exact fin_add_sub_cancel (fk _) (fin_sum _ _ fun s _ => fk s)

/-- The attention weights. -/
theorem w_apply (h : Fin 16) (p t : Fin 8192) (hz : ∀ s, Fin' (Z x0 h p s)) :
    val_main_v25 (F := Ideal) x0 (ix3 h p t) = weight (Z x0 h p) p.val 8192 t.val := by
  show Scalar.select (val_main_call4_v1 (F := Ideal) (ix3 h p t)) (val_main_v24 (F := Ideal) x0 (ix3 h p t)) (val_main_call4_v2 (F := Ideal) (ix3 h p t)) = _
  rw [val_main_call4_v1_apply]
  have ei : idx_main_call4_v1 (ix3 h p t) = ix2 p t := funext fun a => by match a with | ⟨0, _⟩ => rfl | ⟨1, _⟩ => rfl
  rw [ei, mask_apply]
  unfold weight
  have e0 : val_main_call4_v2 (F := Ideal) (ix3 h p t) = (0 : EReal) := Ideal.ofBits_zero_f32
  have e1 : val_main_v24 (F := Ideal) x0 (ix3 h p t)
      = Ideal.exp ((Z x0 h p t.val - sp (Z x0 h p t.val)) + ∑ s ∈ Finset.Ico (t.val + 1) 8192, keep (Z x0 h p) p.val s) := by
    show Ideal.exp (val_main_v22 (F := Ideal) x0 (ix3 h p t) + val_main_v21 (F := Ideal) x0 (ix3 h p t)) = _
    rw [ls_apply, stick_apply x0 h p t hz, neg_sp_neg (hz _)]
  rw [e0, e1]

/-- The result at row `p`, column `128 h + d`. -/
theorem result_apply (h : Fin 16) (p : Fin 8192) (d : Fin 128) (hz : ∀ s, Fin' (Z x0 h p s)) :
    val_main_v29 (F := Ideal) x0 (ix2 p ⟨h.val * 128 + d.val, by omega⟩)
      = ∑ t : Fin 8192, weight (Z x0 h p) p.val 8192 t.val * vlu x0 h t d := by
  show val_main_v28 (F := Ideal) x0 _ = _
  rw [val_main_v28_apply, val_main_v27_apply, val_main_v26_apply]
  have hh := h.isLt; have hp := p.isLt; have hd := d.isLt
  refine Finset.sum_congr rfl fun t _ => ?_
  have el : lidx_main_v26 (idx_main_v27 (idx_main_v28 (ix2 p ⟨h.val * 128 + d.val, by omega⟩))) t = ix3 t h d := funext fun a => Fin.ext (by
    match a with
    | ⟨0, _⟩ => rfl
    | ⟨1, _⟩ => show (p.val * 2048 + (h.val * 128 + d.val)) / 128 % 16 = h.val; omega
    | ⟨2, _⟩ => show (p.val * 2048 + (h.val * 128 + d.val)) % 128 = d.val; omega)
  have er : ridx_main_v26 (idx_main_v27 (idx_main_v28 (ix2 p ⟨h.val * 128 + d.val, by omega⟩))) t = ix3 h p t := funext fun a => Fin.ext (by
    match a with
    | ⟨0, _⟩ => show (p.val * 2048 + (h.val * 128 + d.val)) / 128 % 16 = h.val; omega
    | ⟨1, _⟩ => show (p.val * 2048 + (h.val * 128 + d.val)) / 2048 = p.val; omega
    | ⟨2, _⟩ => rfl)
  rw [el, er, v_apply, w_apply x0 h p t hz, mul_comm]

end Cert.ReferenceIdeal.Sb

end
-- ==== Proof.Sb.Final.lean ====
/- Stick-breaking attention: the kernel's result array after its run is the reference's result, where queries and keys
   are finite. Each grid point writes one block of that array; the blocks tile it. -/
module

public import proofs.«01_k».proof.Proof.Sb.Run
public import proofs.«01_k».proof.Proof.Sb.Ref
public import Idealize.ShloMosaic.Lib.Pipeline.Value

@[expose] public section

set_option maxRecDepth 16384

noncomputable section

namespace Cert.KernelIdeal.Sb

open Cert.KernelIdeal Cert.KernelIdeal.Gen Cert.StickBreaking Idealize.ShloMosaic.TcCoe Idealize.SL.Sem Idealize.ShloMosaic.ValueIdx
open Idealize.ShloMosaic hiding ix0 ix1 ix2 ix3
open Cert.ReferenceIdeal.Sb (qry key vlu Z)

variable (m : (ℓ : Loc nD τ sig) → Buf (Elt Ideal) ℓ) (ρ : Dev nD → PrngReg)

/-- The argument array, as the reference's stages take it. -/
abbrev arg (c : Dev nD) : S8192x6144.Idx → EReal := m ((c : Thread nD τ).loc main_arg0)

/-- Queries and keys finite: the precondition at one device, as a fact about extended reals. -/
def Finite (x : S8192x6144.Idx → EReal) : Prop := ∀ (p : Fin 8192) (j : Fin 6144), j.val < 4096 → Fin' (x (ix2 p j))

/-- The reference's result over the kernel's argument. -/
abbrev G (c : Dev nD) : Buf (Elt Ideal) ((c : Thread nD τ).loc main_v7) :=
  Cert.ReferenceIdeal.Read.val_main_v29 (F := Ideal) (arg m c)

/-- The windows' block indices: the grid runs over heads, then over query blocks. -/
theorem idx : ∀ t : Fin grid0.N,
    (grid0.coords t 1).val = t.val % 32
    ∧ (win0_0.index t 0 = t.val % 32 ∧ win0_0.index t 1 = t.val / 32)
    ∧ (win0_1.index t 0 = 0 ∧ win0_1.index t 1 = 16 + t.val / 32)
    ∧ (win0_2.index t 0 = 0 ∧ win0_2.index t 1 = 32 + t.val / 32)
    ∧ (win0_3.index t 0 = 0 ∧ win0_3.index t 1 = 0)
    ∧ (win0_4.index t 0 = t.val % 32 ∧ win0_4.index t 1 = t.val / 32) := by decide +kernel

theorem lt512 (t : Fin grid0.N) : t.val < 512 := Nat.lt_of_lt_of_eq t.isLt Gen.N_0

/-- The head and the query block of a grid point. -/
abbrev hd (t : Fin grid0.N) : Fin 16 := ⟨t.val / 32, by have := lt512 t; omega⟩
theorem hrow (t : Fin grid0.N) (r : Fin 256) : t.val % 32 * 256 + r.val < 8192 := by have := r.isLt; omega

theorem V_arg (c : Dev nD) : V m c main_arg0 = arg m c := V_main_arg0 m c

/-- The query block. -/
theorem blk0 (c : Dev nD) (t : Fin cfg0.N) (r : Fin 256) (d : Fin 128) :
    (iblk m c 0 t : Vec Ideal S256x128 .bf16) (ix2 r d) = qry (arg m c) (hd t) ⟨t.val % 32 * 256 + r.val, hrow t r⟩ d := by
  have e := idx t
  unfold iblk
  rw [View.read_apply]
  show V m c main_arg0 _ = _
  rw [V_arg]
  refine congrArg (arg m c) (funext fun a => Fin.ext ?_)
  match a with
  | ⟨0, _⟩ => show win0_0.index t 0 * 256 + 1 * r.val = t.val % 32 * 256 + r.val; rw [e.2.1.1]; omega
  | ⟨1, _⟩ => show win0_0.index t 1 * 128 + 1 * d.val = t.val / 32 * 128 + d.val; rw [e.2.1.2]; omega

/-- The head's keys. -/
theorem blk1 (c : Dev nD) (t : Fin cfg0.N) (s : Fin 8192) (d : Fin 128) :
    (iblk m c 1 t : Vec Ideal S8192x128 .bf16) (ix2 s d) = key (arg m c) (hd t) s d := by
  have e := idx t
  unfold iblk
  rw [View.read_apply]
  show V m c main_arg0 _ = _
  rw [V_arg]
  refine congrArg (arg m c) (funext fun a => Fin.ext ?_)
  match a with
  | ⟨0, _⟩ => show win0_1.index t 0 * 8192 + 1 * s.val = s.val; rw [e.2.2.1.1]; omega
  | ⟨1, _⟩ => show win0_1.index t 1 * 128 + 1 * d.val = (16 + t.val / 32) * 128 + d.val; rw [e.2.2.1.2]; omega

/-- The head's values. -/
theorem blk2 (c : Dev nD) (t : Fin cfg0.N) (s : Fin 8192) (d : Fin 128) :
    (iblk m c 2 t : Vec Ideal S8192x128 .bf16) (ix2 s d) = vlu (arg m c) (hd t) s d := by
  have e := idx t
  unfold iblk
  rw [View.read_apply]
  show V m c main_arg0 _ = _
  rw [V_arg]
  refine congrArg (arg m c) (funext fun a => Fin.ext ?_)
  match a with
  | ⟨0, _⟩ => show win0_2.index t 0 * 8192 + 1 * s.val = s.val; rw [e.2.2.2.1.1]; omega
  | ⟨1, _⟩ => show win0_2.index t 1 * 128 + 1 * d.val = (32 + t.val / 32) * 128 + d.val; rw [e.2.2.2.1.2]; omega

/-- The triangle the host makes before the launch. -/
abbrev tri (c : Dev nD) : S256x256.Idx → EReal := V m c main_v6

/-- The triangle at an index. -/
theorem tri_V (c : Dev nD) (k s : Fin 256) :
    tri m c (ix2 k s) = if s.val < k.val then 1 else 0 := by
  have e : tri m c (ix2 k s)
      = FloatOps.uitofp (F := Ideal) .bf16 (IntOp.cmpi .sgt (BitVec.ofNat 32 k.val) (BitVec.ofNat 32 s.val)) := by
    show StableHlo.after hostOps0 _ (Proc.devRef .tc main_v6) _ = _
    after_results
    rfl
  rw [e]
  have e2 : IntOp.cmpi .sgt (BitVec.ofNat 32 k.val) (BitVec.ofNat 32 s.val) = BitVec.ofBool (decide (s.val < k.val)) :=
    WordCmp.cmpi_sgt_ofNat (by have := k.isLt; omega) (by have := s.isLt; omega)
  rw [e2]
  by_cases h : s.val < k.val
  · rw [if_pos h, decide_eq_true h]
    show (((1#1 : BitVec 1).toNat : ℝ) : EReal) = 1
    norm_num
  · rw [if_neg h, decide_eq_false h]
    show (((0#1 : BitVec 1).toNat : ℝ) : EReal) = 0
    norm_num

/-- The triangle's block. -/
theorem blk3 (c : Dev nD) (t : Fin cfg0.N) : IsTri (iblk m c 3 t : Vec Ideal S256x256 .bf16) := by
  intro k s
  have e := idx t
  rw [← tri_V m c k s]
  unfold iblk
  rw [View.read_apply]
  show tri m c _ = _
  refine congrArg (tri m c) (funext fun a => Fin.ext ?_)
  match a with
  | ⟨0, _⟩ => show win0_3.index t 0 * 256 + 1 * k.val = k.val; rw [e.2.2.2.2.1.1]; omega
  | ⟨1, _⟩ => show win0_3.index t 1 * 256 + 1 * s.val = s.val; rw [e.2.2.2.2.1.2]; omega

/-- A score of finite queries and keys is finite. -/
theorem fin_Z (x : S8192x6144.Idx → EReal) (hx : Finite x) (h : Fin 16) (p : Fin 8192) (t : ℕ) : Fin' (Z x h p t) := by
  have hh := h.isLt
  unfold Z
  exact fin_mul (fin_sum _ _ fun d _ => fin_mul (hx _ _ (by have := d.isLt; show h.val * 128 + d.val < 4096; omega))
    (hx _ _ (by have := d.isLt; show (16 + h.val) * 128 + d.val < 4096; omega))) fin_scale

/-- What a grid point writes back is its block of the reference's result. -/
theorem flushed_eq (c : Dev nD) (hx : Finite (arg m c)) (t : Fin cfg0.N) :
    (dats m 0 c).flushed 4 t = (win0_4.blk t).view.read (Elt Ideal) (G m c) := by
  have e := idx t
  have hh : t.val / 32 < 16 := (hd t).isLt
  rw [Value.flushed4_A, out_eq]
  funext j
  obtain ⟨r, d, rfl⟩ : ∃ (r : Fin 256) (d : Fin 128), j = ix2 r d := ⟨j 0, j 1, ValueIdx.eq_ix2 j⟩
  rw [View.read_apply]
  have hG : G m c (((win0_4.blk t).view).emb (ix2 r d))
      = G m c (ix2 ⟨t.val % 32 * 256 + r.val, hrow t r⟩ ⟨(hd t).val * 128 + d.val, by omega⟩) := by
    refine congrArg (G m c) (funext fun a => Fin.ext ?_)
    match a with
    | ⟨0, _⟩ => show win0_4.index t 0 * 256 + 1 * r.val = t.val % 32 * 256 + r.val; rw [e.2.2.2.2.2.1]; omega
    | ⟨1, _⟩ => show win0_4.index t 1 * 128 + 1 * d.val = t.val / 32 * 128 + d.val; rw [e.2.2.2.2.2.2]; omega
  refine Eq.trans ?_ (hG.trans (Cert.ReferenceIdeal.Sb.result_apply (arg m c) (hd t) ⟨t.val % 32 * 256 + r.val, hrow t r⟩ d
    (fin_Z _ hx _ _))).symm
  show (state (iblk m c 0 t : Vec Ideal S256x128 .bf16) (iblk m c 3 t : Vec Ideal S256x256 .bf16) (iblk m c 1 t : Vec Ideal S8192x128 .bf16) (iblk m c 2 t : Vec Ideal S8192x128 .bf16)
    (grid0.coords t 1).val (grid0.coords t 1).val).2 (ix2 r d) = _
  rw [e.1]
  have hs : scoreAt (iblk m c 0 t : Vec Ideal S256x128 .bf16) (iblk m c 1 t : Vec Ideal S8192x128 .bf16) r
      = Z (arg m c) (hd t) ⟨t.val % 32 * 256 + r.val, hrow t r⟩ := by
    funext s
    unfold scoreAt Z
    refine congrArg (· * scale) (Finset.sum_congr rfl fun d _ => ?_)
    rw [blk0 m c t r d, blk1 m c t _ d]
  rw [state_final _ _ (blk3 m c t) _ _ ?_ ?_ (t.val % 32) (by omega) r d, hs]
  · refine Finset.sum_congr rfl fun s _ => ?_
    unfold valueAt
    rw [blk2 m c t _ d]
    have es : (⟨s.val % 8192, Nat.mod_lt _ (by omega)⟩ : Fin 8192) = s := Fin.ext (Nat.mod_eq_of_lt s.isLt)
    rw [es]
  · intro j
    obtain ⟨r, d, rfl⟩ : ∃ (r : Fin 256) (d : Fin 128), j = ix2 r d := ⟨j 0, j 1, ValueIdx.eq_ix2 j⟩
    rw [blk0 m c t r d]
    exact hx _ _ (by show t.val / 32 * 128 + d.val < 4096; omega)
  · intro j
    obtain ⟨s, d, rfl⟩ : ∃ (s : Fin 8192) (d : Fin 128), j = ix2 s d := ⟨j 0, j 1, ValueIdx.eq_ix2 j⟩
    rw [blk1 m c t s d]
    exact hx _ _ (by show (16 + t.val / 32) * 128 + d.val < 4096; omega)

/-- An index of the result array is in point `t`'s block. -/
theorem mem_blk (t : Fin cfg0.N) (i : S8192x2048.Idx) :
    i ∈ ((cfg0.win 4).blk t).view.set ↔ (t.val % 32 * 256 ≤ (i 0).val ∧ (i 0).val < t.val % 32 * 256 + 256)
      ∧ (t.val / 32 * 128 ≤ (i 1).val ∧ (i 1).val < t.val / 32 * 128 + 128) := by
  have e := (idx t).2.2.2.2.2
  show i ∈ ((View.whole main_v7).slice (win0_4.rect t)).set ↔ _
  rw [View.set_slice_whole, Rect.mem_set_unit]
  refine ⟨fun h => ⟨?_, ?_⟩, fun h a => ?_⟩
  · have : win0_4.index t 0 * 256 ≤ (i 0).val ∧ (i 0).val < win0_4.index t 0 * 256 + 256 := h 0
    rw [e.1] at this; exact this
  · have : win0_4.index t 1 * 128 ≤ (i 1).val ∧ (i 1).val < win0_4.index t 1 * 128 + 128 := h 1
    rw [e.2] at this; exact this
  · match a with
    | ⟨0, _⟩ => show win0_4.index t 0 * 256 ≤ (i 0).val ∧ (i 0).val < win0_4.index t 0 * 256 + 256
                rw [e.1]; exact h.1
    | ⟨1, _⟩ => show win0_4.index t 1 * 128 ≤ (i 1).val ∧ (i 1).val < win0_4.index t 1 * 128 + 128
                rw [e.2]; exact h.2

theorem flush_all : ∀ t : Fin grid0.N, win0_4.flush t = true := by decide +kernel

/-- The blocks tile the result array. -/
theorem cover (i : S8192x2048.Idx) :
    ∃ t : Fin cfg0.N, (cfg0.win 4).flush t = true ∧ i ∈ ((cfg0.win 4).blk t).view.set := by
  have h0 : (i 0).val < 8192 := (i 0).isLt
  have h1 : (i 1).val < 2048 := (i 1).isLt
  have hN : cfg0.N = 512 := Gen.N_0
  refine ⟨⟨(i 1).val / 128 * 32 + (i 0).val / 256, by omega⟩, flush_all _, ?_⟩
  rw [mem_blk]
  dsimp only
  omega

/-- The result array after the run is the reference's result. -/
theorem final (c : Dev nD) (hx : Finite (arg m c)) : (dats m 0 c).arrAt 4 cfg0.N = G m c :=
  (dats m 0 c).arrAt_eq_of_cover 4 (G m c) (fun t _ => flushed_eq m c hx t) cover

/-- The run: the result array at the reference's result, the argument unchanged. -/
theorem run (hx : ∀ c, Finite (arg m c)) :
    θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0) :=
  (θ_run defs _ _).mono (fun _ h c => ⟨(h c).1.trans (final m c (hx c)), (h c).2⟩) (Value.run_blocks m ρ)

end Cert.KernelIdeal.Sb

end
-- ==== Proof.Dense.Common.lean ====
/- What the dense layers share: a plain product of two matrices at an index, the root-mean-square normalisation of a
   row, and a long sum cut into equal blocks. Everything is over the extended reals and for any number of rows. -/
module

public import Idealize.ShloMosaic.Lib.IdealHost
public import Idealize.ShloMosaic.Lib.Pipeline.ValueKit

@[expose] public section

set_option maxRecDepth 16384

noncomputable section

namespace Cert.Dense

open Idealize.ShloMosaic.TcCoe Idealize.ShloMosaic.ValueIdx
open Idealize.ShloMosaic hiding ix0 ix1 ix2 ix3

/-- A matrix of `a` rows and `b` columns. -/
abbrev Mat (a b : ℕ) : Shape := ⟨2, ![a, b]⟩

/-- Row `r` of a matrix product: the sum over the shared axis, for any product that contracts the columns of the left
    operand with the rows of the right one and adds onto zero. -/
theorem mm_apply {M K N : ℕ} {φ₁ φ₂ : FTy} (D : DotDims (Mat M K) (Mat K N) (Mat M N))
    (wf : DotDims.WF (Mat M K) (Mat K N) (Mat M N) [1] [0] [0] [1] [] [])
    (hD : D = ⟨[1], [0], [0], [1], [], [], wf⟩) (a : FVec Ideal (Mat M K) φ₁) (b : FVec Ideal (Mat K N) φ₂) (r : Fin M) (s : Fin N) :
    matmul D none a b (constant (Mat M N) .f32 0x00000000#32) (ix2 r s) = ∑ k : Fin K, (a (ix2 r k) : EReal) * b (ix2 k s) := by
  subst hD
  refine (Ideal.matmul_constant_zero_apply _ none _ _ _).trans ?_
  rw [← Equiv.sum_comp (contrEquiv1 (⟨[1], [0], [0], [1], [], [], wf⟩ : DotDims (Mat M K) (Mat K N) (Mat M N)) K rfl rfl).symm]
  refine Finset.sum_congr rfl fun d _ => ?_
  have hv := contrEquiv1_symm_val (⟨[1], [0], [0], [1], [], [], wf⟩ : DotDims (Mat M K) (Mat K N) (Mat M N)) K rfl rfl d
  congr 2
  · funext x; refine Fin.ext ?_; match x with | ⟨0, _⟩ => rfl | ⟨1, _⟩ => exact hv
  · funext x; refine Fin.ext ?_; match x with | ⟨0, _⟩ => exact hv | ⟨1, _⟩ => rfl

/-- One entry of a normalised row: the entry over the root of the row's mean square (kept off zero by a small constant),
    times the gain. -/
def rms (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The sum of each row, as a column. -/
theorem rowsum_apply {M : ℕ} (x : FVec Ideal (Mat M 2048) .f32) (hr : (Mat M 2048).Reduces [1] ⟨1, ![M]⟩)
    (hc : (⟨1, ![M]⟩ : Shape).ShapeCasts (Mat M 1)) (r : Fin M) (u : Fin 1) :
    shapeCast (Mat M 1) (multiReduction .add [1] ⟨1, ![M]⟩ x 0x00000000#32 hr (.inl rfl) rfl) hc (ix2 r u)
      = ∑ s : Fin 2048, (x (ix2 r s) : EReal) := by
  refine (shapeCast_apply _ hc (ix2 r u) (ix1 r) ?_).trans ?_
  · have hu : u.val = 0 := by omega
    rw [Shape.rowMajor_val_one, Shape.rowMajor_val_two]
    show r.val = r.val * 1 + u.val
    omega
  · refine (Ideal.multiReduction_add_single x _ hr _ _ (ix1 r)).trans ?_
    refine Finset.sum_congr rfl fun s _ => congrArg x ?_
    funext a
    match a with
    | ⟨0, _⟩ => rfl
    | ⟨1, _⟩ => rfl

/-- A column spread over the columns of a matrix. -/
theorem spread_col {M : ℕ} (x : FVec Ideal (Mat M 1) .f32) (h : (Mat M 1).Broadcasts (Mat M 2048)) (r : Fin M) (k : Fin 2048) :
    broadcastTo (Mat M 2048) x h (ix2 r k) = x (ix2 r 0) :=
  broadcastTo_apply x h (ix2 r k) (ix2 r 0) fun a => by
    match a with
    | ⟨0, _⟩ =>
      show r.val = if M = 1 then 0 else r.val
      split
      · have := r.isLt; omega
      · rfl
    | ⟨1, _⟩ => rfl

/-- A row spread over the rows of a matrix. -/
theorem spread_row {M : ℕ} (x : FVec Ideal (Mat 1 2048) .f32) (h : (Mat 1 2048).Broadcasts (Mat M 2048)) (r : Fin M) (k : Fin 2048) :
    broadcastTo (Mat M 2048) x h (ix2 r k) = x (ix2 0 k) :=
  broadcastTo_apply x h (ix2 r k) (ix2 0 k) fun a => by
    match a with
    | ⟨0, _⟩ => rfl
    | ⟨1, _⟩ => rfl

/-- The normalisation as the kernels write it, at an index. -/
theorem norm_apply {M : ℕ} (x : FVec Ideal (Mat M 2048) .f32) (g : FVec Ideal (Mat 1 2048) .f32)
    (hr : (Mat M 2048).Reduces [1] ⟨1, ![M]⟩) (hc : (⟨1, ![M]⟩ : Shape).ShapeCasts (Mat M 1)) (h1 : (Mat M 1).Broadcasts (Mat M 2048))
    (h2 : (Mat 1 2048).Broadcasts (Mat M 2048)) (r : Fin M) (k : Fin 2048) :
    mulf (mulf x (broadcastTo (Mat M 2048) (rsqrt (addf (divf (shapeCast (Mat M 1)
        (multiReduction .add [1] ⟨1, ![M]⟩ (mulf x x) 0x00000000#32 hr (.inl rfl) rfl) hc)
        (broadcast (Mat M 1) (Scalar.ofBits .f32 0x45000000#32))) (broadcast (Mat M 1) (Scalar.ofBits .f32 0x358637BD#32)))) h1))
      (broadcastTo (Mat M 2048) g h2) (ix2 r k)
      = rms (fun j => x (ix2 r j)) (fun j => g (ix2 0 j)) k := by
  show (x (ix2 r k) * broadcastTo (Mat M 2048) _ h1 (ix2 r k) * broadcastTo (Mat M 2048) g h2 (ix2 r k) : EReal) = _
  rw [spread_col, spread_row]
  show (x (ix2 r k) * Ideal.rsqrt (Ideal.div (shapeCast (Mat M 1) _ hc (ix2 r 0)) (Ideal.ofBits .f32 0x45000000#32)
    + Ideal.ofBits .f32 0x358637BD#32) * g (ix2 0 k) : EReal) = _
  rw [rowsum_apply]
  rfl

/-- A sum of `a * b` terms is the sum over `a` blocks of the sums over their `b` terms. -/
theorem sum_blocks (a b : ℕ) (f : Fin (a * b) → EReal) :
    ∑ k : Fin (a * b), f k = ∑ i : Fin a, ∑ j : Fin b, f (finProdFinEquiv (i, j)) := by
  rw [← Fintype.sum_prod_type' (fun i j => f (finProdFinEquiv (i, j)))]
  exact (Equiv.sum_comp finProdFinEquiv f).symm

end Cert.Dense

end
-- ==== Proof.Dense.MlpFinal.lean ====
/- The last squared-ReLU layer, its residual connection and the final normalisation: what the kernel's run leaves is the reference's result. For a block of 512 rows the
   kernel keeps the normalised rows, goes through the hidden units 512 at a time, and adds each block's contribution
   to a running sum, which at the last block is the whole product. -/
module

public import proofs.«01_k».proof.Proof.Dense.Common
public import proofs.«01_k».proof.Proof.Gen.Kernel2Ideal.Value
public import proofs.«01_k».proof.Proof.Gen.Reference2Ideal.Read
public import Idealize.ShloMosaic.Lib.Pipeline.Value
public import Idealize.ShloMosaic.Lib.Tactic

@[expose] public section

set_option maxRecDepth 16384

noncomputable section

namespace Cert.Kernel2Ideal.Dense

open Cert.Kernel2Ideal Cert.Kernel2Ideal.Gen Cert.Dense Idealize.ShloMosaic.TcCoe Idealize.SL.Sem Idealize.ShloMosaic.ValueIdx
open Idealize.ShloMosaic.Tactic
open Idealize.ShloMosaic hiding ix0 ix1 ix2 ix3

theorem hz : (![0, 0] : Fin 2 → ℕ) = fun _ => 0 := by funext a; fin_cases a <;> rfl

section Body

variable {F : FTy → Type} [FloatOps F]
variable (c : Dev nD) (i : grid0.Coords) (arg2 : Memref sig .tc .vmem S512x2048 .f32) (harg2 : arg2.IsWhole)
  (arg3 : Memref sig .tc .vmem S1x2048 .f32) (harg3 : arg3.IsWhole)
  (arg4 : Memref sig .tc .vmem S2048x512 .bf16) (harg4 : arg4.IsWhole) (arg5 : Memref sig .tc .vmem S512x2048 .bf16) (harg5 : arg5.IsWhole)
  (arg6 : Memref sig .tc .vmem S1x2048 .f32) (harg6 : arg6.IsWhole)
  (arg7 : Memref sig .tc .vmem S512x2048 .f32) (harg7 : arg7.IsWhole)
  (arg8 : Memref sig .tc .vmem S512x2048 .bf16) (harg8 : arg8.IsWhole) (arg9 : Memref sig .tc .vmem S512x2048 .f32) (harg9 : arg9.IsWhole)
variable (x0 : Vec F S512x2048 .f32) (x1 : Vec F S1x2048 .f32) (x2 : Vec F S2048x512 .bf16) (x3 : Vec F S512x2048 .bf16) (x4 : Vec F S1x2048 .f32)
  (xs0 : Vec F S512x2048 .bf16) (xs1 : Vec F S512x2048 .f32)

/-- At the first block of hidden units the rows kept are the normalised rows. -/
theorem keep_A (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 hc0 hc1 hc2 hc3 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  simp only [View.readAt_eq_ld, harg2.read_unread, harg3.read_unread, harg4.read_unread, harg5.read_unread]
  rw [View.canon_unit_zero hz]
  repeat rw [View.ld_unit_zero hz]

/-- … and the running sum starts at the first block's contribution. -/
theorem acc_A (hc0 : cond0_0 i) (hc1 : cond0_1 i) (hc2 : ¬cond0_2 i) (hc3 : ¬cond0_3 i) :
    sout0_A_1 c i arg2 harg2 arg3 harg3 arg4 harg4 arg5 harg5 arg6 harg6 arg7 harg7 arg8 harg8 arg9 harg9 hc0 hc1 hc2 hc3 x0 x1 x2 x3 x4 = k0_pay3 (k0_pay1 x0 x1) x2 x3 := by
  unfold sout0_A_1
  rw [View.read_writes_eq_canon _ _ _ (scover0_A_1 c i arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  simp only [View.readAt_eq_ld, harg2.read_unread, harg3.read_unread, harg4.read_unread, harg5.read_unread]
  rw [View.canon_unit_zero hz, View.readCov_unit_zero _ hz]
  repeat rw [View.ld_unit_zero hz]

/-- Later a block's contribution is added to the running sum. -/
theorem acc_B (hc0 : ¬cond0_0 i) (hc1 : ¬cond0_1 i) (hc2 : cond0_2 i) (hc3 : ¬cond0_3 i) :
    sout0_B_1 c i arg2 harg2 arg3 harg3 arg4 harg4 arg5 harg5 arg6 harg6 arg7 harg7 arg8 harg8 arg9 harg9 hc0 hc1 hc2 hc3 x0 x1 x2 x3 x4 xs0 xs1 = k0_pay4 xs0 x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 hc3 x0 x1 x2 x3 x4 xs0 xs1)]
  unfold kernelRun0_B
  dsimp only
  sl_unfold_words
  simp only [View.readAt_eq_ld, harg4.read_unread, harg5.read_unread, harg8.read_unread, harg9.read_unread]
  rw [View.canon_unit_zero hz]
  repeat rw [View.ld_unit_zero hz]

/-- So it is at the last block. -/
theorem acc_C (hc0 : ¬cond0_0 i) (hc1 : ¬cond0_1 i) (hc2 : cond0_2 i) (hc3 : cond0_3 i) :
    sout0_C_1 c i arg2 harg2 arg3 harg3 arg4 harg4 arg5 harg5 arg6 harg6 arg7 harg7 arg8 harg8 arg9 harg9 hc0 hc1 hc2 hc3 x0 x1 x2 x3 x4 xs0 xs1 = k0_pay4 xs0 x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 hc2 hc3 x0 x1 x2 x3 x4 xs0 xs1)]
  unfold kernelRun0_C
  dsimp only
  sl_unfold_words
  simp only [View.readAt_eq_ld, harg4.read_unread, harg5.read_unread, harg8.read_unread, harg9.read_unread]
  rw [View.canon_unit_zero hz]
  repeat rw [View.ld_unit_zero hz]

/-- At the last block the rows written are computed from the input rows and the finished sum. -/
theorem out_C (hc0 : ¬cond0_0 i) (hc1 : ¬cond0_1 i) (hc2 : cond0_2 i) (hc3 : cond0_3 i) :
    out0_C_5 c i arg2 harg2 arg3 harg3 arg4 harg4 arg5 harg5 arg6 harg6 arg7 harg7 arg8 harg8 arg9 harg9 hc0 hc1 hc2 hc3 x0 x1 x2 x3 x4 xs0 xs1 = k0_pay5 x0 (k0_pay4 xs0 x2 x3 xs1) x4 := by
  unfold out0_C_5
  rw [View.read_writes_eq_canon _ _ _ (cover0_C_5 c i arg2 harg2 arg3 harg3 arg4 harg4 arg5 harg5 arg6 harg6 arg7 harg7 arg8 harg8 arg9 harg9 hc0 hc1 hc2 hc3 x0 x1 x2 x3 x4 xs0 xs1)]
  unfold kernelRun0_C
  dsimp only
  sl_unfold_words
  simp only [View.readAt_eq_ld, harg2.read_unread, harg4.read_unread, harg5.read_unread, harg6.read_unread, harg8.read_unread, harg9.read_unread]
  rw [View.canon_unit_zero hz, View.readCov_unit_zero _ hz]
  repeat rw [View.ld_unit_zero hz]

end Body

variable (m : (ℓ : Loc nD τ sig) → Buf (Elt Ideal) ℓ) (ρ : Dev nD → PrngReg)

/-- The residual stream. -/
abbrev h (c : Dev nD) : S8192x2048.Idx → EReal := m ((c : Thread nD τ).loc main_arg0)
/-- The gains. -/
abbrev g (c : Dev nD) : S2048.Idx → EReal := m ((c : Thread nD τ).loc main_arg1)
/-- The weights into the hidden units. -/
abbrev wu (c : Dev nD) : S2048x8192.Idx → EReal := m ((c : Thread nD τ).loc main_arg2)
/-- The weights out of the hidden units. -/
abbrev wd (c : Dev nD) : S8192x2048.Idx → EReal := m ((c : Thread nD τ).loc main_arg3)
/-- The final gains. -/
abbrev fg (c : Dev nD) : S2048.Idx → EReal := m ((c : Thread nD τ).loc main_arg4)

/-- The reference's result over the kernel's arguments. -/
abbrev R (c : Dev nD) : Buf (Elt Ideal) ((c : Thread nD τ).loc main_v4) :=
  Cert.Reference2Ideal.Read.val_main_v30 (F := Ideal) (h m c) (g m c) (wu m c) (wd m c) (fg m c)

/-- The normalised rows. -/
def hn (c : Dev nD) (p : Fin 8192) (k : Fin 2048) : EReal := rms (fun j => h m c (ix2 p j)) (fun j => g m c (ix1 j)) k

/-- A hidden unit's value: the square of the positive part. -/
def act (x : EReal) : EReal := max x (Ideal.ofBits .f32 0x00000000#32) * max x (Ideal.ofBits .f32 0x00000000#32)

/-- A hidden unit's contribution to a result. -/
def term (c : Dev nD) (p : Fin 8192) (q : Fin 2048) (f : Fin 8192) : EReal :=
  act (∑ k : Fin 2048, hn m c p k * wu m c (ix2 k f)) * wd m c (ix2 f q)

/-- The hidden unit at a place of a block. -/
abbrev unit (j : ℕ) (s : Fin 512) : Fin 8192 := ⟨j % 16 * 512 + s.val, by have := s.isLt; omega⟩

/-- A block's contribution. -/
def part (c : Dev nD) (p : Fin 8192) (q : Fin 2048) (j : ℕ) : EReal := ∑ s : Fin 512, term m c p q (unit j s)

/-- The 16 blocks' contributions are all the hidden units'. -/
theorem parts (c : Dev nD) (p : Fin 8192) (q : Fin 2048) :
    ∑ j ∈ Finset.range 16, part m c p q j = ∑ f : Fin 8192, term m c p q f := by
  rw [Finset.sum_range]
  refine Eq.trans ?_ (sum_blocks 16 512 (term m c p q)).symm
  refine Finset.sum_congr rfl fun i _ => Finset.sum_congr rfl fun s _ => congrArg (term m c p q) (Fin.ext ?_)
  have hi := i.isLt
  show i.val % 16 * 512 + s.val = s.val + 512 * i.val
  omega

open Cert.Reference2Ideal.Read in
/-- The reference's normalised rows. -/
theorem ref_norm (x : S8192x2048.Idx → EReal) (y : S2048.Idx → EReal) (p : Fin 8192) (k : Fin 2048) :
    val_main_v12 (F := Ideal) x y (ix2 p k) = rms (fun j => x (ix2 p j)) (fun j => y (ix1 j)) k := by
  have e1 : val_main_v1 (F := Ideal) x (ix1 p) = ∑ j : Fin 2048, x (ix2 p j) * x (ix2 p j) := by
    rw [val_main_v1_apply, val_main_cst_apply]
    refine (congrArg (· + _) Ideal.ofBits_zero_f32).trans ((zero_add _).trans (Finset.sum_congr rfl fun j _ => ?_))
    have e : idx_main_v1 (ix1 p) j = ix2 p j := funext fun a => by match a with | ⟨0, _⟩ => rfl | ⟨1, _⟩ => rfl
    rw [e]
    rfl
  have e2 : idx_main_v2 (idx_main_v8 (ix2 p k)) = ix1 p := funext fun a => by match a with | ⟨0, _⟩ => rfl
  have e3 : idx_main_v10 (idx_main_v11 (ix2 p k)) = ix1 k := funext fun a => by match a with | ⟨0, _⟩ => rfl
  rw [val_main_v12_apply, val_main_v9_apply, val_main_v8_apply, val_main_v7_apply, val_main_v6_apply, val_main_v4_apply,
    val_main_v2_apply, val_main_v3_apply, val_main_v5_apply, val_main_v11_apply, val_main_v10_apply, e2, e3, e1]
  rfl

open Cert.Reference2Ideal.Read in
/-- The reference's hidden units. -/
theorem ref_act (c : Dev nD) (p : Fin 8192) (f : Fin 8192) :
    val_main_v15 (F := Ideal) (h m c) (g m c) (wu m c) (ix2 p f) = act (∑ k : Fin 2048, hn m c p k * wu m c (ix2 k f)) := by
  have e : val_main_v13 (F := Ideal) (h m c) (g m c) (wu m c) (ix2 p f) = ∑ k : Fin 2048, hn m c p k * wu m c (ix2 k f) := by
    rw [val_main_v13_apply]
    refine Finset.sum_congr rfl fun k _ => ?_
    have e1 : lidx_main_v13 (ix2 p f) k = ix2 p k := funext fun a => by match a with | ⟨0, _⟩ => rfl | ⟨1, _⟩ => rfl
    have e2 : ridx_main_v13 (ix2 p f) k = ix2 k f := funext fun a => by match a with | ⟨0, _⟩ => rfl | ⟨1, _⟩ => rfl
    rw [e1, e2, ref_norm]
    rfl
  rw [val_main_v15_apply, val_main_v14_apply, e]
  rfl

open Cert.Reference2Ideal.Read in
/-- The reference's residual stream after the layer. -/
theorem ref_sum (c : Dev nD) (p : Fin 8192) (q : Fin 2048) :
    val_main_v17 (F := Ideal) (h m c) (g m c) (wu m c) (wd m c) (ix2 p q) = h m c (ix2 p q) + ∑ f : Fin 8192, term m c p q f := by
  rw [val_main_v17_apply, val_main_v16_apply]
  refine congrArg (fun s : EReal => h m c (ix2 p q) + s) (Finset.sum_congr rfl fun f _ => ?_)
  have e1 : lidx_main_v16 (ix2 p q) f = ix2 p f := funext fun a => by match a with | ⟨0, _⟩ => rfl | ⟨1, _⟩ => rfl
  have e2 : ridx_main_v16 (ix2 p q) f = ix2 f q := funext fun a => by match a with | ⟨0, _⟩ => rfl | ⟨1, _⟩ => rfl
  rw [e1, e2, ref_act]
  rfl

open Cert.Reference2Ideal.Read in
/-- The reference at an index. -/
theorem ref_apply (c : Dev nD) (p : Fin 8192) (q : Fin 2048) :
    (R m c (ix2 p q) : EReal) = rms (fun j => h m c (ix2 p j) + ∑ f : Fin 8192, term m c p j f) (fun j => fg m c (ix1 j)) q := by
  have e1 : val_main_v19 (F := Ideal) (h m c) (g m c) (wu m c) (wd m c) (ix1 p)
      = ∑ j : Fin 2048, (h m c (ix2 p j) + ∑ f : Fin 8192, term m c p j f) * (h m c (ix2 p j) + ∑ f : Fin 8192, term m c p j f) := by
    rw [val_main_v19_apply, val_main_cst_2_apply]
    refine (congrArg (· + _) Ideal.ofBits_zero_f32).trans ((zero_add _).trans (Finset.sum_congr rfl fun j _ => ?_))
    have e : idx_main_v19 (ix1 p) j = ix2 p j := funext fun a => by match a with | ⟨0, _⟩ => rfl | ⟨1, _⟩ => rfl
    rw [e, val_main_v18_apply, ref_sum]
    rfl
  have e2 : idx_main_v20 (idx_main_v26 (ix2 p q)) = ix1 p := funext fun a => by match a with | ⟨0, _⟩ => rfl
  have e3 : idx_main_v28 (idx_main_v29 (ix2 p q)) = ix1 q := funext fun a => by match a with | ⟨0, _⟩ => rfl
  show val_main_v30 (F := Ideal) (h m c) (g m c) (wu m c) (wd m c) (fg m c) (ix2 p q) = _
  rw [val_main_v30_apply, val_main_v27_apply, val_main_v26_apply, val_main_v25_apply, val_main_v24_apply, val_main_v22_apply,
    val_main_v20_apply, val_main_v21_apply, val_main_v23_apply, val_main_v29_apply, val_main_v28_apply, e2, e3, e1, ref_sum]
  rfl

/-- The windows' block indices over the 16 × 16 grid. -/
theorem idx : ∀ t : Fin grid0.N,
    (win0_0.index t 0 = t.val / 16 ∧ win0_0.index t 1 = 0) ∧ (win0_1.index t 0 = 0 ∧ win0_1.index t 1 = 0)
    ∧ (win0_2.index t 0 = 0 ∧ win0_2.index t 1 = t.val % 16) ∧ (win0_3.index t 0 = t.val % 16 ∧ win0_3.index t 1 = 0)
    ∧ (win0_4.index t 0 = 0 ∧ win0_4.index t 1 = 0) := by
  decide +kernel

theorem lt_N (t : Fin grid0.N) : t.val < 256 := Nat.lt_of_lt_of_eq t.isLt Gen.N_0

/-- The row of the residual stream that a block's row is. -/
abbrev row (t : Fin grid0.N) (r : Fin 512) : Fin 8192 := ⟨t.val / 16 * 512 + r.val, by have := lt_N t; have := r.isLt; omega⟩

theorem V_h (c : Dev nD) : V m c main_arg0 = h m c := V_main_arg0 m c
/-- The weights as the kernel takes them. -/
theorem V_wu (c : Dev nD) : V m c main_v0 = wu m c := by
  show StableHlo.after hostOps0 _ (Proc.devRef .tc main_v0) = _
  after_results
  rfl
theorem V_wd (c : Dev nD) : V m c main_v1 = wd m c := by
  show StableHlo.after hostOps0 _ (Proc.devRef .tc main_v1) = _
  after_results
  rfl
/-- The gains as the kernel takes them: one row. -/
theorem V_g (c : Dev nD) (k : Fin 2048) : V m c main_v2 (ix2 0 k) = g m c (ix1 k) := by
  show StableHlo.after hostOps0 _ (Proc.devRef .tc main_v2) _ = _
  after_results
  refine shapeCast_apply _ _ (ix2 0 k) (ix1 k) ?_
  rw [Shape.rowMajor_val_one, Shape.rowMajor_val_two]
  show k.val = 0 * 2048 + k.val
  omega
/-- The final gains as the kernel takes them: one row. -/
theorem V_fg (c : Dev nD) (k : Fin 2048) : V m c main_v3 (ix2 0 k) = fg m c (ix1 k) := by
  show StableHlo.after hostOps0 _ (Proc.devRef .tc main_v3) _ = _
  after_results
  refine shapeCast_apply _ _ (ix2 0 k) (ix1 k) ?_
  rw [Shape.rowMajor_val_one, Shape.rowMajor_val_two]
  show k.val = 0 * 2048 + k.val
  omega

/-- The block of rows. -/
theorem blk0 (c : Dev nD) (t : Fin cfg0.N) (r : Fin 512) (k : Fin 2048) :
    (iblk m c 0 t : Vec Ideal S512x2048 .f32) (ix2 r k) = h m c (ix2 (row t r) k) := by
  have e := (idx t).1
  unfold iblk
  rw [View.read_apply]
  show V m c main_arg0 _ = _
  rw [← V_h]
  refine congrArg (V m c main_arg0) (funext fun a => Fin.ext ?_)
  match a with
  | ⟨0, _⟩ => show win0_0.index t 0 * 512 + 1 * r.val = t.val / 16 * 512 + r.val; rw [e.1]; omega
  | ⟨1, _⟩ => show win0_0.index t 1 * 2048 + 1 * k.val = k.val; rw [e.2]; omega

/-- The gains' block. -/
theorem blk1 (c : Dev nD) (t : Fin cfg0.N) (k : Fin 2048) :
    (iblk m c 1 t : Vec Ideal S1x2048 .f32) (ix2 0 k) = g m c (ix1 k) := by
  have e := (idx t).2.1
  unfold iblk
  rw [View.read_apply]
  show V m c main_v2 _ = _
  rw [← V_g]
  refine congrArg (V m c main_v2) (funext fun a => Fin.ext ?_)
  match a with
  | ⟨0, _⟩ => show win0_1.index t 0 * 1 + 1 * 0 = 0; rw [e.1]
  | ⟨1, _⟩ => show win0_1.index t 1 * 2048 + 1 * k.val = k.val; rw [e.2]; omega

/-- The block of the weights into the hidden units. -/
theorem blk2 (c : Dev nD) (t : Fin cfg0.N) (k : Fin 2048) (s : Fin 512) :
    (iblk m c 2 t : Vec Ideal S2048x512 .bf16) (ix2 k s) = wu m c (ix2 k (unit t.val s)) := by
  have e := (idx t).2.2.1
  unfold iblk
  rw [View.read_apply]
  show V m c main_v0 _ = _
  rw [← V_wu]
  refine congrArg (V m c main_v0) (funext fun a => Fin.ext ?_)
  match a with
  | ⟨0, _⟩ => show win0_2.index t 0 * 2048 + 1 * k.val = k.val; rw [e.1]; omega
  | ⟨1, _⟩ => show win0_2.index t 1 * 512 + 1 * s.val = t.val % 16 * 512 + s.val; rw [e.2]; omega

/-- The block of the weights out of the hidden units. -/
theorem blk3 (c : Dev nD) (t : Fin cfg0.N) (s : Fin 512) (q : Fin 2048) :
    (iblk m c 3 t : Vec Ideal S512x2048 .bf16) (ix2 s q) = wd m c (ix2 (unit t.val s) q) := by
  have e := (idx t).2.2.2.1
  unfold iblk
  rw [View.read_apply]
  show V m c main_v1 _ = _
  rw [← V_wd]
  refine congrArg (V m c main_v1) (funext fun a => Fin.ext ?_)
  match a with
  | ⟨0, _⟩ => show win0_3.index t 0 * 512 + 1 * s.val = t.val % 16 * 512 + s.val; rw [e.1]; omega
  | ⟨1, _⟩ => show win0_3.index t 1 * 2048 + 1 * q.val = q.val; rw [e.2]; omega

/-- The final gains' block. -/
theorem blk4 (c : Dev nD) (t : Fin cfg0.N) (k : Fin 2048) :
    (iblk m c 4 t : Vec Ideal S1x2048 .f32) (ix2 0 k) = fg m c (ix1 k) := by
  have e := (idx t).2.2.2.2
  unfold iblk
  rw [View.read_apply]
  show V m c main_v3 _ = _
  rw [← V_fg]
  refine congrArg (V m c main_v3) (funext fun a => Fin.ext ?_)
  match a with
  | ⟨0, _⟩ => show win0_4.index t 0 * 1 + 1 * 0 = 0; rw [e.1]
  | ⟨1, _⟩ => show win0_4.index t 1 * 2048 + 1 * k.val = k.val; rw [e.2]; omega

/-- The normalised rows of a block. -/
theorem pay1_apply (c : Dev nD) (t : Fin cfg0.N) (r : Fin 512) (k : Fin 2048) :
    k0_pay1 (F := Ideal) (iblk m c 0 t) (iblk m c 1 t) (ix2 r k) = hn m c (row t r) k := by
  unfold k0_pay1
  dsimp only
  rw [shapeCast_self, shapeCast_self]
  refine (norm_apply (iblk m c 0 t : Vec Ideal S512x2048 .f32) (iblk m c 1 t : Vec Ideal S1x2048 .f32) _ _ _ _ r k).trans ?_
  unfold hn
  exact congrArg₂ (fun a b => rms a b k) (funext fun j => blk0 m c t r j) (funext fun j => blk1 m c t j)

/-- A block's contribution, from the rows and the two blocks of weights. -/
theorem pay2_apply (x : Vec Ideal S512x2048 .bf16) (y : Vec Ideal S2048x512 .bf16) (z : Vec Ideal S512x2048 .bf16) (r : Fin 512) (q : Fin 2048) :
    k0_pay2 (F := Ideal) x y z (ix2 r q)
      = ∑ s : Fin 512, act (∑ k : Fin 2048, (x (ix2 r k) : EReal) * y (ix2 k s)) * z (ix2 s q) := by
  unfold k0_pay2
  rw [shapeCast_self, shapeCast_self]
  refine (mm_apply (φ₁ := .bf16) (φ₂ := .bf16) _ _ rfl _ z r q).trans (Finset.sum_congr rfl fun s _ => ?_)
  refine congrArg (fun u : EReal => u * z (ix2 s q)) ?_
  have e := mm_apply (φ₁ := .bf16) (φ₂ := .bf16) dot_S512x2048_S2048x512_S512x512_1_0_0_1_n_n _ rfl x y r s
  exact congrArg act e

/-- The contribution at a point of the grid. -/
theorem pay2_at (c : Dev nD) (t : Fin cfg0.N) (x : Vec Ideal S512x2048 .bf16) (p : Fin 8192) (r : Fin 512) (q : Fin 2048)
    (hx : ∀ k : Fin 2048, (x (ix2 r k) : EReal) = hn m c p k) :
    k0_pay2 (F := Ideal) x (iblk m c 2 t) (iblk m c 3 t) (ix2 r q) = part m c p q t.val := by
  refine (pay2_apply x _ _ r q).trans (Finset.sum_congr rfl fun s _ => ?_)
  rw [blk3 m c t s q]
  refine congrArg (fun u : EReal => act u * wd m c (ix2 (unit t.val s) q)) (Finset.sum_congr rfl fun k _ => ?_)
  rw [hx k, blk2 m c t k s]

theorem pay3_at (c : Dev nD) (t : Fin cfg0.N) (x : Vec Ideal S512x2048 .bf16) (p : Fin 8192) (r : Fin 512) (q : Fin 2048)
    (hx : ∀ k : Fin 2048, (x (ix2 r k) : EReal) = hn m c p k) :
    k0_pay3 (F := Ideal) x (iblk m c 2 t) (iblk m c 3 t) (ix2 r q) = part m c p q t.val := by
  unfold k0_pay3
  rw [shapeCast_self]
  exact pay2_at m c t x p r q hx

theorem pay4_at (c : Dev nD) (t : Fin cfg0.N) (x : Vec Ideal S512x2048 .bf16) (a : Vec Ideal S512x2048 .f32) (p : Fin 8192) (r : Fin 512) (q : Fin 2048)
    (hx : ∀ k : Fin 2048, (x (ix2 r k) : EReal) = hn m c p k) :
    k0_pay4 (F := Ideal) x (iblk m c 2 t) (iblk m c 3 t) a (ix2 r q) = (a (ix2 r q) : EReal) + part m c p q t.val := by
  unfold k0_pay4
  rw [shapeCast_self]
  exact congrArg (fun u : EReal => (a (ix2 r q) : EReal) + u) (pay2_at m c t x p r q hx)

/-- The rows kept after any point are the normalised rows of its block of rows. -/
theorem keep (c : Dev nD) : ∀ (n : ℕ) (hb : n < cfg0.N) (r : Fin 512) (k : Fin 2048),
    (outsAt0 m c n hb).2.1 (ix2 r k) = hn m c (row ⟨n, hb⟩ r) k
  | n, hb, r, k => by
    by_cases h0 : n % 16 = 0
    · rw [show outsAt0 m c n hb = _ from outsAt0_A m c ⟨n, hb⟩ h0 h0 (by show ¬1 ≤ n % 16; omega) (by show ¬n % 16 = 15; omega)]
      dsimp only
      rw [keep_A]
      exact pay1_apply m c ⟨n, hb⟩ r k
    · have ih : (outsAt0 m c (n - 1) (Nat.lt_of_le_of_lt (Nat.sub_le _ _) hb)).2.1 (ix2 r k) = hn m c (row ⟨n, hb⟩ r) k := by
        refine (keep c (n - 1) (Nat.lt_of_le_of_lt (Nat.sub_le _ _) hb) r k).trans ?_
        refine congrArg (fun p => hn m c p k) (Fin.ext ?_)
        show (n - 1) / 16 * 512 + r.val = n / 16 * 512 + r.val
        omega
      by_cases h3 : n % 16 = 15
      · rw [show outsAt0 m c n hb = _ from outsAt0_C m c ⟨n, hb⟩ h0 h0 (by show 1 ≤ n % 16; omega) h3]
        exact ih
      · rw [show outsAt0 m c n hb = _ from outsAt0_B m c ⟨n, hb⟩ h0 h0 (by show 1 ≤ n % 16; omega) h3]
        exact ih
termination_by n => n
decreasing_by omega

/-- The rows kept before a point that is not the first of its block of rows are that block's. -/
theorem keep_before (c : Dev nD) (n : ℕ) (hb : n < cfg0.N) (h0 : ¬n % 16 = 0) (r : Fin 512) (k : Fin 2048) :
    (outsAt0 m c (n - 1) (Nat.lt_of_le_of_lt (Nat.sub_le _ _) hb)).2.1 (ix2 r k) = hn m c (row ⟨n, hb⟩ r) k := by
  refine (keep m c (n - 1) (Nat.lt_of_le_of_lt (Nat.sub_le _ _) hb) r k).trans ?_
  refine congrArg (fun p => hn m c p k) (Fin.ext ?_)
  show (n - 1) / 16 * 512 + r.val = n / 16 * 512 + r.val
  omega

/-- Adding a point's contribution to the sum before it. -/
theorem step (c : Dev nD) (n : ℕ) (hb : n < cfg0.N) (h0 : ¬n % 16 = 0) (r : Fin 512) (q : Fin 2048) (a : EReal)
    (ha : a = ∑ j ∈ Finset.range ((n - 1) % 16 + 1), part m c (row ⟨n - 1, Nat.lt_of_le_of_lt (Nat.sub_le _ _) hb⟩ r) q j) :
    a + part m c (row ⟨n, hb⟩ r) q n = ∑ j ∈ Finset.range (n % 16 + 1), part m c (row ⟨n, hb⟩ r) q j := by
  have er : row ⟨n - 1, Nat.lt_of_le_of_lt (Nat.sub_le _ _) hb⟩ r = row ⟨n, hb⟩ r := Fin.ext (by
    show (n - 1) / 16 * 512 + r.val = n / 16 * 512 + r.val
    omega)
  have en : (n - 1) % 16 + 1 = n % 16 := by omega
  rw [ha, er, en, Finset.sum_range_succ]
  refine congrArg (fun u : EReal => _ + u) (Finset.sum_congr rfl fun s _ => congrArg (term m c _ q) (Fin.ext ?_))
  show n % 16 * 512 + s.val = n % 16 % 16 * 512 + s.val
  omega

/-- The running sum after any point: the contributions of the blocks of hidden units met so far. -/
theorem acc (c : Dev nD) : ∀ (n : ℕ) (hb : n < cfg0.N) (r : Fin 512) (q : Fin 2048),
    (outsAt0 m c n hb).2.2 (ix2 r q) = ∑ j ∈ Finset.range (n % 16 + 1), part m c (row ⟨n, hb⟩ r) q j
  | n, hb, r, q => by
    by_cases h0 : n % 16 = 0
    · rw [show outsAt0 m c n hb = _ from outsAt0_A m c ⟨n, hb⟩ h0 h0 (by show ¬1 ≤ n % 16; omega) (by show ¬n % 16 = 15; omega)]
      dsimp only
      rw [acc_A]
      refine (pay3_at m c ⟨n, hb⟩ _ (row ⟨n, hb⟩ r) r q (fun k => pay1_apply m c ⟨n, hb⟩ r k)).trans ?_
      rw [h0, Finset.sum_range_one]
      refine Finset.sum_congr rfl fun s _ => congrArg (term m c _ q) (Fin.ext ?_)
      show n % 16 * 512 + s.val = 0 % 16 * 512 + s.val
      omega
    · have ih := acc c (n - 1) (Nat.lt_of_le_of_lt (Nat.sub_le _ _) hb) r q
      by_cases h3 : n % 16 = 15
      · rw [show outsAt0 m c n hb = _ from outsAt0_C m c ⟨n, hb⟩ h0 h0 (by show 1 ≤ n % 16; omega) h3]
        dsimp only
        rw [acc_C]
        exact (pay4_at m c ⟨n, hb⟩ _ _ (row ⟨n, hb⟩ r) r q (keep_before m c n hb h0 r)).trans (step m c n hb h0 r q _ ih)
      · rw [show outsAt0 m c n hb = _ from outsAt0_B m c ⟨n, hb⟩ h0 h0 (by show 1 ≤ n % 16; omega) h3]
        dsimp only
        rw [acc_B]
        exact (pay4_at m c ⟨n, hb⟩ _ _ (row ⟨n, hb⟩ r) r q (keep_before m c n hb h0 r)).trans (step m c n hb h0 r q _ ih)
termination_by n => n
decreasing_by omega

/-- The sum that the last point of a block of rows writes from: all the hidden units' contributions. -/
theorem full (c : Dev nD) (n : ℕ) (hb : n < cfg0.N) (h3 : n % 16 = 15) (r : Fin 512) (q : Fin 2048) :
    k0_pay4 (F := Ideal) (outsAt0 m c (n - 1) (Nat.lt_of_le_of_lt (Nat.sub_le _ _) hb)).2.1 (iblk m c 2 ⟨n, hb⟩) (iblk m c 3 ⟨n, hb⟩)
      (outsAt0 m c (n - 1) (Nat.lt_of_le_of_lt (Nat.sub_le _ _) hb)).2.2 (ix2 r q)
      = ∑ f : Fin 8192, term m c (row ⟨n, hb⟩ r) q f := by
  have h0 : ¬n % 16 = 0 := by omega
  refine ((pay4_at m c ⟨n, hb⟩ _ _ (row ⟨n, hb⟩ r) r q (keep_before m c n hb h0 r)).trans (step m c n hb h0 r q _
    (acc m c (n - 1) (Nat.lt_of_le_of_lt (Nat.sub_le _ _) hb) r q))).trans ?_
  rw [h3]
  exact parts m c _ q

/-- The rows written: the normalised residual stream after the layer. -/
theorem pay5_apply (c : Dev nD) (t : Fin cfg0.N) (a : Vec Ideal S512x2048 .f32) (r : Fin 512) (q : Fin 2048) :
    k0_pay5 (F := Ideal) (iblk m c 0 t) a (iblk m c 4 t) (ix2 r q)
      = rms (fun j => h m c (ix2 (row t r) j) + (a (ix2 r j) : EReal)) (fun j => fg m c (ix1 j)) q := by
  unfold k0_pay5
  dsimp only
  rw [shapeCast_self]
  refine (norm_apply (addf (iblk m c 0 t : Vec Ideal S512x2048 .f32) a) (iblk m c 4 t : Vec Ideal S1x2048 .f32) _ _ _ _ r q).trans ?_
  exact congrArg₂ (fun a b => rms a b q) (funext fun j => congrArg (fun u : EReal => u + (a (ix2 r j) : EReal)) (blk0 m c t r j))
    (funext fun j => blk4 m c t j)

/-- The block written at the last point of a block of rows. -/
theorem out (c : Dev nD) (n : ℕ) (hb : n < cfg0.N) (h3 : n % 16 = 15) (r : Fin 512) (q : Fin 2048) :
    (outsAt0 m c n hb).1 (ix2 r q)
      = rms (fun j => h m c (ix2 (row ⟨n, hb⟩ r) j) + ∑ f : Fin 8192, term m c (row ⟨n, hb⟩ r) j f) (fun j => fg m c (ix1 j)) q := by
  rw [show outsAt0 m c n hb = _ from outsAt0_C m c ⟨n, hb⟩ (by show ¬n % 16 = 0; omega) (by show ¬n % 16 = 0; omega) (by show 1 ≤ n % 16; omega) h3]
  dsimp only
  rw [out_C]
  refine (pay5_apply m c ⟨n, hb⟩ _ r q).trans ?_
  exact congrArg (fun x => rms x (fun j => fg m c (ix1 j)) q) (funext fun j =>
    congrArg (fun u : EReal => h m c (ix2 (row ⟨n, hb⟩ r) j) + u) (full m c n hb h3 r j))

/-- What the result array ends holding is the reference's result. -/
theorem final (c : Dev nD) : Value.G5 m c = R m c := by
  funext j
  obtain ⟨p, q, rfl⟩ : ∃ (p : Fin 8192) (q : Fin 2048), j = ix2 p q := ⟨j 0, j 1, ValueIdx.eq_ix2 j⟩
  have hp := p.isLt
  have hq := q.isLt
  have hN : cfg0.N = 256 := Gen.N_0
  have ept : Value.pt5Of (ix2 p q) = 16 * (1 * (p.val / 512 - 0) + 1 * (q.val / 2048 - 0)) + 15 := rfl
  have ht : Value.pt5Of (ix2 p q) < cfg0.N := by
    rw [ept]
    omega
  unfold Value.G5
  rw [dif_pos ht, ← Value.outsAt0_sweep m c _ ht]
  have e : Value.loc5Of (ix2 p q) = ix2 (⟨p.val % 512, by omega⟩ : Fin 512) q :=
    funext fun a => by
      match a with
      | ⟨0, _⟩ => rfl
      | ⟨1, _⟩ => exact Fin.ext (Nat.mod_eq_of_lt hq)
  rw [e]
  refine (out m c _ ht (by rw [ept]; omega) _ _).trans (Eq.trans ?_ (ref_apply m c p q).symm)
  have er : row ⟨Value.pt5Of (ix2 p q), ht⟩ (⟨p.val % 512, by omega⟩ : Fin 512) = p := Fin.ext (by
    show (16 * (1 * (p.val / 512 - 0) + 1 * (q.val / 2048 - 0)) + 15) / 16 * 512 + p.val % 512 = p.val
    omega)
  rw [er]

/-- The run: the result array at the reference's result, the arguments unchanged. -/
theorem run : θ_run defs (onTc (τ := τ) (main (F := Ideal))) ⟨m, fun _ => 0, ρ⟩ fun r => ∀ c : Dev nD,
      r.2.mem ((c : Thread nD τ).loc main_v4) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run m ρ)

end Cert.Kernel2Ideal.Dense

end
-- ==== Proof.Dense.MlpMid.lean ====
/- The first squared-ReLU layer and its residual connection: what the kernel's run leaves is the reference's result. For a block of 512 rows the
   kernel keeps the normalised rows, goes through the hidden units 512 at a time, and adds each block's contribution
   to a running sum, which at the last block is the whole product. -/
module

public import proofs.«01_k».proof.Proof.Dense.Common
public import proofs.«01_k».proof.Proof.Gen.Kernel3Ideal.Value
public import proofs.«01_k».proof.Proof.Gen.Reference3Ideal.Read
public import Idealize.ShloMosaic.Lib.Pipeline.Value
public import Idealize.ShloMosaic.Lib.Tactic

@[expose] public section

set_option maxRecDepth 16384

noncomputable section

namespace Cert.Kernel3Ideal.Dense

open Cert.Kernel3Ideal Cert.Kernel3Ideal.Gen Cert.Dense Idealize.ShloMosaic.TcCoe Idealize.SL.Sem Idealize.ShloMosaic.ValueIdx
open Idealize.ShloMosaic.Tactic
open Idealize.ShloMosaic hiding ix0 ix1 ix2 ix3

theorem hz : (![0, 0] : Fin 2 → ℕ) = fun _ => 0 := by funext a; fin_cases a <;> rfl

section Body

variable {F : FTy → Type} [FloatOps F]
variable (c : Dev nD) (i : grid0.Coords) (arg2 : Memref sig .tc .vmem S512x2048 .f32) (harg2 : arg2.IsWhole)
  (arg3 : Memref sig .tc .vmem S1x2048 .f32) (harg3 : arg3.IsWhole)
  (arg4 : Memref sig .tc .vmem S2048x512 .bf16) (harg4 : arg4.IsWhole) (arg5 : Memref sig .tc .vmem S512x2048 .bf16) (harg5 : arg5.IsWhole)
  (arg6 : Memref sig .tc .vmem S512x2048 .f32) (harg6 : arg6.IsWhole)
  (arg7 : Memref sig .tc .vmem S512x2048 .bf16) (harg7 : arg7.IsWhole) (arg8 : Memref sig .tc .vmem S512x2048 .f32) (harg8 : arg8.IsWhole)
variable (x0 : Vec F S512x2048 .f32) (x1 : Vec F S1x2048 .f32) (x2 : Vec F S2048x512 .bf16) (x3 : Vec F S512x2048 .bf16)
  (xs0 : Vec F S512x2048 .bf16) (xs1 : Vec F S512x2048 .f32)

/-- At the first block of hidden units the rows kept are the normalised rows. -/
theorem keep_A (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 hc0 hc1 hc2 hc3 x0 x1 x2 x3 = k0_pay1 x0 x1 := by
  unfold sout0_A_0
  rw [View.read_writes_eq_canon _ _ _ (scover0_A_0 c i arg2 harg2 arg3 harg3 arg4 harg4 arg5 harg5 arg6 harg6 arg7 harg7 arg8 harg8 hc0 hc1 hc2 hc3 x0 x1 x2 x3)]
  unfold kernelRun0_A
  dsimp only
  sl_unfold_words
  simp only [View.readAt_eq_ld, harg2.read_unread, harg3.read_unread, harg4.read_unread, harg5.read_unread]
  rw [View.canon_unit_zero hz]
  repeat rw [View.ld_unit_zero hz]

/-- … and the running sum starts at the first block's contribution. -/
theorem acc_A (hc0 : cond0_0 i) (hc1 : cond0_1 i) (hc2 : ¬cond0_2 i) (hc3 : ¬cond0_3 i) :
    sout0_A_1 c i arg2 harg2 arg3 harg3 arg4 harg4 arg5 harg5 arg6 harg6 arg7 harg7 arg8 harg8 hc0 hc1 hc2 hc3 x0 x1 x2 x3 = k0_pay3 (k0_pay1 x0 x1) x2 x3 := by
  unfold sout0_A_1
  rw [View.read_writes_eq_canon _ _ _ (scover0_A_1 c i arg2 harg2 arg3 harg3 arg4 harg4 arg5 harg5 arg6 harg6 arg7 harg7 arg8 harg8 hc0 hc1 hc2 hc3 x0 x1 x2 x3)]
  unfold kernelRun0_A
  dsimp only
  sl_unfold_words
  simp only [View.readAt_eq_ld, harg2.read_unread, harg3.read_unread, harg4.read_unread, harg5.read_unread]
  rw [View.canon_unit_zero hz, View.readCov_unit_zero _ hz]
  repeat rw [View.ld_unit_zero hz]

/-- Later a block's contribution is added to the running sum. -/
theorem acc_B (hc0 : ¬cond0_0 i) (hc1 : ¬cond0_1 i) (hc2 : cond0_2 i) (hc3 : ¬cond0_3 i) :
    sout0_B_1 c i arg2 harg2 arg3 harg3 arg4 harg4 arg5 harg5 arg6 harg6 arg7 harg7 arg8 harg8 hc0 hc1 hc2 hc3 x0 x1 x2 x3 xs0 xs1 = k0_pay4 xs0 x2 x3 xs1 := by
  unfold sout0_B_1
  rw [View.read_writes_eq_canon _ _ _ (scover0_B_1 c i arg2 harg2 arg3 harg3 arg4 harg4 arg5 harg5 arg6 harg6 arg7 harg7 arg8 harg8 hc0 hc1 hc2 hc3 x0 x1 x2 x3 xs0 xs1)]
  unfold kernelRun0_B
  dsimp only
  sl_unfold_words
  simp only [View.readAt_eq_ld, harg4.read_unread, harg5.read_unread, harg7.read_unread, harg8.read_unread]
  rw [View.canon_unit_zero hz]
  repeat rw [View.ld_unit_zero hz]

/-- So it is at the last block. -/
theorem acc_C (hc0 : ¬cond0_0 i) (hc1 : ¬cond0_1 i) (hc2 : cond0_2 i) (hc3 : cond0_3 i) :
    sout0_C_1 c i arg2 harg2 arg3 harg3 arg4 harg4 arg5 harg5 arg6 harg6 arg7 harg7 arg8 harg8 hc0 hc1 hc2 hc3 x0 x1 x2 x3 xs0 xs1 = k0_pay4 xs0 x2 x3 xs1 := by
  unfold sout0_C_1
  rw [View.read_writes_eq_canon _ _ _ (scover0_C_1 c i arg2 harg2 arg3 harg3 arg4 harg4 arg5 harg5 arg6 harg6 arg7 harg7 arg8 harg8 hc0 hc1 hc2 hc3 x0 x1 x2 x3 xs0 xs1)]
  unfold kernelRun0_C
  dsimp only
  sl_unfold_words
  simp only [View.readAt_eq_ld, harg4.read_unread, harg5.read_unread, harg7.read_unread, harg8.read_unread]
  rw [View.canon_unit_zero hz]
  repeat rw [View.ld_unit_zero hz]

/-- At the last block the rows written are computed from the input rows and the finished sum. -/
theorem out_C (hc0 : ¬cond0_0 i) (hc1 : ¬cond0_1 i) (hc2 : cond0_2 i) (hc3 : cond0_3 i) :
    out0_C_4 c i arg2 harg2 arg3 harg3 arg4 harg4 arg5 harg5 arg6 harg6 arg7 harg7 arg8 harg8 hc0 hc1 hc2 hc3 x0 x1 x2 x3 xs0 xs1 = k0_pay5 x0 (k0_pay4 xs0 x2 x3 xs1) := by
  unfold out0_C_4
  rw [View.read_writes_eq_canon _ _ _ (cover0_C_4 c i arg2 harg2 arg3 harg3 arg4 harg4 arg5 harg5 arg6 harg6 arg7 harg7 arg8 harg8 hc0 hc1 hc2 hc3 x0 x1 x2 x3 xs0 xs1)]
  unfold kernelRun0_C
  dsimp only
  sl_unfold_words
  simp only [View.readAt_eq_ld, harg2.read_unread, harg4.read_unread, harg5.read_unread, harg7.read_unread, harg8.read_unread]
  rw [View.canon_unit_zero hz, View.readCov_unit_zero _ hz]
  repeat rw [View.ld_unit_zero hz]

end Body

variable (m : (ℓ : Loc nD τ sig) → Buf (Elt Ideal) ℓ) (ρ : Dev nD → PrngReg)

/-- The residual stream. -/
abbrev h (c : Dev nD) : S8192x2048.Idx → EReal := m ((c : Thread nD τ).loc main_arg0)
/-- The gains. -/
abbrev g (c : Dev nD) : S2048.Idx → EReal := m ((c : Thread nD τ).loc main_arg1)
/-- The weights into the hidden units. -/
abbrev wu (c : Dev nD) : S2048x8192.Idx → EReal := m ((c : Thread nD τ).loc main_arg2)
/-- The weights out of the hidden units. -/
abbrev wd (c : Dev nD) : S8192x2048.Idx → EReal := m ((c : Thread nD τ).loc main_arg3)

/-- The reference's result over the kernel's arguments. -/
abbrev R (c : Dev nD) : Buf (Elt Ideal) ((c : Thread nD τ).loc main_v3) :=
  Cert.Reference3Ideal.Read.val_main_v17 (F := Ideal) (h m c) (g m c) (wu m c) (wd m c)

/-- The normalised rows. -/
def hn (c : Dev nD) (p : Fin 8192) (k : Fin 2048) : EReal := rms (fun j => h m c (ix2 p j)) (fun j => g m c (ix1 j)) k

/-- A hidden unit's value: the square of the positive part. -/
def act (x : EReal) : EReal := max x (Ideal.ofBits .f32 0x00000000#32) * max x (Ideal.ofBits .f32 0x00000000#32)

/-- A hidden unit's contribution to a result. -/
def term (c : Dev nD) (p : Fin 8192) (q : Fin 2048) (f : Fin 8192) : EReal :=
  act (∑ k : Fin 2048, hn m c p k * wu m c (ix2 k f)) * wd m c (ix2 f q)

/-- The hidden unit at a place of a block. -/
abbrev unit (j : ℕ) (s : Fin 512) : Fin 8192 := ⟨j % 16 * 512 + s.val, by have := s.isLt; omega⟩

/-- A block's contribution. -/
def part (c : Dev nD) (p : Fin 8192) (q : Fin 2048) (j : ℕ) : EReal := ∑ s : Fin 512, term m c p q (unit j s)

/-- The 16 blocks' contributions are all the hidden units'. -/
theorem parts (c : Dev nD) (p : Fin 8192) (q : Fin 2048) :
    ∑ j ∈ Finset.range 16, part m c p q j = ∑ f : Fin 8192, term m c p q f := by
  rw [Finset.sum_range]
  refine Eq.trans ?_ (sum_blocks 16 512 (term m c p q)).symm
  refine Finset.sum_congr rfl fun i _ => Finset.sum_congr rfl fun s _ => congrArg (term m c p q) (Fin.ext ?_)
  have hi := i.isLt
  show i.val % 16 * 512 + s.val = s.val + 512 * i.val
  omega

open Cert.Reference3Ideal.Read in
/-- The reference's normalised rows. -/
theorem ref_norm (x : S8192x2048.Idx → EReal) (y : S2048.Idx → EReal) (p : Fin 8192) (k : Fin 2048) :
    val_main_v12 (F := Ideal) x y (ix2 p k) = rms (fun j => x (ix2 p j)) (fun j => y (ix1 j)) k := by
  have e1 : val_main_v1 (F := Ideal) x (ix1 p) = ∑ j : Fin 2048, x (ix2 p j) * x (ix2 p j) := by
    rw [val_main_v1_apply, val_main_cst_apply]
    refine (congrArg (· + _) Ideal.ofBits_zero_f32).trans ((zero_add _).trans (Finset.sum_congr rfl fun j _ => ?_))
    have e : idx_main_v1 (ix1 p) j = ix2 p j := funext fun a => by match a with | ⟨0, _⟩ => rfl | ⟨1, _⟩ => rfl
    rw [e]
    rfl
  have e2 : idx_main_v2 (idx_main_v8 (ix2 p k)) = ix1 p := funext fun a => by match a with | ⟨0, _⟩ => rfl
  have e3 : idx_main_v10 (idx_main_v11 (ix2 p k)) = ix1 k := funext fun a => by match a with | ⟨0, _⟩ => rfl
  rw [val_main_v12_apply, val_main_v9_apply, val_main_v8_apply, val_main_v7_apply, val_main_v6_apply, val_main_v4_apply,
    val_main_v2_apply, val_main_v3_apply, val_main_v5_apply, val_main_v11_apply, val_main_v10_apply, e2, e3, e1]
  rfl

open Cert.Reference3Ideal.Read in
/-- The reference's hidden units. -/
theorem ref_act (c : Dev nD) (p : Fin 8192) (f : Fin 8192) :
    val_main_v15 (F := Ideal) (h m c) (g m c) (wu m c) (ix2 p f) = act (∑ k : Fin 2048, hn m c p k * wu m c (ix2 k f)) := by
  have e : val_main_v13 (F := Ideal) (h m c) (g m c) (wu m c) (ix2 p f) = ∑ k : Fin 2048, hn m c p k * wu m c (ix2 k f) := by
    rw [val_main_v13_apply]
    refine Finset.sum_congr rfl fun k _ => ?_
    have e1 : lidx_main_v13 (ix2 p f) k = ix2 p k := funext fun a => by match a with | ⟨0, _⟩ => rfl | ⟨1, _⟩ => rfl
    have e2 : ridx_main_v13 (ix2 p f) k = ix2 k f := funext fun a => by match a with | ⟨0, _⟩ => rfl | ⟨1, _⟩ => rfl
    rw [e1, e2, ref_norm]
    rfl
  rw [val_main_v15_apply, val_main_v14_apply, e]
  rfl

open Cert.Reference3Ideal.Read in
/-- The reference's residual stream after the layer. -/
theorem ref_sum (c : Dev nD) (p : Fin 8192) (q : Fin 2048) :
    val_main_v17 (F := Ideal) (h m c) (g m c) (wu m c) (wd m c) (ix2 p q) = h m c (ix2 p q) + ∑ f : Fin 8192, term m c p q f := by
  rw [val_main_v17_apply, val_main_v16_apply]
  refine congrArg (fun s : EReal => h m c (ix2 p q) + s) (Finset.sum_congr rfl fun f _ => ?_)
  have e1 : lidx_main_v16 (ix2 p q) f = ix2 p f := funext fun a => by match a with | ⟨0, _⟩ => rfl | ⟨1, _⟩ => rfl
  have e2 : ridx_main_v16 (ix2 p q) f = ix2 f q := funext fun a => by match a with | ⟨0, _⟩ => rfl | ⟨1, _⟩ => rfl
  rw [e1, e2, ref_act]
  rfl

/-- The reference at an index. -/
theorem ref_apply (c : Dev nD) (p : Fin 8192) (q : Fin 2048) :
    (R m c (ix2 p q) : EReal) = h m c (ix2 p q) + ∑ f : Fin 8192, term m c p q f := ref_sum m c p q

/-- The windows' block indices over the 16 × 16 grid. -/
theorem idx : ∀ t : Fin grid0.N,
    (win0_0.index t 0 = t.val / 16 ∧ win0_0.index t 1 = 0) ∧ (win0_1.index t 0 = 0 ∧ win0_1.index t 1 = 0)
    ∧ (win0_2.index t 0 = 0 ∧ win0_2.index t 1 = t.val % 16) ∧ (win0_3.index t 0 = t.val % 16 ∧ win0_3.index t 1 = 0) := by
  decide +kernel

theorem lt_N (t : Fin grid0.N) : t.val < 256 := Nat.lt_of_lt_of_eq t.isLt Gen.N_0

/-- The row of the residual stream that a block's row is. -/
abbrev row (t : Fin grid0.N) (r : Fin 512) : Fin 8192 := ⟨t.val / 16 * 512 + r.val, by have := lt_N t; have := r.isLt; omega⟩

theorem V_h (c : Dev nD) : V m c main_arg0 = h m c := V_main_arg0 m c
/-- The weights as the kernel takes them. -/
theorem V_wu (c : Dev nD) : V m c main_v0 = wu m c := by
  show StableHlo.after hostOps0 _ (Proc.devRef .tc main_v0) = _
  after_results
  rfl
theorem V_wd (c : Dev nD) : V m c main_v1 = wd m c := by
  show StableHlo.after hostOps0 _ (Proc.devRef .tc main_v1) = _
  after_results
  rfl
/-- The gains as the kernel takes them: one row. -/
theorem V_g (c : Dev nD) (k : Fin 2048) : V m c main_v2 (ix2 0 k) = g m c (ix1 k) := by
  show StableHlo.after hostOps0 _ (Proc.devRef .tc main_v2) _ = _
  after_results
  refine shapeCast_apply _ _ (ix2 0 k) (ix1 k) ?_
  rw [Shape.rowMajor_val_one, Shape.rowMajor_val_two]
  show k.val = 0 * 2048 + k.val
  omega

/-- The block of rows. -/
theorem blk0 (c : Dev nD) (t : Fin cfg0.N) (r : Fin 512) (k : Fin 2048) :
    (iblk m c 0 t : Vec Ideal S512x2048 .f32) (ix2 r k) = h m c (ix2 (row t r) k) := by
  have e := (idx t).1
  unfold iblk
  rw [View.read_apply]
  show V m c main_arg0 _ = _
  rw [← V_h]
  refine congrArg (V m c main_arg0) (funext fun a => Fin.ext ?_)
  match a with
  | ⟨0, _⟩ => show win0_0.index t 0 * 512 + 1 * r.val = t.val / 16 * 512 + r.val; rw [e.1]; omega
  | ⟨1, _⟩ => show win0_0.index t 1 * 2048 + 1 * k.val = k.val; rw [e.2]; omega

/-- The gains' block. -/
theorem blk1 (c : Dev nD) (t : Fin cfg0.N) (k : Fin 2048) :
    (iblk m c 1 t : Vec Ideal S1x2048 .f32) (ix2 0 k) = g m c (ix1 k) := by
  have e := (idx t).2.1
  unfold iblk
  rw [View.read_apply]
  show V m c main_v2 _ = _
  rw [← V_g]
  refine congrArg (V m c main_v2) (funext fun a => Fin.ext ?_)
  match a with
  | ⟨0, _⟩ => show win0_1.index t 0 * 1 + 1 * 0 = 0; rw [e.1]
  | ⟨1, _⟩ => show win0_1.index t 1 * 2048 + 1 * k.val = k.val; rw [e.2]; omega

/-- The block of the weights into the hidden units. -/
theorem blk2 (c : Dev nD) (t : Fin cfg0.N) (k : Fin 2048) (s : Fin 512) :
    (iblk m c 2 t : Vec Ideal S2048x512 .bf16) (ix2 k s) = wu m c (ix2 k (unit t.val s)) := by
  have e := (idx t).2.2.1
  unfold iblk
  rw [View.read_apply]
  show V m c main_v0 _ = _
  rw [← V_wu]
  refine congrArg (V m c main_v0) (funext fun a => Fin.ext ?_)
  match a with
  | ⟨0, _⟩ => show win0_2.index t 0 * 2048 + 1 * k.val = k.val; rw [e.1]; omega
  | ⟨1, _⟩ => show win0_2.index t 1 * 512 + 1 * s.val = t.val % 16 * 512 + s.val; rw [e.2]; omega

/-- The block of the weights out of the hidden units. -/
theorem blk3 (c : Dev nD) (t : Fin cfg0.N) (s : Fin 512) (q : Fin 2048) :
    (iblk m c 3 t : Vec Ideal S512x2048 .bf16) (ix2 s q) = wd m c (ix2 (unit t.val s) q) := by
  have e := (idx t).2.2.2
  unfold iblk
  rw [View.read_apply]
  show V m c main_v1 _ = _
  rw [← V_wd]
  refine congrArg (V m c main_v1) (funext fun a => Fin.ext ?_)
  match a with
  | ⟨0, _⟩ => show win0_3.index t 0 * 512 + 1 * s.val = t.val % 16 * 512 + s.val; rw [e.1]; omega
  | ⟨1, _⟩ => show win0_3.index t 1 * 2048 + 1 * q.val = q.val; rw [e.2]; omega

/-- The normalised rows of a block. -/
theorem pay1_apply (c : Dev nD) (t : Fin cfg0.N) (r : Fin 512) (k : Fin 2048) :
    k0_pay1 (F := Ideal) (iblk m c 0 t) (iblk m c 1 t) (ix2 r k) = hn m c (row t r) k := by
  unfold k0_pay1
  dsimp only
  rw [shapeCast_self, shapeCast_self]
  refine (norm_apply (iblk m c 0 t : Vec Ideal S512x2048 .f32) (iblk m c 1 t : Vec Ideal S1x2048 .f32) _ _ _ _ r k).trans ?_
  unfold hn
  exact congrArg₂ (fun a b => rms a b k) (funext fun j => blk0 m c t r j) (funext fun j => blk1 m c t j)

/-- A block's contribution, from the rows and the two blocks of weights. -/
theorem pay2_apply (x : Vec Ideal S512x2048 .bf16) (y : Vec Ideal S2048x512 .bf16) (z : Vec Ideal S512x2048 .bf16) (r : Fin 512) (q : Fin 2048) :
    k0_pay2 (F := Ideal) x y z (ix2 r q)
      = ∑ s : Fin 512, act (∑ k : Fin 2048, (x (ix2 r k) : EReal) * y (ix2 k s)) * z (ix2 s q) := by
  unfold k0_pay2
  rw [shapeCast_self, shapeCast_self]
  refine (mm_apply (φ₁ := .bf16) (φ₂ := .bf16) _ _ rfl _ z r q).trans (Finset.sum_congr rfl fun s _ => ?_)
  refine congrArg (fun u : EReal => u * z (ix2 s q)) ?_
  have e := mm_apply (φ₁ := .bf16) (φ₂ := .bf16) dot_S512x2048_S2048x512_S512x512_1_0_0_1_n_n _ rfl x y r s
  exact congrArg act e

/-- The contribution at a point of the grid. -/
theorem pay2_at (c : Dev nD) (t : Fin cfg0.N) (x : Vec Ideal S512x2048 .bf16) (p : Fin 8192) (r : Fin 512) (q : Fin 2048)
    (hx : ∀ k : Fin 2048, (x (ix2 r k) : EReal) = hn m c p k) :
    k0_pay2 (F := Ideal) x (iblk m c 2 t) (iblk m c 3 t) (ix2 r q) = part m c p q t.val := by
  refine (pay2_apply x _ _ r q).trans (Finset.sum_congr rfl fun s _ => ?_)
  rw [blk3 m c t s q]
  refine congrArg (fun u : EReal => act u * wd m c (ix2 (unit t.val s) q)) (Finset.sum_congr rfl fun k _ => ?_)
  rw [hx k, blk2 m c t k s]

theorem pay3_at (c : Dev nD) (t : Fin cfg0.N) (x : Vec Ideal S512x2048 .bf16) (p : Fin 8192) (r : Fin 512) (q : Fin 2048)
    (hx : ∀ k : Fin 2048, (x (ix2 r k) : EReal) = hn m c p k) :
    k0_pay3 (F := Ideal) x (iblk m c 2 t) (iblk m c 3 t) (ix2 r q) = part m c p q t.val := by
  unfold k0_pay3
  rw [shapeCast_self]
  exact pay2_at m c t x p r q hx

theorem pay4_at (c : Dev nD) (t : Fin cfg0.N) (x : Vec Ideal S512x2048 .bf16) (a : Vec Ideal S512x2048 .f32) (p : Fin 8192) (r : Fin 512) (q : Fin 2048)
    (hx : ∀ k : Fin 2048, (x (ix2 r k) : EReal) = hn m c p k) :
    k0_pay4 (F := Ideal) x (iblk m c 2 t) (iblk m c 3 t) a (ix2 r q) = (a (ix2 r q) : EReal) + part m c p q t.val := by
  unfold k0_pay4
  rw [shapeCast_self]
  exact congrArg (fun u : EReal => (a (ix2 r q) : EReal) + u) (pay2_at m c t x p r q hx)

/-- The rows kept after any point are the normalised rows of its block of rows. -/
theorem keep (c : Dev nD) : ∀ (n : ℕ) (hb : n < cfg0.N) (r : Fin 512) (k : Fin 2048),
    (outsAt0 m c n hb).2.1 (ix2 r k) = hn m c (row ⟨n, hb⟩ r) k
  | n, hb, r, k => by
    by_cases h0 : n % 16 = 0
    · rw [show outsAt0 m c n hb = _ from outsAt0_A m c ⟨n, hb⟩ h0 h0 (by show ¬1 ≤ n % 16; omega) (by show ¬n % 16 = 15; omega)]
      dsimp only
      rw [keep_A]
      exact pay1_apply m c ⟨n, hb⟩ r k
    · have ih : (outsAt0 m c (n - 1) (Nat.lt_of_le_of_lt (Nat.sub_le _ _) hb)).2.1 (ix2 r k) = hn m c (row ⟨n, hb⟩ r) k := by
        refine (keep c (n - 1) (Nat.lt_of_le_of_lt (Nat.sub_le _ _) hb) r k).trans ?_
        refine congrArg (fun p => hn m c p k) (Fin.ext ?_)
        show (n - 1) / 16 * 512 + r.val = n / 16 * 512 + r.val
        omega
      by_cases h3 : n % 16 = 15
      · rw [show outsAt0 m c n hb = _ from outsAt0_C m c ⟨n, hb⟩ h0 h0 (by show 1 ≤ n % 16; omega) h3]
        exact ih
      · rw [show outsAt0 m c n hb = _ from outsAt0_B m c ⟨n, hb⟩ h0 h0 (by show 1 ≤ n % 16; omega) h3]
        exact ih
termination_by n => n
decreasing_by omega

/-- The rows kept before a point that is not the first of its block of rows are that block's. -/
theorem keep_before (c : Dev nD) (n : ℕ) (hb : n < cfg0.N) (h0 : ¬n % 16 = 0) (r : Fin 512) (k : Fin 2048) :
    (outsAt0 m c (n - 1) (Nat.lt_of_le_of_lt (Nat.sub_le _ _) hb)).2.1 (ix2 r k) = hn m c (row ⟨n, hb⟩ r) k := by
  refine (keep m c (n - 1) (Nat.lt_of_le_of_lt (Nat.sub_le _ _) hb) r k).trans ?_
  refine congrArg (fun p => hn m c p k) (Fin.ext ?_)
  show (n - 1) / 16 * 512 + r.val = n / 16 * 512 + r.val
  omega

/-- Adding a point's contribution to the sum before it. -/
theorem step (c : Dev nD) (n : ℕ) (hb : n < cfg0.N) (h0 : ¬n % 16 = 0) (r : Fin 512) (q : Fin 2048) (a : EReal)
    (ha : a = ∑ j ∈ Finset.range ((n - 1) % 16 + 1), part m c (row ⟨n - 1, Nat.lt_of_le_of_lt (Nat.sub_le _ _) hb⟩ r) q j) :
    a + part m c (row ⟨n, hb⟩ r) q n = ∑ j ∈ Finset.range (n % 16 + 1), part m c (row ⟨n, hb⟩ r) q j := by
  have er : row ⟨n - 1, Nat.lt_of_le_of_lt (Nat.sub_le _ _) hb⟩ r = row ⟨n, hb⟩ r := Fin.ext (by
    show (n - 1) / 16 * 512 + r.val = n / 16 * 512 + r.val
    omega)
  have en : (n - 1) % 16 + 1 = n % 16 := by omega
  rw [ha, er, en, Finset.sum_range_succ]
  refine congrArg (fun u : EReal => _ + u) (Finset.sum_congr rfl fun s _ => congrArg (term m c _ q) (Fin.ext ?_))
  show n % 16 * 512 + s.val = n % 16 % 16 * 512 + s.val
  omega

/-- The running sum after any point: the contributions of the blocks of hidden units met so far. -/
theorem acc (c : Dev nD) : ∀ (n : ℕ) (hb : n < cfg0.N) (r : Fin 512) (q : Fin 2048),
    (outsAt0 m c n hb).2.2 (ix2 r q) = ∑ j ∈ Finset.range (n % 16 + 1), part m c (row ⟨n, hb⟩ r) q j
  | n, hb, r, q => by
    by_cases h0 : n % 16 = 0
    · rw [show outsAt0 m c n hb = _ from outsAt0_A m c ⟨n, hb⟩ h0 h0 (by show ¬1 ≤ n % 16; omega) (by show ¬n % 16 = 15; omega)]
      dsimp only
      rw [acc_A]
      refine (pay3_at m c ⟨n, hb⟩ _ (row ⟨n, hb⟩ r) r q (fun k => pay1_apply m c ⟨n, hb⟩ r k)).trans ?_
      rw [h0, Finset.sum_range_one]
      refine Finset.sum_congr rfl fun s _ => congrArg (term m c _ q) (Fin.ext ?_)
      show n % 16 * 512 + s.val = 0 % 16 * 512 + s.val
      omega
    · have ih := acc c (n - 1) (Nat.lt_of_le_of_lt (Nat.sub_le _ _) hb) r q
      by_cases h3 : n % 16 = 15
      · rw [show outsAt0 m c n hb = _ from outsAt0_C m c ⟨n, hb⟩ h0 h0 (by show 1 ≤ n % 16; omega) h3]
        dsimp only
        rw [acc_C]
        exact (pay4_at m c ⟨n, hb⟩ _ _ (row ⟨n, hb⟩ r) r q (keep_before m c n hb h0 r)).trans (step m c n hb h0 r q _ ih)
      · rw [show outsAt0 m c n hb = _ from outsAt0_B m c ⟨n, hb⟩ h0 h0 (by show 1 ≤ n % 16; omega) h3]
        dsimp only
        rw [acc_B]
        exact (pay4_at m c ⟨n, hb⟩ _ _ (row ⟨n, hb⟩ r) r q (keep_before m c n hb h0 r)).trans (step m c n hb h0 r q _ ih)
termination_by n => n
decreasing_by omega

/-- The sum that the last point of a block of rows writes from: all the hidden units' contributions. -/
theorem full (c : Dev nD) (n : ℕ) (hb : n < cfg0.N) (h3 : n % 16 = 15) (r : Fin 512) (q : Fin 2048) :
    k0_pay4 (F := Ideal) (outsAt0 m c (n - 1) (Nat.lt_of_le_of_lt (Nat.sub_le _ _) hb)).2.1 (iblk m c 2 ⟨n, hb⟩) (iblk m c 3 ⟨n, hb⟩)
      (outsAt0 m c (n - 1) (Nat.lt_of_le_of_lt (Nat.sub_le _ _) hb)).2.2 (ix2 r q)
      = ∑ f : Fin 8192, term m c (row ⟨n, hb⟩ r) q f := by
  have h0 : ¬n % 16 = 0 := by omega
  refine ((pay4_at m c ⟨n, hb⟩ _ _ (row ⟨n, hb⟩ r) r q (keep_before m c n hb h0 r)).trans (step m c n hb h0 r q _
    (acc m c (n - 1) (Nat.lt_of_le_of_lt (Nat.sub_le _ _) hb) r q))).trans ?_
  rw [h3]
  exact parts m c _ q

/-- The block written at the last point of a block of rows. -/
theorem out (c : Dev nD) (n : ℕ) (hb : n < cfg0.N) (h3 : n % 16 = 15) (r : Fin 512) (q : Fin 2048) :
    (outsAt0 m c n hb).1 (ix2 r q) = h m c (ix2 (row ⟨n, hb⟩ r) q) + ∑ f : Fin 8192, term m c (row ⟨n, hb⟩ r) q f := by
  rw [show outsAt0 m c n hb = _ from outsAt0_C m c ⟨n, hb⟩ (by show ¬n % 16 = 0; omega) (by show ¬n % 16 = 0; omega) (by show 1 ≤ n % 16; omega) h3]
  dsimp only
  rw [out_C]
  unfold k0_pay5
  exact congrArg₂ (fun u v : EReal => u + v) (blk0 m c ⟨n, hb⟩ r q) (full m c n hb h3 r q)

/-- What the result array ends holding is the reference's result. -/
theorem final (c : Dev nD) : Value.G4 m c = R m c := by
  funext j
  obtain ⟨p, q, rfl⟩ : ∃ (p : Fin 8192) (q : Fin 2048), j = ix2 p q := ⟨j 0, j 1, ValueIdx.eq_ix2 j⟩
  have hp := p.isLt
  have hq := q.isLt
  have hN : cfg0.N = 256 := Gen.N_0
  have ept : Value.pt4Of (ix2 p q) = 16 * (1 * (p.val / 512 - 0) + 1 * (q.val / 2048 - 0)) + 15 := rfl
  have ht : Value.pt4Of (ix2 p q) < cfg0.N := by
    rw [ept]
    omega
  unfold Value.G4
  rw [dif_pos ht, ← Value.outsAt0_sweep m c _ ht]
  have e : Value.loc4Of (ix2 p q) = ix2 (⟨p.val % 512, by omega⟩ : Fin 512) q :=
    funext fun a => by
      match a with
      | ⟨0, _⟩ => rfl
      | ⟨1, _⟩ => exact Fin.ext (Nat.mod_eq_of_lt hq)
  rw [e]
  refine (out m c _ ht (by rw [ept]; omega) _ _).trans (Eq.trans ?_ (ref_apply m c p q).symm)
  have er : row ⟨Value.pt4Of (ix2 p q), ht⟩ (⟨p.val % 512, by omega⟩ : Fin 512) = p := Fin.ext (by
    show (16 * (1 * (p.val / 512 - 0) + 1 * (q.val / 2048 - 0)) + 15) / 16 * 512 + p.val % 512 = p.val
    omega)
  rw [er]

/-- The run: the result array at the reference's result, the arguments unchanged. -/
theorem run : θ_run defs (onTc (τ := τ) (main (F := Ideal))) ⟨m, fun _ => 0, ρ⟩ fun r => ∀ c : Dev nD,
      r.2.mem ((c : Thread nD τ).loc main_v3) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run m ρ)

end Cert.Kernel3Ideal.Dense

end
-- ==== Proof.Dense.ProjOdd.lean ====
/- The normalised input projection of one layer: what the kernel's run leaves is the reference's product. The kernel
   normalises 1024 rows once, keeps them while it goes through the blocks of columns, and multiplies them by each. -/
module

public import proofs.«01_k».proof.Proof.Dense.Common
public import proofs.«01_k».proof.Proof.Gen.Kernel4Ideal.Value
public import proofs.«01_k».proof.Proof.Gen.Reference4Ideal.Read
public import Idealize.ShloMosaic.Lib.Pipeline.Value
public import Idealize.ShloMosaic.Lib.Tactic

@[expose] public section

set_option maxRecDepth 16384

noncomputable section

namespace Cert.Kernel4Ideal.Dense

open Cert.Kernel4Ideal Cert.Kernel4Ideal.Gen Cert.Dense Idealize.ShloMosaic.TcCoe Idealize.SL.Sem Idealize.ShloMosaic.ValueIdx
open Idealize.ShloMosaic.Tactic
open Idealize.ShloMosaic hiding ix0 ix1 ix2 ix3

theorem hz : (![0, 0] : Fin 2 → ℕ) = fun _ => 0 := by funext a; fin_cases a <;> rfl

section Body

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .bf16) (harg5 : arg5.IsWhole)
  (arg6 : Memref sig .tc .vmem S1024x2048 .bf16) (harg6 : arg6.IsWhole)

/-- At the first block of columns the rows kept are the normalised rows. -/
theorem keep_A (hc0 : cond0_0 i) (x0 : Vec F S1024x2048 .f32) (x1 : Vec F S1x2048 .f32) (x2 : Vec F S2048x512 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread]
  rw [View.canon_unit_zero hz, View.ld_unit_zero hz, View.ld_unit_zero hz]

/-- … and the block written is their product with the block of weights. -/
theorem out_A (hc0 : cond0_0 i) (x0 : Vec F S1024x2048 .f32) (x1 : Vec F S1x2048 .f32) (x2 : Vec F S2048x512 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread]
  rw [View.canon_unit_zero hz, View.readCov_unit_zero _ hz, View.ld_unit_zero hz, View.ld_unit_zero hz, View.ld_unit_zero hz]

/-- Later the block written is the product of the rows kept with the block of weights. -/
theorem out_B (hc0 : ¬cond0_0 i) (x0 : Vec F S1024x2048 .f32) (x1 : Vec F S1x2048 .f32) (x2 : Vec F S2048x512 .bf16) (xs : Vec F S1024x2048 .bf16) :
    out0_B_3 c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  simp only [View.readAt_eq_ld, harg2.read_unread, harg3.read_unread, harg4.read_unread, harg6.read_unread]
  rw [View.canon_unit_zero hz, View.ld_unit_zero hz, View.ld_unit_zero hz]

end Body

variable (m : (ℓ : Loc nD τ sig) → Buf (Elt Ideal) ℓ) (ρ : Dev nD → PrngReg)

/-- The residual stream. -/
abbrev h (c : Dev nD) : S8192x2048.Idx → EReal := m ((c : Thread nD τ).loc main_arg0)
/-- The gains. -/
abbrev g (c : Dev nD) : S2048.Idx → EReal := m ((c : Thread nD τ).loc main_arg1)
/-- The weights. -/
abbrev w (c : Dev nD) : S2048x6144.Idx → EReal := m ((c : Thread nD τ).loc main_arg2)

/-- The reference's result over the kernel's arguments. -/
abbrev R (c : Dev nD) : Buf (Elt Ideal) ((c : Thread nD τ).loc main_v2) :=
  Cert.Reference4Ideal.Read.val_main_v14 (F := Ideal) (h m c) (g m c) (w m c)

/-- The normalised rows. -/
def hn (c : Dev nD) (p : Fin 8192) (k : Fin 2048) : EReal := rms (fun j => h m c (ix2 p j)) (fun j => g m c (ix1 j)) k

open Cert.Reference4Ideal.Read in
/-- The reference's normalised rows. -/
theorem ref_norm (x : S8192x2048.Idx → EReal) (y : S2048.Idx → EReal) (p : Fin 8192) (k : Fin 2048) :
    val_main_v12 (F := Ideal) x y (ix2 p k) = rms (fun j => x (ix2 p j)) (fun j => y (ix1 j)) k := by
  have e1 : val_main_v1 (F := Ideal) x (ix1 p) = ∑ j : Fin 2048, x (ix2 p j) * x (ix2 p j) := by
    rw [val_main_v1_apply, val_main_cst_apply]
    refine (congrArg (· + _) Ideal.ofBits_zero_f32).trans ((zero_add _).trans (Finset.sum_congr rfl fun j _ => ?_))
    have e : idx_main_v1 (ix1 p) j = ix2 p j := funext fun a => by match a with | ⟨0, _⟩ => rfl | ⟨1, _⟩ => rfl
    rw [e]
    rfl
  have e2 : idx_main_v2 (idx_main_v8 (ix2 p k)) = ix1 p := funext fun a => by match a with | ⟨0, _⟩ => rfl
  have e3 : idx_main_v10 (idx_main_v11 (ix2 p k)) = ix1 k := funext fun a => by match a with | ⟨0, _⟩ => rfl
  rw [val_main_v12_apply, val_main_v9_apply, val_main_v8_apply, val_main_v7_apply, val_main_v6_apply, val_main_v4_apply,
    val_main_v2_apply, val_main_v3_apply, val_main_v5_apply, val_main_v11_apply, val_main_v10_apply, e2, e3, e1]
  rfl

/-- The reference at an index. -/
theorem ref_apply (c : Dev nD) (p : Fin 8192) (q : Fin 6144) :
    (R m c (ix2 p q) : EReal) = ∑ k : Fin 2048, hn m c p k * w m c (ix2 k q) := by
  show Cert.Reference4Ideal.Read.val_main_v13 (F := Ideal) (h m c) (g m c) (w m c) (ix2 p q) = _
  rw [Cert.Reference4Ideal.Read.val_main_v13_apply]
  refine Finset.sum_congr rfl fun k _ => ?_
  have e1 : Cert.Reference4Ideal.Read.lidx_main_v13 (ix2 p q) k = ix2 p k := funext fun a => by match a with | ⟨0, _⟩ => rfl | ⟨1, _⟩ => rfl
  have e2 : Cert.Reference4Ideal.Read.ridx_main_v13 (ix2 p q) k = ix2 k q := funext fun a => by match a with | ⟨0, _⟩ => rfl | ⟨1, _⟩ => rfl
  rw [e1, e2, ref_norm]
  rfl

/-- The windows' block indices over the 8 × 12 grid. -/
theorem idx : ∀ t : Fin grid0.N,
    (win0_0.index t 0 = t.val / 12 ∧ win0_0.index t 1 = 0) ∧ (win0_1.index t 0 = 0 ∧ win0_1.index t 1 = 0)
    ∧ (win0_2.index t 0 = 0 ∧ win0_2.index t 1 = t.val % 12) := by
  decide +kernel

theorem lt_N (t : Fin grid0.N) : t.val < 96 := Nat.lt_of_lt_of_eq t.isLt Gen.N_0

/-- The row of the residual stream that a block's row is. -/
abbrev row (t : Fin grid0.N) (r : Fin 1024) : Fin 8192 := ⟨t.val / 12 * 1024 + r.val, by have := lt_N t; have := r.isLt; omega⟩
/-- The column of the weights that a block's column is. -/
abbrev col (t : Fin grid0.N) (s : Fin 512) : Fin 6144 := ⟨t.val % 12 * 512 + s.val, by have := s.isLt; omega⟩

theorem V_h (c : Dev nD) : V m c main_arg0 = h m c := V_main_arg0 m c
/-- The weights as the kernel takes them. -/
theorem V_w (c : Dev nD) : V m c main_v0 = w m c := by
  show StableHlo.after hostOps0 _ (Proc.devRef .tc main_v0) = _
  after_results
  rfl
/-- The gains as the kernel takes them: one row. -/
theorem V_g (c : Dev nD) (k : Fin 2048) : V m c main_v1 (ix2 0 k) = g m c (ix1 k) := by
  show StableHlo.after hostOps0 _ (Proc.devRef .tc main_v1) _ = _
  after_results
  refine shapeCast_apply _ _ (ix2 0 k) (ix1 k) ?_
  rw [Shape.rowMajor_val_one, Shape.rowMajor_val_two]
  show k.val = 0 * 2048 + k.val
  omega

/-- The block of rows. -/
theorem blk0 (c : Dev nD) (t : Fin cfg0.N) (r : Fin 1024) (k : Fin 2048) :
    (iblk m c 0 t : Vec Ideal S1024x2048 .f32) (ix2 r k) = h m c (ix2 (row t r) k) := by
  have e := (idx t).1
  unfold iblk
  rw [View.read_apply]
  show V m c main_arg0 _ = _
  rw [← V_h]
  refine congrArg (V m c main_arg0) (funext fun a => Fin.ext ?_)
  match a with
  | ⟨0, _⟩ => show win0_0.index t 0 * 1024 + 1 * r.val = t.val / 12 * 1024 + r.val; rw [e.1]; omega
  | ⟨1, _⟩ => show win0_0.index t 1 * 2048 + 1 * k.val = k.val; rw [e.2]; omega

/-- The gains' block. -/
theorem blk1 (c : Dev nD) (t : Fin cfg0.N) (k : Fin 2048) :
    (iblk m c 1 t : Vec Ideal S1x2048 .f32) (ix2 0 k) = g m c (ix1 k) := by
  have e := (idx t).2.1
  unfold iblk
  rw [View.read_apply]
  show V m c main_v1 _ = _
  rw [← V_g]
  refine congrArg (V m c main_v1) (funext fun a => Fin.ext ?_)
  match a with
  | ⟨0, _⟩ => show win0_1.index t 0 * 1 + 1 * 0 = 0; rw [e.1]
  | ⟨1, _⟩ => show win0_1.index t 1 * 2048 + 1 * k.val = k.val; rw [e.2]; omega

/-- The block of weights. -/
theorem blk2 (c : Dev nD) (t : Fin cfg0.N) (k : Fin 2048) (s : Fin 512) :
    (iblk m c 2 t : Vec Ideal S2048x512 .bf16) (ix2 k s) = w m c (ix2 k (col t s)) := by
  have e := (idx t).2.2
  unfold iblk
  rw [View.read_apply]
  show V m c main_v0 _ = _
  rw [← V_w]
  refine congrArg (V m c main_v0) (funext fun a => Fin.ext ?_)
  match a with
  | ⟨0, _⟩ => show win0_2.index t 0 * 2048 + 1 * k.val = k.val; rw [e.1]; omega
  | ⟨1, _⟩ => show win0_2.index t 1 * 512 + 1 * s.val = t.val % 12 * 512 + s.val; rw [e.2]; omega

/-- The normalised rows of a block. -/
theorem pay1_apply (c : Dev nD) (t : Fin cfg0.N) (r : Fin 1024) (k : Fin 2048) :
    k0_pay1 (F := Ideal) (iblk m c 0 t) (iblk m c 1 t) (ix2 r k) = hn m c (row t r) k := by
  unfold k0_pay1
  dsimp only
  rw [shapeCast_self, shapeCast_self]
  refine (norm_apply (iblk m c 0 t : Vec Ideal S1024x2048 .f32) (iblk m c 1 t : Vec Ideal S1x2048 .f32) _ _ _ _ r k).trans ?_
  unfold hn
  exact congrArg₂ (fun a b => rms a b k) (funext fun j => blk0 m c t r j) (funext fun j => blk1 m c t j)

/-- Rows times a block of weights. -/
theorem pay2_apply (x : Vec Ideal S1024x2048 .bf16) (y : Vec Ideal S2048x512 .bf16) (r : Fin 1024) (s : Fin 512) :
    k0_pay2 (F := Ideal) x y (ix2 r s) = ∑ k : Fin 2048, (x (ix2 r k) : EReal) * y (ix2 k s) := by
  unfold k0_pay2
  show matmul (F := Ideal) (φ₁ := .bf16) (φ₂ := .bf16) dot_S1024x2048_S2048x512_S1024x512_1_0_0_1_n_n none x (shapeCast S2048x512 y _) _ (ix2 r s) = _
  rw [shapeCast_self]
  exact mm_apply (φ₁ := .bf16) (φ₂ := .bf16) _ _ rfl x y r s

/-- The rows kept after any point are the normalised rows of its block of rows. -/
theorem keep (c : Dev nD) : ∀ (n : ℕ) (hb : n < cfg0.N) (r : Fin 1024) (k : Fin 2048),
    (outsAt0 m c n hb).2 (ix2 r k) = hn m c (row ⟨n, hb⟩ r) k
  | n, hb, r, k => by
    by_cases h0 : n % 12 = 0
    · rw [show outsAt0 m c n hb = _ from outsAt0_A m c ⟨n, hb⟩ h0]
      dsimp only
      rw [keep_A]
      exact pay1_apply m c ⟨n, hb⟩ r k
    · rw [show outsAt0 m c n hb = _ from outsAt0_B m c ⟨n, hb⟩ h0]
      refine (keep c (n - 1) (Nat.lt_of_le_of_lt (Nat.sub_le _ _) hb) r k).trans ?_
      refine congrArg (fun p => hn m c p k) (Fin.ext ?_)
      show (n - 1) / 12 * 1024 + r.val = n / 12 * 1024 + r.val
      omega
termination_by n => n
decreasing_by omega

/-- The block a point writes. -/
theorem out (c : Dev nD) (t : Fin cfg0.N) (r : Fin 1024) (s : Fin 512) :
    (outsAt0 m c t.val t.isLt).1 (ix2 r s) = ∑ k : Fin 2048, hn m c (row t r) k * w m c (ix2 k (col t s)) := by
  by_cases h0 : t.val % 12 = 0
  · rw [outsAt0_A m c t h0]
    dsimp only
    rw [out_A]
    refine (pay2_apply _ _ r s).trans (Finset.sum_congr rfl fun k _ => ?_)
    rw [pay1_apply m c t r k, blk2 m c t k s]
  · rw [outsAt0_B m c t h0]
    dsimp only
    rw [out_B]
    refine (pay2_apply _ _ r s).trans (Finset.sum_congr rfl fun k _ => ?_)
    rw [keep m c, blk2 m c t k s]
    refine congrArg (fun p => hn m c p k * w m c (ix2 k (col t s))) (Fin.ext ?_)
    show (t.val - 1) / 12 * 1024 + r.val = t.val / 12 * 1024 + r.val
    omega

/-- What the result array ends holding is the reference's result. -/
theorem final (c : Dev nD) : Value.G3 m c = R m c := by
  funext j
  obtain ⟨p, q, rfl⟩ : ∃ (p : Fin 8192) (q : Fin 6144), j = ix2 p q := ⟨j 0, j 1, ValueIdx.eq_ix2 j⟩
  have hp := p.isLt
  have hq := q.isLt
  have hN : cfg0.N = 96 := Gen.N_0
  have ht : Value.pt3Of (ix2 p q) < cfg0.N := by
    show 12 * (p.val / 1024 - 0) + 1 * (q.val / 512 - 0) < cfg0.N
    omega
  unfold Value.G3
  rw [dif_pos ht, ← Value.outsAt0_sweep m c _ ht]
  have e : Value.loc3Of (ix2 p q) = ix2 (⟨p.val % 1024, by omega⟩ : Fin 1024) (⟨q.val % 512, by omega⟩ : Fin 512) :=
    funext fun a => by match a with | ⟨0, _⟩ => rfl | ⟨1, _⟩ => rfl
  rw [e]
  refine (out m c ⟨_, ht⟩ _ _).trans (Eq.trans ?_ (ref_apply m c p q).symm)
  have er : row ⟨Value.pt3Of (ix2 p q), ht⟩ (⟨p.val % 1024, by omega⟩ : Fin 1024) = p := Fin.ext (by
    show (12 * (p.val / 1024 - 0) + 1 * (q.val / 512 - 0)) / 12 * 1024 + p.val % 1024 = p.val
    omega)
  have ec : col ⟨Value.pt3Of (ix2 p q), ht⟩ (⟨q.val % 512, by omega⟩ : Fin 512) = q := Fin.ext (by
    show (12 * (p.val / 1024 - 0) + 1 * (q.val / 512 - 0)) % 12 * 512 + q.val % 512 = q.val
    omega)
  rw [er, ec]

/-- The run: the result array at the reference's result, the arguments unchanged. -/
theorem run : θ_run defs (onTc (τ := τ) (main (F := Ideal))) ⟨m, fun _ => 0, ρ⟩ fun r => ∀ c : Dev nD,
      r.2.mem ((c : Thread nD τ).loc main_v2) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run m ρ)

end Cert.Kernel4Ideal.Dense

end
-- ==== Proof.Dense.ProjEven.lean ====
/- The normalised input projection of the other layer, kept in single precision: what the kernel's run leaves is the reference's product. The kernel
   normalises 1024 rows once, keeps them while it goes through the blocks of columns, and multiplies them by each. -/
module

public import proofs.«01_k».proof.Proof.Dense.Common
public import proofs.«01_k».proof.Proof.Gen.Kernel5Ideal.Value
public import proofs.«01_k».proof.Proof.Gen.Reference5Ideal.Read
public import Idealize.ShloMosaic.Lib.Pipeline.Value
public import Idealize.ShloMosaic.Lib.Tactic

@[expose] public section

set_option maxRecDepth 16384

noncomputable section

namespace Cert.Kernel5Ideal.Dense

open Cert.Kernel5Ideal Cert.Kernel5Ideal.Gen Cert.Dense Idealize.ShloMosaic.TcCoe Idealize.SL.Sem Idealize.ShloMosaic.ValueIdx
open Idealize.ShloMosaic.Tactic
open Idealize.ShloMosaic hiding ix0 ix1 ix2 ix3

theorem hz : (![0, 0] : Fin 2 → ℕ) = fun _ => 0 := by funext a; fin_cases a <;> rfl

section Body

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .f32) (harg5 : arg5.IsWhole)
  (arg6 : Memref sig .tc .vmem S1024x2048 .bf16) (harg6 : arg6.IsWhole)

/-- At the first block of columns the rows kept are the normalised rows. -/
theorem keep_A (hc0 : cond0_0 i) (x0 : Vec F S1024x2048 .f32) (x1 : Vec F S1x2048 .f32) (x2 : Vec F S2048x512 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread]
  rw [View.canon_unit_zero hz, View.ld_unit_zero hz, View.ld_unit_zero hz]

/-- … and the block written is their product with the block of weights. -/
theorem out_A (hc0 : cond0_0 i) (x0 : Vec F S1024x2048 .f32) (x1 : Vec F S1x2048 .f32) (x2 : Vec F S2048x512 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread]
  rw [View.canon_unit_zero hz, View.readCov_unit_zero _ hz, View.ld_unit_zero hz, View.ld_unit_zero hz, View.ld_unit_zero hz]

/-- Later the block written is the product of the rows kept with the block of weights. -/
theorem out_B (hc0 : ¬cond0_0 i) (x0 : Vec F S1024x2048 .f32) (x1 : Vec F S1x2048 .f32) (x2 : Vec F S2048x512 .bf16) (xs : Vec F S1024x2048 .bf16) :
    out0_B_3 c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  simp only [View.readAt_eq_ld, harg2.read_unread, harg3.read_unread, harg4.read_unread, harg6.read_unread]
  rw [View.canon_unit_zero hz, View.ld_unit_zero hz, View.ld_unit_zero hz]

end Body

variable (m : (ℓ : Loc nD τ sig) → Buf (Elt Ideal) ℓ) (ρ : Dev nD → PrngReg)

/-- The residual stream. -/
abbrev h (c : Dev nD) : S8192x2048.Idx → EReal := m ((c : Thread nD τ).loc main_arg0)
/-- The gains. -/
abbrev g (c : Dev nD) : S2048.Idx → EReal := m ((c : Thread nD τ).loc main_arg1)
/-- The weights. -/
abbrev w (c : Dev nD) : S2048x3584.Idx → EReal := m ((c : Thread nD τ).loc main_arg2)

/-- The reference's result over the kernel's arguments. -/
abbrev R (c : Dev nD) : Buf (Elt Ideal) ((c : Thread nD τ).loc main_v2) :=
  Cert.Reference5Ideal.Read.val_main_v13 (F := Ideal) (h m c) (g m c) (w m c)

/-- The normalised rows. -/
def hn (c : Dev nD) (p : Fin 8192) (k : Fin 2048) : EReal := rms (fun j => h m c (ix2 p j)) (fun j => g m c (ix1 j)) k

open Cert.Reference5Ideal.Read in
/-- The reference's normalised rows. -/
theorem ref_norm (x : S8192x2048.Idx → EReal) (y : S2048.Idx → EReal) (p : Fin 8192) (k : Fin 2048) :
    val_main_v12 (F := Ideal) x y (ix2 p k) = rms (fun j => x (ix2 p j)) (fun j => y (ix1 j)) k := by
  have e1 : val_main_v1 (F := Ideal) x (ix1 p) = ∑ j : Fin 2048, x (ix2 p j) * x (ix2 p j) := by
    rw [val_main_v1_apply, val_main_cst_apply]
    refine (congrArg (· + _) Ideal.ofBits_zero_f32).trans ((zero_add _).trans (Finset.sum_congr rfl fun j _ => ?_))
    have e : idx_main_v1 (ix1 p) j = ix2 p j := funext fun a => by match a with | ⟨0, _⟩ => rfl | ⟨1, _⟩ => rfl
    rw [e]
    rfl
  have e2 : idx_main_v2 (idx_main_v8 (ix2 p k)) = ix1 p := funext fun a => by match a with | ⟨0, _⟩ => rfl
  have e3 : idx_main_v10 (idx_main_v11 (ix2 p k)) = ix1 k := funext fun a => by match a with | ⟨0, _⟩ => rfl
  rw [val_main_v12_apply, val_main_v9_apply, val_main_v8_apply, val_main_v7_apply, val_main_v6_apply, val_main_v4_apply,
    val_main_v2_apply, val_main_v3_apply, val_main_v5_apply, val_main_v11_apply, val_main_v10_apply, e2, e3, e1]
  rfl

/-- The reference at an index. -/
theorem ref_apply (c : Dev nD) (p : Fin 8192) (q : Fin 3584) :
    (R m c (ix2 p q) : EReal) = ∑ k : Fin 2048, hn m c p k * w m c (ix2 k q) := by
  show Cert.Reference5Ideal.Read.val_main_v13 (F := Ideal) (h m c) (g m c) (w m c) (ix2 p q) = _
  rw [Cert.Reference5Ideal.Read.val_main_v13_apply]
  refine Finset.sum_congr rfl fun k _ => ?_
  have e1 : Cert.Reference5Ideal.Read.lidx_main_v13 (ix2 p q) k = ix2 p k := funext fun a => by match a with | ⟨0, _⟩ => rfl | ⟨1, _⟩ => rfl
  have e2 : Cert.Reference5Ideal.Read.ridx_main_v13 (ix2 p q) k = ix2 k q := funext fun a => by match a with | ⟨0, _⟩ => rfl | ⟨1, _⟩ => rfl
  rw [e1, e2, ref_norm]
  rfl

/-- The windows' block indices over the 8 × 7 grid. -/
theorem idx : ∀ t : Fin grid0.N,
    (win0_0.index t 0 = t.val / 7 ∧ win0_0.index t 1 = 0) ∧ (win0_1.index t 0 = 0 ∧ win0_1.index t 1 = 0)
    ∧ (win0_2.index t 0 = 0 ∧ win0_2.index t 1 = t.val % 7) := by
  decide +kernel

theorem lt_N (t : Fin grid0.N) : t.val < 56 := Nat.lt_of_lt_of_eq t.isLt Gen.N_0

/-- The row of the residual stream that a block's row is. -/
abbrev row (t : Fin grid0.N) (r : Fin 1024) : Fin 8192 := ⟨t.val / 7 * 1024 + r.val, by have := lt_N t; have := r.isLt; omega⟩
/-- The column of the weights that a block's column is. -/
abbrev col (t : Fin grid0.N) (s : Fin 512) : Fin 3584 := ⟨t.val % 7 * 512 + s.val, by have := s.isLt; omega⟩

theorem V_h (c : Dev nD) : V m c main_arg0 = h m c := V_main_arg0 m c
/-- The weights as the kernel takes them. -/
theorem V_w (c : Dev nD) : V m c main_v0 = w m c := by
  show StableHlo.after hostOps0 _ (Proc.devRef .tc main_v0) = _
  after_results
  rfl
/-- The gains as the kernel takes them: one row. -/
theorem V_g (c : Dev nD) (k : Fin 2048) : V m c main_v1 (ix2 0 k) = g m c (ix1 k) := by
  show StableHlo.after hostOps0 _ (Proc.devRef .tc main_v1) _ = _
  after_results
  refine shapeCast_apply _ _ (ix2 0 k) (ix1 k) ?_
  rw [Shape.rowMajor_val_one, Shape.rowMajor_val_two]
  show k.val = 0 * 2048 + k.val
  omega

/-- The block of rows. -/
theorem blk0 (c : Dev nD) (t : Fin cfg0.N) (r : Fin 1024) (k : Fin 2048) :
    (iblk m c 0 t : Vec Ideal S1024x2048 .f32) (ix2 r k) = h m c (ix2 (row t r) k) := by
  have e := (idx t).1
  unfold iblk
  rw [View.read_apply]
  show V m c main_arg0 _ = _
  rw [← V_h]
  refine congrArg (V m c main_arg0) (funext fun a => Fin.ext ?_)
  match a with
  | ⟨0, _⟩ => show win0_0.index t 0 * 1024 + 1 * r.val = t.val / 7 * 1024 + r.val; rw [e.1]; omega
  | ⟨1, _⟩ => show win0_0.index t 1 * 2048 + 1 * k.val = k.val; rw [e.2]; omega

/-- The gains' block. -/
theorem blk1 (c : Dev nD) (t : Fin cfg0.N) (k : Fin 2048) :
    (iblk m c 1 t : Vec Ideal S1x2048 .f32) (ix2 0 k) = g m c (ix1 k) := by
  have e := (idx t).2.1
  unfold iblk
  rw [View.read_apply]
  show V m c main_v1 _ = _
  rw [← V_g]
  refine congrArg (V m c main_v1) (funext fun a => Fin.ext ?_)
  match a with
  | ⟨0, _⟩ => show win0_1.index t 0 * 1 + 1 * 0 = 0; rw [e.1]
  | ⟨1, _⟩ => show win0_1.index t 1 * 2048 + 1 * k.val = k.val; rw [e.2]; omega

/-- The block of weights. -/
theorem blk2 (c : Dev nD) (t : Fin cfg0.N) (k : Fin 2048) (s : Fin 512) :
    (iblk m c 2 t : Vec Ideal S2048x512 .bf16) (ix2 k s) = w m c (ix2 k (col t s)) := by
  have e := (idx t).2.2
  unfold iblk
  rw [View.read_apply]
  show V m c main_v0 _ = _
  rw [← V_w]
  refine congrArg (V m c main_v0) (funext fun a => Fin.ext ?_)
  match a with
  | ⟨0, _⟩ => show win0_2.index t 0 * 2048 + 1 * k.val = k.val; rw [e.1]; omega
  | ⟨1, _⟩ => show win0_2.index t 1 * 512 + 1 * s.val = t.val % 7 * 512 + s.val; rw [e.2]; omega

/-- The normalised rows of a block. -/
theorem pay1_apply (c : Dev nD) (t : Fin cfg0.N) (r : Fin 1024) (k : Fin 2048) :
    k0_pay1 (F := Ideal) (iblk m c 0 t) (iblk m c 1 t) (ix2 r k) = hn m c (row t r) k := by
  unfold k0_pay1
  dsimp only
  rw [shapeCast_self, shapeCast_self]
  refine (norm_apply (iblk m c 0 t : Vec Ideal S1024x2048 .f32) (iblk m c 1 t : Vec Ideal S1x2048 .f32) _ _ _ _ r k).trans ?_
  unfold hn
  exact congrArg₂ (fun a b => rms a b k) (funext fun j => blk0 m c t r j) (funext fun j => blk1 m c t j)

/-- Rows times a block of weights. -/
theorem pay2_apply (x : Vec Ideal S1024x2048 .bf16) (y : Vec Ideal S2048x512 .bf16) (r : Fin 1024) (s : Fin 512) :
    k0_pay2 (F := Ideal) x y (ix2 r s) = ∑ k : Fin 2048, (x (ix2 r k) : EReal) * y (ix2 k s) := by
  unfold k0_pay2
  show matmul (F := Ideal) (φ₁ := .bf16) (φ₂ := .bf16) dot_S1024x2048_S2048x512_S1024x512_1_0_0_1_n_n none x (shapeCast S2048x512 y _) _ (ix2 r s) = _
  rw [shapeCast_self]
  exact mm_apply (φ₁ := .bf16) (φ₂ := .bf16) _ _ rfl x y r s

/-- The rows kept after any point are the normalised rows of its block of rows. -/
theorem keep (c : Dev nD) : ∀ (n : ℕ) (hb : n < cfg0.N) (r : Fin 1024) (k : Fin 2048),
    (outsAt0 m c n hb).2 (ix2 r k) = hn m c (row ⟨n, hb⟩ r) k
  | n, hb, r, k => by
    by_cases h0 : n % 7 = 0
    · rw [show outsAt0 m c n hb = _ from outsAt0_A m c ⟨n, hb⟩ h0]
      dsimp only
      rw [keep_A]
      exact pay1_apply m c ⟨n, hb⟩ r k
    · rw [show outsAt0 m c n hb = _ from outsAt0_B m c ⟨n, hb⟩ h0]
      refine (keep c (n - 1) (Nat.lt_of_le_of_lt (Nat.sub_le _ _) hb) r k).trans ?_
      refine congrArg (fun p => hn m c p k) (Fin.ext ?_)
      show (n - 1) / 7 * 1024 + r.val = n / 7 * 1024 + r.val
      omega
termination_by n => n
decreasing_by omega

/-- The block a point writes. -/
theorem out (c : Dev nD) (t : Fin cfg0.N) (r : Fin 1024) (s : Fin 512) :
    (outsAt0 m c t.val t.isLt).1 (ix2 r s) = ∑ k : Fin 2048, hn m c (row t r) k * w m c (ix2 k (col t s)) := by
  by_cases h0 : t.val % 7 = 0
  · rw [outsAt0_A m c t h0]
    dsimp only
    rw [out_A]
    refine (pay2_apply _ _ r s).trans (Finset.sum_congr rfl fun k _ => ?_)
    rw [pay1_apply m c t r k, blk2 m c t k s]
  · rw [outsAt0_B m c t h0]
    dsimp only
    rw [out_B]
    refine (pay2_apply _ _ r s).trans (Finset.sum_congr rfl fun k _ => ?_)
    rw [keep m c, blk2 m c t k s]
    refine congrArg (fun p => hn m c p k * w m c (ix2 k (col t s))) (Fin.ext ?_)
    show (t.val - 1) / 7 * 1024 + r.val = t.val / 7 * 1024 + r.val
    omega

/-- What the result array ends holding is the reference's result. -/
theorem final (c : Dev nD) : Value.G3 m c = R m c := by
  funext j
  obtain ⟨p, q, rfl⟩ : ∃ (p : Fin 8192) (q : Fin 3584), j = ix2 p q := ⟨j 0, j 1, ValueIdx.eq_ix2 j⟩
  have hp := p.isLt
  have hq := q.isLt
  have hN : cfg0.N = 56 := Gen.N_0
  have ht : Value.pt3Of (ix2 p q) < cfg0.N := by
    show 7 * (p.val / 1024 - 0) + 1 * (q.val / 512 - 0) < cfg0.N
    omega
  unfold Value.G3
  rw [dif_pos ht, ← Value.outsAt0_sweep m c _ ht]
  have e : Value.loc3Of (ix2 p q) = ix2 (⟨p.val % 1024, by omega⟩ : Fin 1024) (⟨q.val % 512, by omega⟩ : Fin 512) :=
    funext fun a => by match a with | ⟨0, _⟩ => rfl | ⟨1, _⟩ => rfl
  rw [e]
  refine (out m c ⟨_, ht⟩ _ _).trans (Eq.trans ?_ (ref_apply m c p q).symm)
  have er : row ⟨Value.pt3Of (ix2 p q), ht⟩ (⟨p.val % 1024, by omega⟩ : Fin 1024) = p := Fin.ext (by
    show (7 * (p.val / 1024 - 0) + 1 * (q.val / 512 - 0)) / 7 * 1024 + p.val % 1024 = p.val
    omega)
  have ec : col ⟨Value.pt3Of (ix2 p q), ht⟩ (⟨q.val % 512, by omega⟩ : Fin 512) = q := Fin.ext (by
    show (7 * (p.val / 1024 - 0) + 1 * (q.val / 512 - 0)) % 7 * 512 + q.val % 512 = q.val
    omega)
  rw [er, ec]

/-- The run: the result array at the reference's result, the arguments unchanged. -/
theorem run : θ_run defs (onTc (τ := τ) (main (F := Ideal))) ⟨m, fun _ => 0, ρ⟩ fun r => ∀ c : Dev nD,
      r.2.mem ((c : Thread nD τ).loc main_v2) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run m ρ)

end Cert.Kernel5Ideal.Dense

end
-- ==== Proof.Dense.OutOdd.lean ====
/- The output projection of one matrix, added to the residual: what the kernel's run leaves is the reference's sum.
   Each grid point writes one 1024 × 512 block; the blocks tile the result. -/
module

public import proofs.«01_k».proof.Proof.Dense.Common
public import proofs.«01_k».proof.Proof.Gen.Kernel6Ideal.Value
public import proofs.«01_k».proof.Proof.Gen.Reference6Ideal.Read
public import Idealize.ShloMosaic.Lib.Pipeline.Value

@[expose] public section

set_option maxRecDepth 16384

noncomputable section

namespace Cert.Kernel6Ideal.Dense

open Cert.Kernel6Ideal Cert.Kernel6Ideal.Gen Cert.Dense Idealize.ShloMosaic.TcCoe Idealize.SL.Sem Idealize.ShloMosaic.ValueIdx
open Idealize.ShloMosaic hiding ix0 ix1 ix2 ix3

variable (m : (ℓ : Loc nD τ sig) → Buf (Elt Ideal) ℓ) (ρ : Dev nD → PrngReg)

/-- The activations, the weights and the residual. -/
abbrev y (c : Dev nD) : S8192x2048.Idx → EReal := m ((c : Thread nD τ).loc main_arg0)
/-- The weights. -/
abbrev w (c : Dev nD) : S2048x2048.Idx → EReal := m ((c : Thread nD τ).loc main_arg1)
/-- The residual. -/
abbrev h (c : Dev nD) : S8192x2048.Idx → EReal := m ((c : Thread nD τ).loc main_arg2)

/-- The reference's result over the kernel's arguments. -/
abbrev G (c : Dev nD) : Buf (Elt Ideal) ((c : Thread nD τ).loc main_v1) :=
  Cert.Reference6Ideal.Read.val_main_v2 (F := Ideal) (y m c) (w m c) (h m c)

/-- The reference at an index. -/
theorem ref_apply (c : Dev nD) (p : Fin 8192) (q : Fin 2048) :
    (G m c (ix2 p q) : EReal) = h m c (ix2 p q) + ∑ k : Fin 2048, y m c (ix2 p k) * w m c (ix2 k q) := by
  show (h m c (ix2 p q) + Cert.Reference6Ideal.Read.val_main_v1 (F := Ideal) (y m c) (w m c) (ix2 p q) : EReal) = _
  rw [Cert.Reference6Ideal.Read.val_main_v1_apply]
  refine congrArg (h m c (ix2 p q) + ·) (Finset.sum_congr rfl fun k _ => ?_)
  have e1 : Cert.Reference6Ideal.Read.lidx_main_v1 (ix2 p q) k = ix2 p k := funext fun a => by match a with | ⟨0, _⟩ => rfl | ⟨1, _⟩ => rfl
  have e2 : Cert.Reference6Ideal.Read.ridx_main_v1 (ix2 p q) k = ix2 k q := funext fun a => by match a with | ⟨0, _⟩ => rfl | ⟨1, _⟩ => rfl
  rw [e1, e2]
  rfl

/-- The windows' block indices over the 8 × 4 grid. -/
theorem idx : ∀ t : Fin grid0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4) := by
  decide +kernel

theorem lt32 (t : Fin grid0.N) : t.val < 32 := Nat.lt_of_lt_of_eq t.isLt Gen.N_0

/-- The row and the column of the result that a block's entry is. -/
abbrev row (t : Fin grid0.N) (r : Fin 1024) : Fin 8192 := ⟨t.val / 4 * 1024 + r.val, by have := lt32 t; have := r.isLt; omega⟩
/-- The column. -/
abbrev col (t : Fin grid0.N) (s : Fin 512) : Fin 2048 := ⟨t.val % 4 * 512 + s.val, by have := s.isLt; omega⟩

theorem V_y (c : Dev nD) : V m c main_arg0 = y m c := V_main_arg0 m c
theorem V_h (c : Dev nD) : V m c main_arg2 = h m c := V_main_arg2 m c
/-- The weights as the kernel takes them. -/
theorem V_w (c : Dev nD) : V m c main_v0 = w m c := by
  show StableHlo.after hostOps0 _ (Proc.devRef .tc main_v0) = _
  after_results
  rfl

/-- The activations' block. -/
theorem blk0 (c : Dev nD) (t : Fin cfg0.N) (r : Fin 1024) (k : Fin 2048) :
    (iblk m c 0 t : Vec Ideal S1024x2048 .bf16) (ix2 r k) = y m c (ix2 (row t r) k) := by
  have e := idx t
  unfold iblk
  rw [View.read_apply]
  show V m c main_arg0 _ = _
  rw [V_y]
  refine congrArg (y m c) (funext fun a => Fin.ext ?_)
  match a with
  | ⟨0, _⟩ => show win0_0.index t 0 * 1024 + 1 * r.val = t.val / 4 * 1024 + r.val; rw [e.1.1]; omega
  | ⟨1, _⟩ => show win0_0.index t 1 * 2048 + 1 * k.val = k.val; rw [e.1.2]; omega

/-- The weights' block. -/
theorem blk1 (c : Dev nD) (t : Fin cfg0.N) (k : Fin 2048) (s : Fin 512) :
    (iblk m c 1 t : Vec Ideal S2048x512 .bf16) (ix2 k s) = w m c (ix2 k (col t s)) := by
  have e := idx t
  unfold iblk
  rw [View.read_apply]
  show V m c main_v0 _ = _
  rw [V_w]
  refine congrArg (w m c) (funext fun a => Fin.ext ?_)
  match a with
  | ⟨0, _⟩ => show win0_1.index t 0 * 2048 + 1 * k.val = k.val; rw [e.2.1.1]; omega
  | ⟨1, _⟩ => show win0_1.index t 1 * 512 + 1 * s.val = t.val % 4 * 512 + s.val; rw [e.2.1.2]; omega

/-- The residual's block. -/
theorem blk2 (c : Dev nD) (t : Fin cfg0.N) (r : Fin 1024) (s : Fin 512) :
    (iblk m c 2 t : Vec Ideal S1024x512 .f32) (ix2 r s) = h m c (ix2 (row t r) (col t s)) := by
  have e := idx t
  unfold iblk
  rw [View.read_apply]
  show V m c main_arg2 _ = _
  rw [V_h]
  refine congrArg (h m c) (funext fun a => Fin.ext ?_)
  match a with
  | ⟨0, _⟩ => show win0_2.index t 0 * 1024 + 1 * r.val = t.val / 4 * 1024 + r.val; rw [e.2.2.1.1]; omega
  | ⟨1, _⟩ => show win0_2.index t 1 * 512 + 1 * s.val = t.val % 4 * 512 + s.val; rw [e.2.2.1.2]; omega

/-- What the body leaves in the output block, at an index. -/
theorem out_apply (x0 : Vec Ideal S1024x2048 .bf16) (x1 : Vec Ideal S2048x512 .bf16) (x2 : Vec Ideal S1024x512 .f32) (r : Fin 1024) (s : Fin 512) :
    out0_3 x0 x1 x2 (ix2 r s) = (x2 (ix2 r s) + ∑ k : Fin 2048, x0 (ix2 r k) * x1 (ix2 k s) : EReal) := by
  unfold out0_3 r0_0 r0_1 r0_2
  rw [View.canon_unit_zero (by funext a; fin_cases a <;> rfl), View.ld_unit_zero (S := S1024x512) (by funext a; fin_cases a <;> rfl),
    View.ld_unit_zero (S := S1024x2048) (by funext a; fin_cases a <;> rfl), View.ld_unit_zero (S := S2048x512) (by funext a; fin_cases a <;> rfl)]
  unfold k0_pay1
  show (x2 (ix2 r s) + matmul (F := Ideal) (φ₁ := .bf16) (φ₂ := .bf16) dot_S1024x2048_S2048x512_S1024x512_1_0_0_1_n_n none x0 (shapeCast S2048x512 x1 _) _ (ix2 r s) : EReal) = _
  rw [shapeCast_self]
  exact congrArg (x2 (ix2 r s) + ·) (mm_apply (φ₁ := .bf16) (φ₂ := .bf16) _ _ rfl x0 x1 r s)

/-- What a grid point writes back is its block of the reference's result. -/
theorem flushed_eq (c : Dev nD) (t : Fin cfg0.N) :
    (dats m 0 c).flushed 3 t = (win0_3.blk t).view.read (Elt Ideal) (G m c) := by
  have e := (idx t).2.2.2
  rw [Value.flushed3]
  funext j
  obtain ⟨r, s, rfl⟩ : ∃ (r : Fin 1024) (s : Fin 512), j = ix2 r s := ⟨j 0, j 1, ValueIdx.eq_ix2 j⟩
  rw [View.read_apply]
  have hG : G m c (((win0_3.blk t).view).emb (ix2 r s)) = G m c (ix2 (row t r) (col t s)) := by
    refine congrArg (G m c) (funext fun a => Fin.ext ?_)
    match a with
    | ⟨0, _⟩ => show win0_3.index t 0 * 1024 + 1 * r.val = t.val / 4 * 1024 + r.val; rw [e.1]; omega
    | ⟨1, _⟩ => show win0_3.index t 1 * 512 + 1 * s.val = t.val % 4 * 512 + s.val; rw [e.2]; omega
  refine Eq.trans ?_ (hG.trans (ref_apply m c _ _)).symm
  refine (out_apply (iblk m c 0 t) (iblk m c 1 t) (iblk m c 2 t) r s).trans ?_
  rw [blk2 m c t r s]
  refine congrArg (h m c (ix2 (row t r) (col t s)) + ·) (Finset.sum_congr rfl fun k _ => ?_)
  rw [blk0 m c t r k, blk1 m c t k s]

/-- An index of the result array is in point `t`'s block. -/
theorem mem_blk (t : Fin cfg0.N) (i : S8192x2048.Idx) :
    i ∈ ((cfg0.win 3).blk t).view.set ↔ (t.val / 4 * 1024 ≤ (i 0).val ∧ (i 0).val < t.val / 4 * 1024 + 1024)
      ∧ (t.val % 4 * 512 ≤ (i 1).val ∧ (i 1).val < t.val % 4 * 512 + 512) := by
  have e := (idx t).2.2.2
  show i ∈ ((View.whole main_v1).slice (win0_3.rect t)).set ↔ _
  rw [View.set_slice_whole, Rect.mem_set_unit]
  refine ⟨fun h => ⟨?_, ?_⟩, fun h a => ?_⟩
  · have : win0_3.index t 0 * 1024 ≤ (i 0).val ∧ (i 0).val < win0_3.index t 0 * 1024 + 1024 := h 0
    rw [e.1] at this; exact this
  · have : win0_3.index t 1 * 512 ≤ (i 1).val ∧ (i 1).val < win0_3.index t 1 * 512 + 512 := h 1
    rw [e.2] at this; exact this
  · match a with
    | ⟨0, _⟩ => show win0_3.index t 0 * 1024 ≤ (i 0).val ∧ (i 0).val < win0_3.index t 0 * 1024 + 1024
                rw [e.1]; exact h.1
    | ⟨1, _⟩ => show win0_3.index t 1 * 512 ≤ (i 1).val ∧ (i 1).val < win0_3.index t 1 * 512 + 512
                rw [e.2]; exact h.2

theorem flush_all : ∀ t : Fin grid0.N, win0_3.flush t = true := by decide +kernel

/-- The blocks tile the result array. -/
theorem cover (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 32 := Gen.N_0
  refine ⟨⟨(i 0).val / 1024 * 4 + (i 1).val / 512, by omega⟩, flush_all _, ?_⟩
  rw [mem_blk]
  dsimp only
  omega

/-- The run: the result array at the reference's result, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G m c) (fun t _ => flushed_eq m c t) cover), (h c).2⟩)
    (Value.run_blocks m ρ)

end Cert.Kernel6Ideal.Dense

end
-- ==== Proof.Dense.OutEven.lean ====
/- The output projection of two activations put side by side, added to the residual: the kernel multiplies each by its
   own half of the weights, the reference multiplies the concatenation by all of them. Each grid point writes one
   1024 × 512 block; the blocks tile the result. -/
module

public import proofs.«01_k».proof.Proof.Dense.Common
public import proofs.«01_k».proof.Proof.Gen.Kernel7Ideal.Value
public import proofs.«01_k».proof.Proof.Gen.Reference7Ideal.Read
public import Idealize.ShloMosaic.Lib.Pipeline.Value

@[expose] public section

set_option maxRecDepth 16384

noncomputable section

namespace Cert.Kernel7Ideal.Dense

open Cert.Kernel7Ideal Cert.Kernel7Ideal.Gen Cert.Dense Idealize.ShloMosaic.TcCoe Idealize.SL.Sem Idealize.ShloMosaic.ValueIdx
open Idealize.ShloMosaic hiding ix0 ix1 ix2 ix3

variable (m : (ℓ : Loc nD τ sig) → Buf (Elt Ideal) ℓ) (ρ : Dev nD → PrngReg)

/-- The first activations. -/
abbrev ya (c : Dev nD) : S8192x1024.Idx → EReal := m ((c : Thread nD τ).loc main_arg0)
/-- The second activations. -/
abbrev yb (c : Dev nD) : S8192x1024.Idx → EReal := m ((c : Thread nD τ).loc main_arg1)
/-- The weights. -/
abbrev w (c : Dev nD) : S2048x2048.Idx → EReal := m ((c : Thread nD τ).loc main_arg2)
/-- The residual. -/
abbrev h (c : Dev nD) : S8192x2048.Idx → EReal := m ((c : Thread nD τ).loc main_arg3)

/-- The reference's result over the kernel's arguments. -/
abbrev G (c : Dev nD) : Buf (Elt Ideal) ((c : Thread nD τ).loc main_v3) :=
  Cert.Reference7Ideal.Read.val_main_v3 (F := Ideal) (ya m c) (yb m c) (w m c) (h m c)

/-- A column of the first half. -/
abbrev lo (k : Fin 1024) : Fin 2048 := ⟨k.val, by have := k.isLt; omega⟩
/-- A column of the second half. -/
abbrev hi (k : Fin 1024) : Fin 2048 := ⟨1024 + k.val, by have := k.isLt; omega⟩

/-- The concatenation's first half. -/
theorem cat_lo (c : Dev nD) (p : Fin 8192) (k : Fin 1024) :
    Cert.Reference7Ideal.Read.val_main_v1 (F := Ideal) (ya m c) (yb m c) (ix2 p (lo k)) = ya m c (ix2 p k) :=
  concatenate_pair_apply_left (s₁ := S8192x1024) (s₂ := S8192x1024) (t := S8192x2048) 1 (ya m c) (yb m c)
    (by decide) (ix2 p (lo k)) rfl (ix2 p k) fun b => by
    match b with | ⟨0, _⟩ => rfl | ⟨1, _⟩ => rfl

/-- The concatenation's second half. -/
theorem cat_hi (c : Dev nD) (p : Fin 8192) (k : Fin 1024) :
    Cert.Reference7Ideal.Read.val_main_v1 (F := Ideal) (ya m c) (yb m c) (ix2 p (hi k)) = yb m c (ix2 p k) :=
  concatenate_pair_apply_right (s₁ := S8192x1024) (s₂ := S8192x1024) (t := S8192x2048) 1 (ya m c) (yb m c)
    (by decide) (ix2 p (hi k)) rfl rfl (ix2 p k)
    (fun b hb => by match b with | ⟨0, _⟩ => rfl | ⟨1, _⟩ => exact absurd rfl hb)
    (by show k.val + 1024 = 1024 + k.val; omega)

/-- The reference at an index, its sum over 2048 columns cut into the two halves. -/
theorem ref_apply (c : Dev nD) (p : Fin 8192) (q : Fin 2048) :
    (G m c (ix2 p q) : EReal) = (h m c (ix2 p q) + ∑ k : Fin 1024, ya m c (ix2 p k) * w m c (ix2 (lo k) q))
      + ∑ k : Fin 1024, yb m c (ix2 p k) * w m c (ix2 (hi k) q) := by
  show (h m c (ix2 p q) + Cert.Reference7Ideal.Read.val_main_v2 (F := Ideal) (ya m c) (yb m c) (w m c) (ix2 p q) : EReal) = _
  rw [Cert.Reference7Ideal.Read.val_main_v2_apply, add_assoc]
  refine congrArg (h m c (ix2 p q) + ·) ?_
  refine (Fin.sum_univ_add (a := 1024) (b := 1024) _).trans (congrArg₂ (· + ·) (Finset.sum_congr rfl fun k _ => ?_) (Finset.sum_congr rfl fun k _ => ?_))
  · have e1 : Cert.Reference7Ideal.Read.lidx_main_v2 (ix2 p q) (Fin.castAdd 1024 k) = ix2 p (lo k) := funext fun a => by match a with | ⟨0, _⟩ => rfl | ⟨1, _⟩ => rfl
    have e2 : Cert.Reference7Ideal.Read.ridx_main_v2 (ix2 p q) (Fin.castAdd 1024 k) = ix2 (lo k) q := funext fun a => by match a with | ⟨0, _⟩ => rfl | ⟨1, _⟩ => rfl
    rw [e1, e2, cat_lo]
  · have e1 : Cert.Reference7Ideal.Read.lidx_main_v2 (ix2 p q) (Fin.natAdd 1024 k) = ix2 p (hi k) := funext fun a => by match a with | ⟨0, _⟩ => rfl | ⟨1, _⟩ => rfl
    have e2 : Cert.Reference7Ideal.Read.ridx_main_v2 (ix2 p q) (Fin.natAdd 1024 k) = ix2 (hi k) q := funext fun a => by match a with | ⟨0, _⟩ => rfl | ⟨1, _⟩ => rfl
    rw [e1, e2, cat_hi]

/-- The windows' block indices over the 8 × 4 grid. -/
theorem idx : ∀ t : Fin grid0.N,
    (win0_0.index t 0 = t.val / 4 ∧ win0_0.index t 1 = 0) ∧ (win0_1.index t 0 = t.val / 4 ∧ win0_1.index t 1 = 0)
    ∧ (win0_2.index t 0 = 0 ∧ win0_2.index t 1 = t.val % 4) ∧ (win0_3.index t 0 = 0 ∧ win0_3.index t 1 = t.val % 4)
    ∧ (win0_4.index t 0 = t.val / 4 ∧ win0_4.index t 1 = t.val % 4) ∧ (win0_5.index t 0 = t.val / 4 ∧ win0_5.index t 1 = t.val % 4) := by
  decide +kernel

theorem lt32 (t : Fin grid0.N) : t.val < 32 := Nat.lt_of_lt_of_eq t.isLt Gen.N_0

/-- The row and the column of the result that a block's entry is. -/
abbrev row (t : Fin grid0.N) (r : Fin 1024) : Fin 8192 := ⟨t.val / 4 * 1024 + r.val, by have := lt32 t; have := r.isLt; omega⟩
/-- The column. -/
abbrev col (t : Fin grid0.N) (s : Fin 512) : Fin 2048 := ⟨t.val % 4 * 512 + s.val, by have := s.isLt; omega⟩

theorem V_ya (c : Dev nD) : V m c main_arg0 = ya m c := V_main_arg0 m c
theorem V_yb (c : Dev nD) : V m c main_arg1 = yb m c := V_main_arg1 m c
theorem V_h (c : Dev nD) : V m c main_arg3 = h m c := V_main_arg3 m c
/-- The upper half of the weights, as the kernel takes it. -/
theorem V_w1 (c : Dev nD) (k : Fin 1024) (q : Fin 2048) : V m c main_v1 (ix2 k q) = w m c (ix2 (lo k) q) := by
  show StableHlo.after hostOps0 _ (Proc.devRef .tc main_v1) _ = _
  after_results
  refine congrArg (w m c) (funext fun a => Fin.ext ?_)
  match a with
  | ⟨0, _⟩ => show 0 + k.val = k.val; omega
  | ⟨1, _⟩ => show 0 + q.val = q.val; omega
/-- The lower half of the weights. -/
theorem V_w2 (c : Dev nD) (k : Fin 1024) (q : Fin 2048) : V m c main_v2 (ix2 k q) = w m c (ix2 (hi k) q) := by
  show StableHlo.after hostOps0 _ (Proc.devRef .tc main_v2) _ = _
  after_results
  refine congrArg (w m c) (funext fun a => Fin.ext ?_)
  match a with
  | ⟨0, _⟩ => rfl
  | ⟨1, _⟩ => show 0 + q.val = q.val; omega

/-- A block of the first activations. -/
theorem blk0 (c : Dev nD) (t : Fin cfg0.N) (r : Fin 1024) (k : Fin 1024) :
    (iblk m c 0 t : Vec Ideal S1024x1024 .bf16) (ix2 r k) = ya m c (ix2 (row t r) k) := by
  have e := (idx t).1
  unfold iblk
  rw [View.read_apply]
  show V m c main_arg0 _ = _
  rw [← V_ya]
  refine congrArg (V m c main_arg0) (funext fun a => Fin.ext ?_)
  match a with
  | ⟨0, _⟩ => show win0_0.index t 0 * 1024 + 1 * r.val = t.val / 4 * 1024 + r.val; rw [e.1]; omega
  | ⟨1, _⟩ => show win0_0.index t 1 * 1024 + 1 * k.val = k.val; rw [e.2]; omega

/-- A block of the second activations. -/
theorem blk1 (c : Dev nD) (t : Fin cfg0.N) (r : Fin 1024) (k : Fin 1024) :
    (iblk m c 1 t : Vec Ideal S1024x1024 .bf16) (ix2 r k) = yb m c (ix2 (row t r) k) := by
  have e := (idx t).2.1
  unfold iblk
  rw [View.read_apply]
  show V m c main_arg1 _ = _
  rw [← V_yb]
  refine congrArg (V m c main_arg1) (funext fun a => Fin.ext ?_)
  match a with
  | ⟨0, _⟩ => show win0_1.index t 0 * 1024 + 1 * r.val = t.val / 4 * 1024 + r.val; rw [e.1]; omega
  | ⟨1, _⟩ => show win0_1.index t 1 * 1024 + 1 * k.val = k.val; rw [e.2]; omega

/-- A block of the upper weights. -/
theorem blk2 (c : Dev nD) (t : Fin cfg0.N) (k : Fin 1024) (s : Fin 512) :
    (iblk m c 2 t : Vec Ideal S1024x512 .bf16) (ix2 k s) = w m c (ix2 (lo k) (col t s)) := by
  have e := (idx t).2.2.1
  unfold iblk
  rw [View.read_apply]
  show V m c main_v1 _ = _
  rw [← V_w1]
  refine congrArg (V m c main_v1) (funext fun a => Fin.ext ?_)
  match a with
  | ⟨0, _⟩ => show win0_2.index t 0 * 1024 + 1 * k.val = k.val; rw [e.1]; omega
  | ⟨1, _⟩ => show win0_2.index t 1 * 512 + 1 * s.val = t.val % 4 * 512 + s.val; rw [e.2]; omega

/-- A block of the lower weights. -/
theorem blk3 (c : Dev nD) (t : Fin cfg0.N) (k : Fin 1024) (s : Fin 512) :
    (iblk m c 3 t : Vec Ideal S1024x512 .bf16) (ix2 k s) = w m c (ix2 (hi k) (col t s)) := by
  have e := (idx t).2.2.2.1
  unfold iblk
  rw [View.read_apply]
  show V m c main_v2 _ = _
  rw [← V_w2]
  refine congrArg (V m c main_v2) (funext fun a => Fin.ext ?_)
  match a with
  | ⟨0, _⟩ => show win0_3.index t 0 * 1024 + 1 * k.val = k.val; rw [e.1]; omega
  | ⟨1, _⟩ => show win0_3.index t 1 * 512 + 1 * s.val = t.val % 4 * 512 + s.val; rw [e.2]; omega

/-- A block of the residual. -/
theorem blk4 (c : Dev nD) (t : Fin cfg0.N) (r : Fin 1024) (s : Fin 512) :
    (iblk m c 4 t : Vec Ideal S1024x512 .f32) (ix2 r s) = h m c (ix2 (row t r) (col t s)) := by
  have e := (idx t).2.2.2.2.1
  unfold iblk
  rw [View.read_apply]
  show V m c main_arg3 _ = _
  rw [← V_h]
  refine congrArg (V m c main_arg3) (funext fun a => Fin.ext ?_)
  match a with
  | ⟨0, _⟩ => show win0_4.index t 0 * 1024 + 1 * r.val = t.val / 4 * 1024 + r.val; rw [e.1]; omega
  | ⟨1, _⟩ => show win0_4.index t 1 * 512 + 1 * s.val = t.val % 4 * 512 + s.val; rw [e.2]; omega

theorem hz : (![0, 0] : Fin 2 → ℕ) = fun _ => 0 := by funext a; fin_cases a <;> rfl

/-- What the body leaves in the output block, at an index. -/
theorem out_apply (x0 x1 : Vec Ideal S1024x1024 .bf16) (x2 x3 : Vec Ideal S1024x512 .bf16) (x4 : Vec Ideal S1024x512 .f32) (r : Fin 1024) (s : Fin 512) :
    out0_5 x0 x1 x2 x3 x4 (ix2 r s)
      = ((x4 (ix2 r s) + ∑ k : Fin 1024, x0 (ix2 r k) * x2 (ix2 k s)) + ∑ k : Fin 1024, x1 (ix2 r k) * x3 (ix2 k s) : EReal) := by
  unfold out0_5 r0_0 r0_1
  rw [View.canon_unit_zero (by funext a; fin_cases a <;> rfl)]
  simp only [View.ld_unit_zero (S := S1024x512) (hz : (![0, 0] : Fin 2 → ℕ) = fun _ => 0), View.ld_unit_zero (S := S1024x1024) (hz : (![0, 0] : Fin 2 → ℕ) = fun _ => 0)]
  unfold k0_pay1
  show ((x4 (ix2 r s) + matmul (F := Ideal) (φ₁ := .bf16) (φ₂ := .bf16) dot_S1024x1024_S1024x512_S1024x512_1_0_0_1_n_n none x0 (shapeCast S1024x512 x2 _) _ (ix2 r s))
    + matmul (F := Ideal) (φ₁ := .bf16) (φ₂ := .bf16) dot_S1024x1024_S1024x512_S1024x512_1_0_0_1_n_n none x1 (shapeCast S1024x512 x3 _) _ (ix2 r s) : EReal) = _
  rw [shapeCast_self, shapeCast_self]
  exact congrArg₂ (fun a b => (x4 (ix2 r s) + a) + b) (mm_apply (φ₁ := .bf16) (φ₂ := .bf16) _ _ rfl x0 x2 r s)
    (mm_apply (φ₁ := .bf16) (φ₂ := .bf16) _ _ rfl x1 x3 r s)

/-- What a grid point writes back is its block of the reference's result. -/
theorem flushed_eq (c : Dev nD) (t : Fin cfg0.N) :
    (dats m 0 c).flushed 5 t = (win0_5.blk t).view.read (Elt Ideal) (G m c) := by
  have e := (idx t).2.2.2.2.2
  rw [Value.flushed5]
  funext j
  obtain ⟨r, s, rfl⟩ : ∃ (r : Fin 1024) (s : Fin 512), j = ix2 r s := ⟨j 0, j 1, ValueIdx.eq_ix2 j⟩
  rw [View.read_apply]
  have hG : G m c (((win0_5.blk t).view).emb (ix2 r s)) = G m c (ix2 (row t r) (col t s)) := by
    refine congrArg (G m c) (funext fun a => Fin.ext ?_)
    match a with
    | ⟨0, _⟩ => show win0_5.index t 0 * 1024 + 1 * r.val = t.val / 4 * 1024 + r.val; rw [e.1]; omega
    | ⟨1, _⟩ => show win0_5.index t 1 * 512 + 1 * s.val = t.val % 4 * 512 + s.val; rw [e.2]; omega
  refine Eq.trans ?_ (hG.trans (ref_apply m c _ _)).symm
  refine (out_apply (iblk m c 0 t) (iblk m c 1 t) (iblk m c 2 t) (iblk m c 3 t) (iblk m c 4 t) r s).trans ?_
  rw [blk4 m c t r s]
  refine congrArg₂ (fun a b => (h m c (ix2 (row t r) (col t s)) + a) + b) (Finset.sum_congr rfl fun k _ => ?_) (Finset.sum_congr rfl fun k _ => ?_)
  · rw [blk0 m c t r k, blk2 m c t k s]
  · rw [blk1 m c t r k, blk3 m c t k s]

/-- An index of the result array is in point `t`'s block. -/
theorem mem_blk (t : Fin cfg0.N) (i : S8192x2048.Idx) :
    i ∈ ((cfg0.win 5).blk t).view.set ↔ (t.val / 4 * 1024 ≤ (i 0).val ∧ (i 0).val < t.val / 4 * 1024 + 1024)
      ∧ (t.val % 4 * 512 ≤ (i 1).val ∧ (i 1).val < t.val % 4 * 512 + 512) := by
  have e := (idx t).2.2.2.2.2
  show i ∈ ((View.whole main_v3).slice (win0_5.rect t)).set ↔ _
  rw [View.set_slice_whole, Rect.mem_set_unit]
  refine ⟨fun h => ⟨?_, ?_⟩, fun h a => ?_⟩
  · have : win0_5.index t 0 * 1024 ≤ (i 0).val ∧ (i 0).val < win0_5.index t 0 * 1024 + 1024 := h 0
    rw [e.1] at this; exact this
  · have : win0_5.index t 1 * 512 ≤ (i 1).val ∧ (i 1).val < win0_5.index t 1 * 512 + 512 := h 1
    rw [e.2] at this; exact this
  · match a with
    | ⟨0, _⟩ => show win0_5.index t 0 * 1024 ≤ (i 0).val ∧ (i 0).val < win0_5.index t 0 * 1024 + 1024
                rw [e.1]; exact h.1
    | ⟨1, _⟩ => show win0_5.index t 1 * 512 ≤ (i 1).val ∧ (i 1).val < win0_5.index t 1 * 512 + 512
                rw [e.2]; exact h.2

theorem flush_all : ∀ t : Fin grid0.N, win0_5.flush t = true := by decide +kernel

/-- The blocks tile the result array. -/
theorem cover (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  have hN : cfg0.N = 32 := Gen.N_0
  refine ⟨⟨(i 0).val / 1024 * 4 + (i 1).val / 512, by omega⟩, flush_all _, ?_⟩
  rw [mem_blk]
  dsimp only
  omega

/-- The run: the result array at the reference's result, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 5 (G m c) (fun t _ => flushed_eq m c t) cover), (h c).2⟩)
    (Value.run_blocks m ρ)

end Cert.Kernel7Ideal.Dense

end
-- ==== Proof.Swa.Group.lean ====
/- Windowed attention, one group of four query heads of the kernel's body at an index, over the extended reals: the four
   heads' queries laid under each other, their scores against the block of history and against the block itself, and the
   softmax over both blocks and the sink. -/
module

public import proofs.«01_k».proof.Proof.Gen.Kernel8Ideal.Skeleton
public import proofs.«01_k».proof.Proof.Dense.Common
public import Idealize.ShloMosaic.Lib.IdealHost
public import Idealize.ShloMosaic.Lib.WordCmp

@[expose] public section

set_option maxRecDepth 16384

noncomputable section

namespace Cert.Kernel8Ideal.Swa

open Cert.Kernel8Ideal Cert.Kernel8Ideal.Gen Idealize.ShloMosaic.TcCoe Idealize.ShloMosaic.ValueIdx
open Idealize.ShloMosaic hiding ix0 ix1 ix2 ix3

/-- Row `a` of the `g`-th of four blocks of 128 rows. -/
abbrev row (g : Fin 4) (a : Fin 128) : Fin 512 := ⟨128 * g.val + a.val, by omega⟩

/-- The `g`-th of four things. -/
def pick {α : Type} (x0 x1 x2 x3 : α) : Fin 4 → α := ![x0, x1, x2, x3]

/-- The largest of finitely many numbers, −∞ of none. -/
def top {n : ℕ} (f : Fin n → EReal) : EReal := (Finset.univ : Finset (Fin n)).fold max ⊥ f

/-- The number every score is taken off before the exponential: the largest of both blocks' scores and the sink. -/
def crest (lp lc : Fin 128 → EReal) (k : EReal) : EReal := max (max (top lp) (top lc)) k

/-- The weights' sum: both blocks' exponentials and the sink's. -/
def mass (lp lc : Fin 128 → EReal) (k : EReal) : EReal :=
  ((∑ s, Ideal.exp (lp s - crest lp lc k)) + ∑ s, Ideal.exp (lc s - crest lp lc k)) + Ideal.exp (k - crest lp lc k)

/-- One entry of the attention's result: the values of both blocks weighted by their exponentials, over the weights' sum. -/
def att (lp lc vp vc : Fin 128 → EReal) (k : EReal) : EReal :=
  Ideal.div ((∑ s, Ideal.exp (lp s - crest lp lc k) * vp s) + ∑ s, Ideal.exp (lc s - crest lp lc k) * vc s) (mass lp lc k)

/-- One score before its bias: the query scaled, against the key. -/
def dotq (q k : Fin 64 → EReal) : EReal := ∑ e, (q e * Ideal.ofBits .f32 0x3E000000#32) * k e

/-- Four blocks of 128 rows under each other, read at a row. -/
theorem cat_apply {w : ℕ} (x0 x1 x2 x3 : (⟨2, ![128, w]⟩ : Shape).Idx → EReal)
    (h : Shape.Concatenates (([⟨_, x0⟩, ⟨_, x1⟩, ⟨_, x2⟩, ⟨_, x3⟩] : List ((s : Shape) × (s.Idx → EReal))).map (·.1)) ⟨2, ![512, w]⟩ 0)
    (g : Fin 4) (a : Fin 128) (d : Fin w) :
    concatenate ⟨2, ![512, w]⟩ 0 [⟨⟨2, ![128, w]⟩, x0⟩, ⟨⟨2, ![128, w]⟩, x1⟩, ⟨⟨2, ![128, w]⟩, x2⟩, ⟨⟨2, ![128, w]⟩, x3⟩] h (ix2 (row g a) d)
      = pick x0 x1 x2 x3 g (ix2 a d) := by
  have hoff : ∀ b : Fin 2, b ≠ 0 → ((ix2 a d : (⟨2, ![128, w]⟩ : Shape).Idx) b).val = ((ix2 (row g a) d : (⟨2, ![512, w]⟩ : Shape).Idx) b).val := by
    intro b hb
    match b with
    | ⟨0, _⟩ => exact absurd rfl hb
    | ⟨1, _⟩ => rfl
  match g with
  | ⟨0, _⟩ => exact concatenate_apply_piece _ _ h _ 0 (by show 0 < 4; decide) _ x0 rfl rfl 0 rfl (ix2 a d) hoff rfl
  | ⟨1, _⟩ => exact concatenate_apply_piece _ _ h _ 1 (by show 1 < 4; decide) _ x1 rfl rfl 128 rfl (ix2 a d) hoff rfl
  | ⟨2, _⟩ => exact concatenate_apply_piece _ _ h _ 2 (by show 2 < 4; decide) _ x2 rfl rfl 256 rfl (ix2 a d) hoff rfl
  | ⟨3, _⟩ => exact concatenate_apply_piece _ _ h _ 3 (by show 3 < 4; decide) _ x3 rfl rfl 384 rfl (ix2 a d) hoff rfl

/-- Rows of queries by rows of keys: the contraction of their 64 columns. -/
theorem dot_qk (a : FVec Ideal S512x64 .bf16) (b : FVec Ideal S128x64 .bf16) (r : Fin 512) (s : Fin 128) :
    matmul dot_S512x64_S128x64_S512x128_1_1_0_0_n_n none a b (constant S512x128 .f32 0x00000000#32) (ix2 r s)
      = ∑ d : Fin 64, a (ix2 r d) * b (ix2 s d) := by
  refine (Ideal.matmul_constant_zero_apply _ none _ _ _).trans ?_
  rw [← Equiv.sum_comp (contrEquiv1 dot_S512x64_S128x64_S512x128_1_1_0_0_n_n 64 rfl rfl).symm]
  refine Finset.sum_congr rfl fun d _ => ?_
  have hv := contrEquiv1_symm_val dot_S512x64_S128x64_S512x128_1_1_0_0_n_n 64 rfl rfl d
  congr 2
  · funext x; refine Fin.ext ?_; match x with | ⟨0, _⟩ => rfl | ⟨1, _⟩ => exact hv
  · funext x; refine Fin.ext ?_; match x with | ⟨0, _⟩ => rfl | ⟨1, _⟩ => exact hv

/-- Rows of weights by a block of values. -/
theorem dot_wv (a : FVec Ideal S512x128 .bf16) (b : FVec Ideal S128x64 .bf16) (r : Fin 512) (d : Fin 64) :
    matmul dot_S512x128_S128x64_S512x64_1_0_0_1_n_n none a b (constant S512x64 .f32 0x00000000#32) (ix2 r d)
      = ∑ s : Fin 128, a (ix2 r s) * b (ix2 s d) :=
  Cert.Dense.mm_apply dot_S512x128_S128x64_S512x64_1_0_0_1_n_n _ rfl a b r d

/-- A column of 512 numbers spread over `n` columns. -/
theorem spread {n : ℕ} (hn : n ≠ 1) (x : FVec Ideal S512x1 .f32) (h : S512x1.Broadcasts ⟨2, ![512, n]⟩) (r : Fin 512) (s : Fin n) :
    broadcastTo ⟨2, ![512, n]⟩ x h (ix2 r s) = x (ix2 r 0) :=
  broadcastTo_apply x h (ix2 r s) (ix2 r 0) fun a => by
    match a with
    | ⟨0, _⟩ => rfl
    | ⟨1, _⟩ => rfl

theorem column {α : Type} (x : S512.Idx → α) (r : Fin 512) (u : Fin 1) : shapeCast S512x1 x shapeCasts_S512_S512x1 (ix2 r u) = x (ix1 r) := by
  refine shapeCast_apply _ shapeCasts_S512_S512x1 (ix2 r u) (ix1 r) ?_
  have hu : u.val = 0 := by omega
  rw [Shape.rowMajor_val_one, Shape.rowMajor_val_two]
  show r.val = r.val * 1 + u.val
  omega

/-- The sum of each row, as a column. -/
theorem rowsum (x : FVec Ideal S512x128 .f32) (r : Fin 512) (u : Fin 1) :
    shapeCast S512x1 (multiReduction .add [1] S512 x 0x00000000#32 reduces_S512x128_S512 (.inl rfl) rfl) shapeCasts_S512_S512x1 (ix2 r u)
      = ∑ s : Fin 128, x (ix2 r s) := by
  rw [column]
  refine (Ideal.multiReduction_add_single x _ reduces_S512x128_S512 _ _ (ix1 r)).trans ?_
  refine Finset.sum_congr rfl fun s _ => congrArg x ?_
  funext a
  match a with
  | ⟨0, _⟩ => rfl
  | ⟨1, _⟩ => rfl

theorem ofBits_bot : Ideal.ofBits .f32 0xFF800000#32 = ⊥ := by
  simp [Ideal.ofBits, Ideal.ieee]

/-- The largest of each row, as a column. -/
theorem rowtop (x : FVec Ideal S512x128 .f32) (r : Fin 512) (u : Fin 1) :
    shapeCast S512x1 (multiReduction .maximumf [1] S512 x 0xFF800000#32 reduces_S512x128_S512 (.inl rfl) rfl) shapeCasts_S512_S512x1 (ix2 r u)
      = top fun s : Fin 128 => x (ix2 r s) := by
  rw [column]
  refine (Ideal.multiReduction_maximumf_single x _ reduces_S512x128_S512 _ _ (ix1 r)).trans ?_
  show (Finset.univ : Finset (Fin 128)).fold max (Ideal.ofBits .f32 0xFF800000#32) _ = _
  rw [ofBits_bot]
  unfold top
  congr 1
  funext s
  refine congrArg x ?_
  funext a
  match a with
  | ⟨0, _⟩ => rfl
  | ⟨1, _⟩ => rfl

theorem plane {w : ℕ} {α : Type} (x : (⟨3, ![1, 512, w]⟩ : Shape).Idx → α) (h : (⟨3, ![1, 512, w]⟩ : Shape).ShapeCasts ⟨2, ![512, w]⟩) (r : Fin 512) (s : Fin w) :
    shapeCast ⟨2, ![512, w]⟩ x h (ix2 r s) = x (ix3 0 r s) := by
  refine shapeCast_apply _ h (ix2 r s) (ix3 0 r s) ?_
  rw [Shape.rowMajor_val_three, Shape.rowMajor_val_two]
  show (0 * 512 + r.val) * w + s.val = r.val * w + s.val
  rw [Nat.zero_mul, Nat.zero_add]

/-- The queries of four heads under each other, scaled. -/
theorem pay153_apply (q0 q1 q2 q3 : Vec Ideal S128x64 .f32) (g : Fin 4) (a : Fin 128) (e : Fin 64) :
    k0_pay153 (F := Ideal) q0 q1 q2 q3 (ix2 (row g a) e) = pick q0 q1 q2 q3 g (ix2 a e) * Ideal.ofBits .f32 0x3E000000#32 := by
  unfold k0_pay153
  show (concatenate (α := EReal) S512x64 0 _ _ _ : EReal) * _ = _
  rw [cat_apply]; rfl

/-- What the first block adds to its history's scores: −∞ at the first grid point, nothing later. -/
def pen (i : grid0.Coords) : EReal := k0_pay150 (F := Ideal) i

/-- The scores against the history. -/
theorem pay154_apply (i : grid0.Coords) (kp q0 q1 q2 q3 : Vec Ideal S128x64 .f32) (tp : Vec Ideal S1x512x128 .f32) (g : Fin 4) (a s : Fin 128) :
    k0_pay154 (F := Ideal) i kp q0 q1 q2 q3 tp (ix2 (row g a) s)
      = (dotq (fun e => pick q0 q1 q2 q3 g (ix2 a e)) (fun e => kp (ix2 s e)) + tp (ix3 0 (row g a) s)) + pen i := by
  unfold k0_pay154
  show ((matmul (F := Ideal) _ _ _ _ _ (ix2 (row g a) s) + shapeCast _ _ _ (ix2 (row g a) s)) + pen i : EReal) = _
  rw [dot_qk, plane]
  refine congrArg (fun z => (z + _) + _) (Finset.sum_congr rfl fun e _ => ?_)
  rw [pay153_apply]; rfl

/-- The scores against the block itself, before the bias. -/
theorem pay155_apply (kc q0 q1 q2 q3 : Vec Ideal S128x64 .f32) (g : Fin 4) (a s : Fin 128) :
    k0_pay155 (F := Ideal) kc q0 q1 q2 q3 (ix2 (row g a) s) = dotq (fun e => pick q0 q1 q2 q3 g (ix2 a e)) (fun e => kc (ix2 s e)) := by
  unfold k0_pay155
  show (matmul (F := Ideal) _ _ _ _ _ (ix2 (row g a) s) : EReal) = _
  rw [dot_qk]
  refine Finset.sum_congr rfl fun e _ => ?_
  rw [pay153_apply]; rfl

/-- The softmax over both blocks and the sink, and its sum with the values. -/
theorem pay156_apply (vc vp : FVec Ideal S128x64 .bf16) (lp lc : FVec Ideal S512x128 .f32) (tc : Vec Ideal S1x512x128 .f32)
    (s0 s1 s2 s3 : EReal) (g : Fin 4) (a : Fin 128) (d : Fin 64) :
    k0_pay156 (F := Ideal) vc vp lp lc tc s0 s1 s2 s3 (ix2 (row g a) d)
      = att (fun s => lp (ix2 (row g a) s)) (fun s => lc (ix2 (row g a) s) + tc (ix3 0 (row g a) s)) (fun s => vp (ix2 s d)) (fun s => vc (ix2 s d))
          (pick s0 s1 s2 s3 g) := by
  unfold k0_pay156
  dsimp only
  have hk : ∀ u : Fin 1, concatenate (α := EReal) S512x1 0 [⟨S128x1, broadcast S128x1 s0⟩, ⟨S128x1, broadcast S128x1 s1⟩, ⟨S128x1, broadcast S128x1 s2⟩, ⟨S128x1, broadcast S128x1 s3⟩]
      concatenates_S128x1_S128x1_S128x1_S128x1_S512x1_d0 (ix2 (row g a) u) = pick s0 s1 s2 s3 g := by
    intro u
    rw [cat_apply]
    match g with
    | ⟨0, _⟩ => rfl
    | ⟨1, _⟩ => rfl
    | ⟨2, _⟩ => rfl
    | ⟨3, _⟩ => rfl
  have hlc : ∀ s, (addf (F := Ideal) lc (shapeCast S512x128 tc shapeCasts_S1x512x128_S512x128) : FVec Ideal S512x128 .f32) (ix2 (row g a) s)
      = lc (ix2 (row g a) s) + tc (ix3 0 (row g a) s) := fun s => by
    show (lc (ix2 (row g a) s) + shapeCast S512x128 tc shapeCasts_S1x512x128_S512x128 (ix2 (row g a) s) : EReal) = _
    rw [plane]
  generalize (addf (F := Ideal) lc (shapeCast S512x128 tc shapeCasts_S1x512x128_S512x128) : FVec Ideal S512x128 .f32) = lc' at hlc ⊢
  generalize (concatenate (α := EReal) S512x1 0 [⟨S128x1, broadcast S128x1 s0⟩, ⟨S128x1, broadcast S128x1 s1⟩, ⟨S128x1, broadcast S128x1 s2⟩, ⟨S128x1, broadcast S128x1 s3⟩]
      concatenates_S128x1_S128x1_S128x1_S128x1_S512x1_d0) = sk at hk ⊢
  have hm : ∀ u : Fin 1, (maximumf (F := Ideal) (maximumf (F := Ideal)
        (shapeCast S512x1 (multiReduction .maximumf [1] S512 lp 0xFF800000#32 reduces_S512x128_S512 (.inl rfl) rfl) shapeCasts_S512_S512x1)
        (shapeCast S512x1 (multiReduction .maximumf [1] S512 lc' 0xFF800000#32 reduces_S512x128_S512 (.inl rfl) rfl) shapeCasts_S512_S512x1)) sk
        : FVec Ideal S512x1 .f32) (ix2 (row g a) u)
      = crest (fun s => lp (ix2 (row g a) s)) (fun s => lc (ix2 (row g a) s) + tc (ix3 0 (row g a) s)) (pick s0 s1 s2 s3 g) := by
    intro u
    show max (max (shapeCast (α := EReal) S512x1 _ _ _) (shapeCast (α := EReal) S512x1 _ _ _)) (sk _) = _
    rw [hk, rowtop, rowtop]
    unfold crest
    simp only [hlc]
  generalize (maximumf (F := Ideal) (maximumf (F := Ideal)
        (shapeCast S512x1 (multiReduction .maximumf [1] S512 lp 0xFF800000#32 reduces_S512x128_S512 (.inl rfl) rfl) shapeCasts_S512_S512x1)
        (shapeCast S512x1 (multiReduction .maximumf [1] S512 lc' 0xFF800000#32 reduces_S512x128_S512 (.inl rfl) rfl) shapeCasts_S512_S512x1)) sk
        : FVec Ideal S512x1 .f32) = mx at hm ⊢
  have hep : ∀ s, (exp (F := Ideal) (subf (F := Ideal) lp (broadcastTo S512x128 mx broadcasts_S512x1_S512x128)) : FVec Ideal S512x128 .f32) (ix2 (row g a) s)
      = Ideal.exp (lp (ix2 (row g a) s) - mx (ix2 (row g a) 0)) := fun s => by
    show Ideal.exp (lp (ix2 (row g a) s) - broadcastTo S512x128 mx broadcasts_S512x1_S512x128 (ix2 (row g a) s)) = _
    rw [spread (by decide)]
  have hec : ∀ s, (exp (F := Ideal) (subf (F := Ideal) lc' (broadcastTo S512x128 mx broadcasts_S512x1_S512x128)) : FVec Ideal S512x128 .f32) (ix2 (row g a) s)
      = Ideal.exp (lc' (ix2 (row g a) s) - mx (ix2 (row g a) 0)) := fun s => by
    show Ideal.exp (lc' (ix2 (row g a) s) - broadcastTo S512x128 mx broadcasts_S512x1_S512x128 (ix2 (row g a) s)) = _
    rw [spread (by decide)]
  generalize (exp (F := Ideal) (subf (F := Ideal) lp (broadcastTo S512x128 mx broadcasts_S512x1_S512x128)) : FVec Ideal S512x128 .f32) = ep at hep ⊢
  generalize (exp (F := Ideal) (subf (F := Ideal) lc' (broadcastTo S512x128 mx broadcasts_S512x1_S512x128)) : FVec Ideal S512x128 .f32) = ec at hec ⊢
  show Ideal.div (matmul (F := Ideal) _ _ _ _ _ (ix2 (row g a) d) + matmul (F := Ideal) _ _ _ _ _ (ix2 (row g a) d)) (broadcastTo S512x64 _ _ (ix2 (row g a) d)) = _
  rw [dot_wv, dot_wv, spread (by decide)]
  show Ideal.div _ ((shapeCast (α := EReal) S512x1 _ _ (ix2 (row g a) 0) + shapeCast (α := EReal) S512x1 _ _ (ix2 (row g a) 0))
    + Ideal.exp (sk (ix2 (row g a) 0) - mx (ix2 (row g a) 0))) = _
  rw [rowsum, rowsum, hm, hk]
  have e1 : ∀ s, ep (ix2 (row g a) s) = Ideal.exp (lp (ix2 (row g a) s)
      - crest (fun s => lp (ix2 (row g a) s)) (fun s => lc (ix2 (row g a) s) + tc (ix3 0 (row g a) s)) (pick s0 s1 s2 s3 g)) := fun s => by rw [hep, hm]
  have e2 : ∀ s, ec (ix2 (row g a) s) = Ideal.exp ((lc (ix2 (row g a) s) + tc (ix3 0 (row g a) s))
      - crest (fun s => lp (ix2 (row g a) s)) (fun s => lc (ix2 (row g a) s) + tc (ix3 0 (row g a) s)) (pick s0 s1 s2 s3 g)) := fun s => by rw [hec, hm, hlc]
  unfold att mass
  have hsum1 := Finset.sum_congr (rfl : (Finset.univ : Finset (Fin 128)) = Finset.univ) fun s _ => e1 s
  have hsum2 := Finset.sum_congr (rfl : (Finset.univ : Finset (Fin 128)) = Finset.univ) fun s _ => e2 s
  rw [hsum1, hsum2]
  congr 2
  · exact Finset.sum_congr rfl fun s _ => congrArg (· * _) (e1 s)
  · exact Finset.sum_congr rfl fun s _ => congrArg (· * _) (e2 s)

/-- One head's rows of a group's result. -/
theorem slice_apply (off : Fin 2 → ℕ) (x : FVec Ideal S512x64 .f32) (h : S512x64.Slices off S128x64) (g : Fin 4) (ho : off = ![128 * g.val, 0])
    (a : Fin 128) (d : Fin 64) :
    extractStridedSlice S128x64 off x h (ix2 a d) = x (ix2 (row g a) d) :=
  extractStridedSlice_apply off x h (ix2 a d) (ix2 (row g a) d) fun b => by
    subst ho
    match b with
    | ⟨0, _⟩ => rfl
    | ⟨1, _⟩ => exact (Nat.zero_add _).symm

/-- A whole group, from what the body reads: queries, keys and values of the block and of its history, the two halves of
    the table of biases, and the four sinks. -/
def group (i : grid0.Coords) (q0 q1 q2 q3 kc kp vc vp : Vec Ideal S128x64 .f32) (tp tc : Vec Ideal S1x512x128 .f32) (s0 s1 s2 s3 : EReal) : FVec Ideal S512x64 .f32 :=
  k0_pay156 (F := Ideal) (k0_pay151 vc) (k0_pay152 vp) (k0_pay154 i kp q0 q1 q2 q3 tp) (k0_pay155 kc q0 q1 q2 q3) tc s0 s1 s2 s3

theorem group_apply (i : grid0.Coords) (q0 q1 q2 q3 kc kp vc vp : Vec Ideal S128x64 .f32) (tp tc : Vec Ideal S1x512x128 .f32) (s0 s1 s2 s3 : EReal)
    (g : Fin 4) (a : Fin 128) (d : Fin 64) :
    group i q0 q1 q2 q3 kc kp vc vp tp tc s0 s1 s2 s3 (ix2 (row g a) d)
      = att (fun s => (dotq (fun e => pick q0 q1 q2 q3 g (ix2 a e)) (fun e => kp (ix2 s e)) + tp (ix3 0 (row g a) s)) + pen i)
          (fun s => dotq (fun e => pick q0 q1 q2 q3 g (ix2 a e)) (fun e => kc (ix2 s e)) + tc (ix3 0 (row g a) s))
          (fun s => vp (ix2 s d)) (fun s => vc (ix2 s d)) (pick s0 s1 s2 s3 g) := by
  unfold group
  rw [pay156_apply]
  simp only [pay154_apply, pay155_apply]
  rfl

end Cert.Kernel8Ideal.Swa

end
-- ==== Proof.Swa.Body.lean ====
/- Windowed attention: what one grid point of the kernel writes, at an index. The sixteen pieces of 64 columns it stores
   are the sixteen heads' results over the table of biases, whether the table was stored at this point or before. -/
module

public import proofs.«01_k».proof.Proof.Swa.Group
public import proofs.«01_k».proof.Proof.Gen.Kernel8Ideal.Frame
public import Idealize.ShloMosaic.Lib.Pipeline.Value
public import Idealize.ShloMosaic.Lib.Tactic

@[expose] public section

set_option maxRecDepth 16384

noncomputable section

namespace Cert.Kernel8Ideal.Swa

open Cert.Kernel8Ideal Cert.Kernel8Ideal.Gen Idealize.ShloMosaic.TcCoe Idealize.ShloMosaic.ValueIdx Idealize.SL.Sem
open Idealize.ShloMosaic.Tactic
open Idealize.ShloMosaic hiding ix0 ix1 ix2 ix3

/-- The query head `g` of group `h`. -/
abbrev head (h g : Fin 4) : Fin 16 := ⟨4 * h.val + g.val, by omega⟩
/-- Column `d` of the head's 64 columns. -/
abbrev col (h g : Fin 4) (d : Fin 64) : Fin 1024 := ⟨256 * h.val + 64 * g.val + d.val, by omega⟩
/-- Column `d` of the group's 64 columns of keys or values. -/
abbrev kcol (h : Fin 4) (d : Fin 64) : Fin 256 := ⟨64 * h.val + d.val, by omega⟩

/-- The queries of a head, read off the block. -/
def qs (x : Vec Ideal S128x1024 .f32) (h g : Fin 4) : Vec Ideal S128x64 .f32 :=
  View.ld (Val := Elt Ideal) (e' := .f32) x (Rect.unit (s := S128x1024) ![0, 256 * h.val + 64 * g.val] ![128, 64]
    (fun a => by match a with | ⟨0, _⟩ => exact (by decide : 0 + 128 ≤ 128) | ⟨1, _⟩ => exact (by omega : 256 * h.val + 64 * g.val + 64 ≤ 1024)))

/-- The keys or values of a group, read off the block. -/
def ks (x : Vec Ideal S128x256 .f32) (h : Fin 4) : Vec Ideal S128x64 .f32 :=
  View.ld (Val := Elt Ideal) (e' := .f32) x (Rect.unit (s := S128x256) ![0, 64 * h.val] ![128, 64]
    (fun a => by match a with | ⟨0, _⟩ => exact (by decide : 0 + 128 ≤ 128) | ⟨1, _⟩ => exact (by omega : 64 * h.val + 64 ≤ 256)))

/-- Half of the group's plane of the table of biases. -/
def ts (x : Vec Ideal S4x512x256 .f32) (h : Fin 4) (b : Fin 2) : Vec Ideal S1x512x128 .f32 :=
  View.ld (Val := Elt Ideal) (e' := .f32) x (Rect.unit (s := S4x512x256) ![h.val, 0, 128 * b.val] ![1, 512, 128]
    (fun a => by match a with
      | ⟨0, _⟩ => exact (by omega : h.val + 1 ≤ 4)
      | ⟨1, _⟩ => exact (by decide : 0 + 512 ≤ 512)
      | ⟨2, _⟩ => exact (by omega : 128 * b.val + 128 ≤ 256)))

theorem first1 : 0 < S1.numel := by decide

/-- A head's sink. -/
def ss (x : Vec Ideal S16 .f32) (h g : Fin 4) : EReal :=
  View.ld (Val := Elt Ideal) (e' := .f32) x (Rect.unit (s := S16) ![4 * h.val + g.val] ![1]
    (fun a => by match a with | ⟨0, _⟩ => exact (by omega : 4 * h.val + g.val + 1 ≤ 16))) (Shape.Idx.first first1)

section Entry

variable (i : grid0.Coords) (x1 : Vec Ideal S16 .f32) (x3 : Vec Ideal S128x1024 .f32) (x4 x5 x6 x7 : Vec Ideal S128x256 .f32) (T : Vec Ideal S4x512x256 .f32)

/-- Group `h`'s result. -/
def grp (h : Fin 4) : FVec Ideal S512x64 .f32 :=
  group i (qs x3 h ⟨0, by decide⟩) (qs x3 h ⟨1, by decide⟩) (qs x3 h ⟨2, by decide⟩) (qs x3 h ⟨3, by decide⟩) (ks x4 h) (ks x5 h) (ks x6 h) (ks x7 h)
    (ts T h ⟨0, by decide⟩) (ts T h ⟨1, by decide⟩) (ss x1 h ⟨0, by decide⟩) (ss x1 h ⟨1, by decide⟩) (ss x1 h ⟨2, by decide⟩) (ss x1 h ⟨3, by decide⟩)

/-- The score of row `a` of a head against row `s` of a block of keys, with its bias from half `b` of the table. -/
def scoreOf (k : Vec Ideal S128x256 .f32) (b : Fin 2) (h g : Fin 4) (a s : Fin 128) : EReal :=
  dotq (fun e => x3 (ix2 a (col h g e))) (fun e => k (ix2 s (kcol h e))) + T (ix3 h (row g a) ⟨128 * b.val + s.val, by omega⟩)

/-- One entry of what the point writes: row `a`, head `g` of group `h`, column `d`. -/
def entry (h g : Fin 4) (a : Fin 128) (d : Fin 64) : EReal :=
  att (fun s => scoreOf x3 T x5 ⟨0, by decide⟩ h g a s + pen i) (fun s => scoreOf x3 T x4 ⟨1, by decide⟩ h g a s)
    (fun s => x7 (ix2 s (kcol h d))) (fun s => x6 (ix2 s (kcol h d))) (x1 (ix1 (head h g)))

theorem qs_apply (h g : Fin 4) (a : Fin 128) (e : Fin 64) : qs x3 h g (ix2 a e) = x3 (ix2 a (col h g e)) :=
  View.ld_unit_apply_of (Val := Elt Ideal) (e := .f32) x3 ![0, 256 * h.val + 64 * g.val] ![128, 64] _ (ix2 a e) (ix2 a (col h g e)) fun b => by
    match b with
    | ⟨0, _⟩ => exact (Nat.zero_add _).symm
    | ⟨1, _⟩ => rfl

theorem ks_apply (k : Vec Ideal S128x256 .f32) (h : Fin 4) (s : Fin 128) (e : Fin 64) : ks k h (ix2 s e) = k (ix2 s (kcol h e)) :=
  View.ld_unit_apply_of (Val := Elt Ideal) (e := .f32) k ![0, 64 * h.val] ![128, 64] _ (ix2 s e) (ix2 s (kcol h e)) fun b => by
    match b with
    | ⟨0, _⟩ => exact (Nat.zero_add _).symm
    | ⟨1, _⟩ => rfl

theorem ts_apply (h : Fin 4) (b : Fin 2) (r : Fin 512) (s : Fin 128) : ts T h b (ix3 0 r s) = T (ix3 h r ⟨128 * b.val + s.val, by omega⟩) :=
  View.ld_unit_apply_of (Val := Elt Ideal) (e := .f32) T ![h.val, 0, 128 * b.val] ![1, 512, 128] _ (ix3 0 r s) (ix3 h r ⟨128 * b.val + s.val, by omega⟩) fun x => by
    match x with
    | ⟨0, _⟩ => rfl
    | ⟨1, _⟩ => exact (Nat.zero_add _).symm
    | ⟨2, _⟩ => rfl

theorem ss_apply (h g : Fin 4) : ss x1 h g = x1 (ix1 (head h g)) :=
  View.ld_unit_apply_of (Val := Elt Ideal) (e := .f32) x1 ![4 * h.val + g.val] ![1] _ _ (ix1 (head h g)) fun b => by
    match b with
    | ⟨0, _⟩ =>
      have h1 : ((Shape.Idx.first first1 : S1.Idx) 0).val < 1 := ((Shape.Idx.first first1 : S1.Idx) 0).isLt
      show 4 * h.val + g.val = 4 * h.val + g.val + ((Shape.Idx.first first1 : S1.Idx) 0).val
      omega

theorem pick_fun {α : Type} (f : Fin 4 → α) (g : Fin 4) :
    pick (f ⟨0, by decide⟩) (f ⟨1, by decide⟩) (f ⟨2, by decide⟩) (f ⟨3, by decide⟩) g = f g := by
  match g with
  | ⟨0, _⟩ => rfl
  | ⟨1, _⟩ => rfl
  | ⟨2, _⟩ => rfl
  | ⟨3, _⟩ => rfl

theorem grp_apply (h g : Fin 4) (a : Fin 128) (d : Fin 64) : grp i x1 x3 x4 x5 x6 x7 T h (ix2 (row g a) d) = entry i x1 x3 x4 x5 x6 x7 T h g a d := by
  unfold grp
  rw [group_apply, pick_fun (qs x3 h), pick_fun (ss x1 h)]
  simp only [qs_apply, ks_apply, ts_apply, ss_apply]
  rfl

theorem slices (g : Fin 4) : S512x64.Slices ![128 * g.val, 0] S128x64 := by
  match g with
  | ⟨0, _⟩ => exact slices_S512x64_o0_0_S128x64
  | ⟨1, _⟩ => exact slices_S512x64_o128_0_S128x64
  | ⟨2, _⟩ => exact slices_S512x64_o256_0_S128x64
  | ⟨3, _⟩ => exact slices_S512x64_o384_0_S128x64

/-- The piece a head stores. -/
def piece (h g : Fin 4) : FVec Ideal S128x64 .f32 := extractStridedSlice S128x64 ![128 * g.val, 0] (grp i x1 x3 x4 x5 x6 x7 T h) (slices g)

/-- A stored piece agrees with the entries wherever it reaches. -/
theorem tile (h g h' g' : Fin 4) (a : Fin 128) (d : Fin 64) (off : Fin 2 → ℕ) (hoff : off = ![0, 256 * h'.val + 64 * g'.val])
    (w : (⟨2, ![128, 64]⟩ : Shape).Idx → EReal) (hw : w = piece i x1 x3 x4 x5 x6 x7 T h' g') :
    View.TileAt (Val := Elt Ideal) (S := S128x1024) (e := .bf16) (ix2 a (col h g d)) off ![128, 64] w (entry i x1 x3 x4 x5 x6 x7 T h g a d) := by
  intro x hx
  subst hoff
  have e0 : a.val = 0 + (x 0).val := hx 0
  have e1 : 256 * h.val + 64 * g.val + d.val = 256 * h'.val + 64 * g'.val + (x 1).val := hx 1
  have x1lt : (x 1).val < 64 := (x 1).isLt
  have hh : h = h' := Fin.ext (by omega)
  have hg : g = g' := Fin.ext (by omega)
  subst hh hg
  have hx' : x = ix2 a d := by
    funext b
    match b with
    | ⟨0, _⟩ => exact Fin.ext (by show (x 0).val = a.val; omega)
    | ⟨1, _⟩ => exact Fin.ext (by show (x 1).val = d.val; omega)
  rw [hw, hx']
  exact (slice_apply _ _ (slices g) g rfl a d).trans (grp_apply i x1 x3 x4 x5 x6 x7 T h g a d)

end Entry

variable (c : Dev nD) (i : grid0.Coords) (arg1 : Memref sig .tc .smem S32x16 .f32) (harg1 : arg1.IsWhole) (arg2 : Memref sig .tc .smem S16 .f32) (harg2 : arg2.IsWhole) (arg3 : Memref sig .tc .vmem S128x256 .i32) (harg3 : arg3.IsWhole) (arg4 : Memref sig .tc .vmem S128x1024 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1024 .bf16) (harg9 : arg9.IsWhole) (arg10 : Memref sig .tc .vmem S4x512x256 .f32) (harg10 : arg10.IsWhole)

/-- Past the first point: the entries over the table carried in. -/
theorem out_B (hc0 : ¬cond0_0 i)
    (x0 : Vec Ideal S32x16 .f32) (x1 : Vec Ideal S16 .f32) (x2 : Vec Ideal S128x256 .i32) (x3 : Vec Ideal S128x1024 .f32) (x4 : Vec Ideal S128x256 .f32) (x5 : Vec Ideal S128x256 .f32) (x6 : Vec Ideal S128x256 .f32) (x7 : Vec Ideal S128x256 .f32) (xs0 : Vec Ideal S4x512x256 .f32)
    (h g : Fin 4) (a : Fin 128) (d : Fin 64) :
    out0_B_8 c i arg1 harg1 arg2 harg2 arg3 harg3 arg4 harg4 arg5 harg5 arg6 harg6 arg7 harg7 arg8 harg8 arg9 harg9 arg10 harg10 hc0 x0 x1 x2 x3 x4 x5 x6 x7 xs0 (ix2 a (col h g d))
      = entry i x1 x3 x4 x5 x6 x7 xs0 h g a d := by
  have hcov := cover0_B_8 c i arg1 harg1 arg2 harg2 arg3 harg3 arg4 harg4 arg5 harg5 arg6 harg6 arg7 harg7 arg8 harg8 arg9 harg9 arg10 harg10 hc0 x0 x1 x2 x3 x4 x5 x6 x7 xs0
  unfold out0_B_8
  rw [View.read_writes_eq_canon _ _ _ hcov]
  refine View.canon_eq_of_allAt _ _ _ (hcov _) ?_
  clear hcov
  unfold kernelRun0_B
  dsimp only
  sl_unfold_words
  simp only [View.readAt_eq_ld, harg2.read_unread, harg3.read_unread, harg4.read_unread, harg5.read_unread, harg6.read_unread, harg7.read_unread, harg8.read_unread, harg10.read_unread]
  refine View.allAt_cons_unit _ _ _ _ _ (tile i x1 x3 x4 x5 x6 x7 xs0 h g ⟨3, by decide⟩ ⟨3, by decide⟩ a d _ rfl _ rfl) ?_
  refine View.allAt_cons_unit _ _ _ _ _ (tile i x1 x3 x4 x5 x6 x7 xs0 h g ⟨3, by decide⟩ ⟨2, by decide⟩ a d _ rfl _ rfl) ?_
  refine View.allAt_cons_unit _ _ _ _ _ (tile i x1 x3 x4 x5 x6 x7 xs0 h g ⟨3, by decide⟩ ⟨1, by decide⟩ a d _ rfl _ rfl) ?_
  refine View.allAt_cons_unit _ _ _ _ _ (tile i x1 x3 x4 x5 x6 x7 xs0 h g ⟨3, by decide⟩ ⟨0, by decide⟩ a d _ rfl _ rfl) ?_
  refine View.allAt_cons_unit _ _ _ _ _ (tile i x1 x3 x4 x5 x6 x7 xs0 h g ⟨2, by decide⟩ ⟨3, by decide⟩ a d _ rfl _ rfl) ?_
  refine View.allAt_cons_unit _ _ _ _ _ (tile i x1 x3 x4 x5 x6 x7 xs0 h g ⟨2, by decide⟩ ⟨2, by decide⟩ a d _ rfl _ rfl) ?_
  refine View.allAt_cons_unit _ _ _ _ _ (tile i x1 x3 x4 x5 x6 x7 xs0 h g ⟨2, by decide⟩ ⟨1, by decide⟩ a d _ rfl _ rfl) ?_
  refine View.allAt_cons_unit _ _ _ _ _ (tile i x1 x3 x4 x5 x6 x7 xs0 h g ⟨2, by decide⟩ ⟨0, by decide⟩ a d _ rfl _ rfl) ?_
  refine View.allAt_cons_unit _ _ _ _ _ (tile i x1 x3 x4 x5 x6 x7 xs0 h g ⟨1, by decide⟩ ⟨3, by decide⟩ a d _ rfl _ rfl) ?_
  refine View.allAt_cons_unit _ _ _ _ _ (tile i x1 x3 x4 x5 x6 x7 xs0 h g ⟨1, by decide⟩ ⟨2, by decide⟩ a d _ rfl _ rfl) ?_
  refine View.allAt_cons_unit _ _ _ _ _ (tile i x1 x3 x4 x5 x6 x7 xs0 h g ⟨1, by decide⟩ ⟨1, by decide⟩ a d _ rfl _ rfl) ?_
  refine View.allAt_cons_unit _ _ _ _ _ (tile i x1 x3 x4 x5 x6 x7 xs0 h g ⟨1, by decide⟩ ⟨0, by decide⟩ a d _ rfl _ rfl) ?_
  refine View.allAt_cons_unit _ _ _ _ _ (tile i x1 x3 x4 x5 x6 x7 xs0 h g ⟨0, by decide⟩ ⟨3, by decide⟩ a d _ rfl _ rfl) ?_
  refine View.allAt_cons_unit _ _ _ _ _ (tile i x1 x3 x4 x5 x6 x7 xs0 h g ⟨0, by decide⟩ ⟨2, by decide⟩ a d _ rfl _ rfl) ?_
  refine View.allAt_cons_unit _ _ _ _ _ (tile i x1 x3 x4 x5 x6 x7 xs0 h g ⟨0, by decide⟩ ⟨1, by decide⟩ a d _ rfl _ rfl) ?_
  refine View.allAt_cons_unit _ _ _ _ _ (tile i x1 x3 x4 x5 x6 x7 xs0 h g ⟨0, by decide⟩ ⟨0, by decide⟩ a d _ rfl _ rfl) ?_
  exact View.allAt_nil _ _

end Cert.Kernel8Ideal.Swa

end
-- ==== Proof.Swa.OutA.lean ====
/- Windowed attention: what the first grid point writes, at an index: the same entries, over the table it has just stored. -/
module

public import proofs.«01_k».proof.Proof.Swa.Body
public import proofs.«01_k».proof.Proof.Gen.Kernel8Ideal.Frame
public import Idealize.ShloMosaic.Lib.Pipeline.Value
public import Idealize.ShloMosaic.Lib.Tactic

@[expose] public section

set_option maxRecDepth 16384

noncomputable section

namespace Cert.Kernel8Ideal.Swa

open Cert.Kernel8Ideal Cert.Kernel8Ideal.Gen Idealize.ShloMosaic.TcCoe Idealize.ShloMosaic.ValueIdx Idealize.SL.Sem
open Idealize.ShloMosaic.Tactic
open Idealize.ShloMosaic hiding ix0 ix1 ix2 ix3

variable (c : Dev nD) (i : grid0.Coords) (arg1 : Memref sig .tc .smem S32x16 .f32) (harg1 : arg1.IsWhole) (arg2 : Memref sig .tc .smem S16 .f32) (harg2 : arg2.IsWhole) (arg3 : Memref sig .tc .vmem S128x256 .i32) (harg3 : arg3.IsWhole) (arg4 : Memref sig .tc .vmem S128x1024 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1024 .bf16) (harg9 : arg9.IsWhole) (arg10 : Memref sig .tc .vmem S4x512x256 .f32) (harg10 : arg10.IsWhole)

set_option maxHeartbeats 4000000 in
/-- At the first point: the entries over the table stored there. -/
theorem out_A (hc0 : cond0_0 i)
    (x0 : Vec Ideal S32x16 .f32) (x1 : Vec Ideal S16 .f32) (x2 : Vec Ideal S128x256 .i32) (x3 : Vec Ideal S128x1024 .f32) (x4 : Vec Ideal S128x256 .f32) (x5 : Vec Ideal S128x256 .f32) (x6 : Vec Ideal S128x256 .f32) (x7 : Vec Ideal S128x256 .f32)
    (h g : Fin 4) (a : Fin 128) (d : Fin 64) :
    out0_A_8 c i arg1 harg1 arg2 harg2 arg3 harg3 arg4 harg4 arg5 harg5 arg6 harg6 arg7 harg7 arg8 harg8 arg9 harg9 arg10 harg10 hc0 x0 x1 x2 x3 x4 x5 x6 x7 (ix2 a (col h g d))
      = entry i x1 x3 x4 x5 x6 x7 (sout0_A_0 c i arg1 harg1 arg2 harg2 arg3 harg3 arg4 harg4 arg5 harg5 arg6 harg6 arg7 harg7 arg8 harg8 arg9 harg9 arg10 harg10 hc0 x0 x1 x2 x3 x4 x5 x6 x7) h g a d := by
  obtain ⟨T, hT⟩ : ∃ T, T = sout0_A_0 c i arg1 harg1 arg2 harg2 arg3 harg3 arg4 harg4 arg5 harg5 arg6 harg6 arg7 harg7 arg8 harg8 arg9 harg9 arg10 harg10 hc0 x0 x1 x2 x3 x4 x5 x6 x7 := ⟨_, rfl⟩
  rw [← hT]
  unfold sout0_A_0 at hT
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)] at hT
  have hcov := cover0_A_8 c i arg1 harg1 arg2 harg2 arg3 harg3 arg4 harg4 arg5 harg5 arg6 harg6 arg7 harg7 arg8 harg8 arg9 harg9 arg10 harg10 hc0 x0 x1 x2 x3 x4 x5 x6 x7
  unfold out0_A_8
  rw [View.read_writes_eq_canon _ _ _ hcov]
  refine View.canon_eq_of_allAt _ _ _ (hcov _) ?_
  clear hcov
  revert hT
  unfold kernelRun0_A
  dsimp only
  sl_unfold_words
  simp only [View.readAt_eq_ld, harg1.read_unread, harg2.read_unread, harg3.read_unread, harg4.read_unread, harg5.read_unread, harg6.read_unread, harg7.read_unread, harg8.read_unread]
  intro hT
  simp only [View.readCov_eq_canon', ← hT]
  refine View.allAt_cons_unit _ _ _ _ _ (tile i x1 x3 x4 x5 x6 x7 T h g ⟨3, by decide⟩ ⟨3, by decide⟩ a d _ rfl _ rfl) ?_
  refine View.allAt_cons_unit _ _ _ _ _ (tile i x1 x3 x4 x5 x6 x7 T h g ⟨3, by decide⟩ ⟨2, by decide⟩ a d _ rfl _ rfl) ?_
  refine View.allAt_cons_unit _ _ _ _ _ (tile i x1 x3 x4 x5 x6 x7 T h g ⟨3, by decide⟩ ⟨1, by decide⟩ a d _ rfl _ rfl) ?_
  refine View.allAt_cons_unit _ _ _ _ _ (tile i x1 x3 x4 x5 x6 x7 T h g ⟨3, by decide⟩ ⟨0, by decide⟩ a d _ rfl _ rfl) ?_
  refine View.allAt_cons_unit _ _ _ _ _ (tile i x1 x3 x4 x5 x6 x7 T h g ⟨2, by decide⟩ ⟨3, by decide⟩ a d _ rfl _ rfl) ?_
  refine View.allAt_cons_unit _ _ _ _ _ (tile i x1 x3 x4 x5 x6 x7 T h g ⟨2, by decide⟩ ⟨2, by decide⟩ a d _ rfl _ rfl) ?_
  refine View.allAt_cons_unit _ _ _ _ _ (tile i x1 x3 x4 x5 x6 x7 T h g ⟨2, by decide⟩ ⟨1, by decide⟩ a d _ rfl _ rfl) ?_
  refine View.allAt_cons_unit _ _ _ _ _ (tile i x1 x3 x4 x5 x6 x7 T h g ⟨2, by decide⟩ ⟨0, by decide⟩ a d _ rfl _ rfl) ?_
  refine View.allAt_cons_unit _ _ _ _ _ (tile i x1 x3 x4 x5 x6 x7 T h g ⟨1, by decide⟩ ⟨3, by decide⟩ a d _ rfl _ rfl) ?_
  refine View.allAt_cons_unit _ _ _ _ _ (tile i x1 x3 x4 x5 x6 x7 T h g ⟨1, by decide⟩ ⟨2, by decide⟩ a d _ rfl _ rfl) ?_
  refine View.allAt_cons_unit _ _ _ _ _ (tile i x1 x3 x4 x5 x6 x7 T h g ⟨1, by decide⟩ ⟨1, by decide⟩ a d _ rfl _ rfl) ?_
  refine View.allAt_cons_unit _ _ _ _ _ (tile i x1 x3 x4 x5 x6 x7 T h g ⟨1, by decide⟩ ⟨0, by decide⟩ a d _ rfl _ rfl) ?_
  refine View.allAt_cons_unit _ _ _ _ _ (tile i x1 x3 x4 x5 x6 x7 T h g ⟨0, by decide⟩ ⟨3, by decide⟩ a d _ rfl _ rfl) ?_
  refine View.allAt_cons_unit _ _ _ _ _ (tile i x1 x3 x4 x5 x6 x7 T h g ⟨0, by decide⟩ ⟨2, by decide⟩ a d _ rfl _ rfl) ?_
  refine View.allAt_cons_unit _ _ _ _ _ (tile i x1 x3 x4 x5 x6 x7 T h g ⟨0, by decide⟩ ⟨1, by decide⟩ a d _ rfl _ rfl) ?_
  refine View.allAt_cons_unit _ _ _ _ _ (tile i x1 x3 x4 x5 x6 x7 T h g ⟨0, by decide⟩ ⟨0, by decide⟩ a d _ rfl _ rfl) ?_
  exact View.allAt_nil _ _

end Cert.Kernel8Ideal.Swa

end
-- ==== Proof.Swa.Table.lean ====
/- Windowed attention: the table of biases the first grid point stores, at an index: the head's bias of the bucket between
   the row and the key, and minus infinity where there is no bucket. -/
module

public import proofs.«01_k».proof.Proof.Swa.Body
public import proofs.«01_k».proof.Proof.Gen.Kernel8Ideal.Frame
public import Idealize.ShloMosaic.Lib.Pipeline.Value
public import Idealize.ShloMosaic.Lib.Tactic

@[expose] public section

set_option maxRecDepth 16384

noncomputable section

namespace Cert.Kernel8Ideal.Swa

open Cert.Kernel8Ideal Cert.Kernel8Ideal.Gen Idealize.ShloMosaic.TcCoe Idealize.ShloMosaic.ValueIdx Idealize.SL.Sem
open Idealize.ShloMosaic.Tactic
open Idealize.ShloMosaic hiding ix0 ix1 ix2 ix3

/-- The biases laid over the buckets one after another: `n` selects, from minus infinity. -/
def lay (b : IVec S128x256 32) : (n : ℕ) → (Fin n → EReal) → FVec Ideal S128x256 .f32
  | 0, _ => broadcast S128x256 (Named.named (F := Ideal) κ "masked" (φ := .f32) 0xF149F2CA#32)
  | n + 1, f => select (cmpi .eq b (broadcast S128x256 (BitVec.ofNat 32 n))) (broadcast S128x256 (f (Fin.last n))) (lay b n fun k => f k.castSucc)

/-- The same for one bucket. -/
def picked (b : BitVec 32) : (n : ℕ) → (Fin n → EReal) → EReal
  | 0, _ => ⊥
  | n + 1, f => if b = BitVec.ofNat 32 n then f (Fin.last n) else picked b n fun k => f k.castSucc

theorem lay_apply (b : IVec S128x256 32) (j : S128x256.Idx) : ∀ (n : ℕ) (f : Fin n → EReal), lay b n f j = picked (b j) n f
  | 0, _ => IdealRules.named_const.ideal_named_scalar _ _ _ _ rfl
  | n + 1, f => by
    have ih := lay_apply b j n fun k => f k.castSucc
    unfold lay picked
    rw [← ih]
    show Scalar.select (BitVec.ofBool (b j == BitVec.ofNat 32 n)) (f (Fin.last n)) (lay b n (fun k => f k.castSucc) j) = _
    by_cases hb : b j = BitVec.ofNat 32 n
    · rw [hb, beq_self_eq_true, if_pos rfl]; rfl
    · rw [beq_eq_false_iff_ne.2 hb, if_neg hb]; rfl

/-- The buckets, read whole. -/
def bs (x : IVec S128x256 32) : IVec S128x256 32 :=
  View.ld (Val := Elt Ideal) (e' := .i32) x (Rect.unit (s := S128x256) ![0, 0] ![128, 256]
    (fun a => by match a with | ⟨0, _⟩ => exact (by decide : 0 + 128 ≤ 128) | ⟨1, _⟩ => exact (by decide : 0 + 256 ≤ 256)))

theorem bs_apply (x : IVec S128x256 32) (a : Fin 128) (s : Fin 256) : bs x (ix2 a s) = x (ix2 a s) :=
  View.ld_unit_apply_of (Val := Elt Ideal) (e := .i32) x ![0, 0] ![128, 256] _ (ix2 a s) (ix2 a s) fun b => by
    match b with
    | ⟨0, _⟩ => exact (Nat.zero_add _).symm
    | ⟨1, _⟩ => exact (Nat.zero_add _).symm

theorem first11 : 0 < S1x1.numel := by decide

/-- A head's bias of a bucket, read off the table of biases. -/
def rs (x : Vec Ideal S32x16 .f32) (h g : Fin 4) (k : Fin 32) : EReal :=
  View.ld (Val := Elt Ideal) (e' := .f32) x (Rect.unit (s := S32x16) ![k.val, 4 * h.val + g.val] ![1, 1]
    (fun a => by match a with | ⟨0, _⟩ => exact (by omega : k.val + 1 ≤ 32) | ⟨1, _⟩ => exact (by omega : 4 * h.val + g.val + 1 ≤ 16)))
    (Shape.Idx.first first11)

theorem rs_apply (x : Vec Ideal S32x16 .f32) (h g : Fin 4) (k : Fin 32) : rs x h g k = x (ix2 k (head h g)) :=
  View.ld_unit_apply_of (Val := Elt Ideal) (e := .f32) x ![k.val, 4 * h.val + g.val] ![1, 1] _ _ (ix2 k (head h g)) fun b => by
    match b with
    | ⟨0, _⟩ =>
      have h1 : ((Shape.Idx.first first11 : S1x1.Idx) 0).val < 1 := ((Shape.Idx.first first11 : S1x1.Idx) 0).isLt
      show k.val = k.val + ((Shape.Idx.first first11 : S1x1.Idx) 0).val
      omega
    | ⟨1, _⟩ =>
      have h1 : ((Shape.Idx.first first11 : S1x1.Idx) 1).val < 1 := ((Shape.Idx.first first11 : S1x1.Idx) 1).isLt
      show 4 * h.val + g.val = 4 * h.val + g.val + ((Shape.Idx.first first11 : S1x1.Idx) 1).val
      omega

section Tab

variable (x0 : Vec Ideal S32x16 .f32) (x2 : IVec S128x256 32)

/-- The plane of a head's biases. -/
def sheet (h g : Fin 4) : FVec Ideal S1x128x256 .f32 := shapeCast S1x128x256 (lay (bs x2) 32 (rs x0 h g)) shapeCasts_S128x256_S1x128x256

/-- The table at a row and a key. -/
def tab (h g : Fin 4) (a : Fin 128) (s : Fin 256) : EReal := picked (x2 (ix2 a s)) 32 fun k => x0 (ix2 k (head h g))

theorem sheet_apply (h g : Fin 4) (a : Fin 128) (s : Fin 256) : sheet x0 x2 h g (ix3 0 a s) = tab x0 x2 h g a s := by
  unfold sheet tab
  rw [shapeCast_apply _ _ (ix3 0 a s) (ix2 a s) (by
    rw [Shape.rowMajor_val_two, Shape.rowMajor_val_three]
    show a.val * 256 + s.val = (0 * 128 + a.val) * 256 + s.val
    omega), lay_apply, bs_apply]
  exact congrArg (picked _ 32) (funext fun k => rs_apply x0 h g k)

/-- A stored plane agrees with the table wherever it reaches. -/
theorem tabTile (h g h' g' : Fin 4) (a : Fin 128) (s : Fin 256) (off : Fin 3 → ℕ) (hoff : off = ![h'.val, 128 * g'.val, 0])
    (w : (⟨3, ![1, 128, 256]⟩ : Shape).Idx → EReal) (hw : w = sheet x0 x2 h' g') :
    View.TileAt (Val := Elt Ideal) (S := S4x512x256) (e := .f32) (ix3 h (row g a) s) off ![1, 128, 256] w (tab x0 x2 h g a s) := by
  intro x hx
  subst hoff
  have e0 : h.val = h'.val + (x 0).val := hx 0
  have e1 : 128 * g.val + a.val = 128 * g'.val + (x 1).val := hx 1
  have e2 : s.val = 0 + (x 2).val := hx 2
  have x0lt : (x 0).val < 1 := (x 0).isLt
  have x1lt : (x 1).val < 128 := (x 1).isLt
  have hh : h = h' := Fin.ext (by omega)
  have hg : g = g' := Fin.ext (by omega)
  subst hh hg
  have hx' : x = ix3 0 a s := by
    funext b
    match b with
    | ⟨0, _⟩ => exact Fin.ext (by show (x 0).val = 0; omega)
    | ⟨1, _⟩ => exact Fin.ext (by show (x 1).val = a.val; omega)
    | ⟨2, _⟩ => exact Fin.ext (by show (x 2).val = s.val; omega)
  rw [hw, hx']
  exact sheet_apply x0 x2 h g a s

end Tab

variable (c : Dev nD) (i : grid0.Coords) (arg1 : Memref sig .tc .smem S32x16 .f32) (harg1 : arg1.IsWhole) (arg2 : Memref sig .tc .smem S16 .f32) (harg2 : arg2.IsWhole) (arg3 : Memref sig .tc .vmem S128x256 .i32) (harg3 : arg3.IsWhole) (arg4 : Memref sig .tc .vmem S128x1024 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x1024 .bf16) (harg9 : arg9.IsWhole) (arg10 : Memref sig .tc .vmem S4x512x256 .f32) (harg10 : arg10.IsWhole)

/-- The first point stores the table. -/
theorem table_A (hc0 : cond0_0 i)
    (x0 : Vec Ideal S32x16 .f32) (x1 : Vec Ideal S16 .f32) (x2 : Vec Ideal S128x256 .i32) (x3 : Vec Ideal S128x1024 .f32) (x4 : Vec Ideal S128x256 .f32) (x5 : Vec Ideal S128x256 .f32) (x6 : Vec Ideal S128x256 .f32) (x7 : Vec Ideal S128x256 .f32)
    (h g : Fin 4) (a : Fin 128) (s : Fin 256) :
    sout0_A_0 c i arg1 harg1 arg2 harg2 arg3 harg3 arg4 harg4 arg5 harg5 arg6 harg6 arg7 harg7 arg8 harg8 arg9 harg9 arg10 harg10 hc0 x0 x1 x2 x3 x4 x5 x6 x7 (ix3 h (row g a) s) = tab x0 x2 h g a s := by
  have hcov := scover0_A_0 c i arg1 harg1 arg2 harg2 arg3 harg3 arg4 harg4 arg5 harg5 arg6 harg6 arg7 harg7 arg8 harg8 arg9 harg9 arg10 harg10 hc0 x0 x1 x2 x3 x4 x5 x6 x7
  unfold sout0_A_0
  rw [View.read_writes_eq_canon _ _ _ hcov]
  refine View.canon_eq_of_allAt _ _ _ (hcov _) ?_
  clear hcov
  unfold kernelRun0_A
  dsimp only
  sl_unfold_words
  simp only [View.readAt_eq_ld, harg1.read_unread, harg2.read_unread, harg3.read_unread, harg4.read_unread, harg5.read_unread, harg6.read_unread, harg7.read_unread, harg8.read_unread]
  refine View.allAt_cons_unit _ _ _ _ _ (tabTile x0 x2 h g ⟨3, by decide⟩ ⟨3, by decide⟩ a s _ rfl _ rfl) ?_
  refine View.allAt_cons_unit _ _ _ _ _ (tabTile x0 x2 h g ⟨3, by decide⟩ ⟨2, by decide⟩ a s _ rfl _ rfl) ?_
  refine View.allAt_cons_unit _ _ _ _ _ (tabTile x0 x2 h g ⟨3, by decide⟩ ⟨1, by decide⟩ a s _ rfl _ rfl) ?_
  refine View.allAt_cons_unit _ _ _ _ _ (tabTile x0 x2 h g ⟨3, by decide⟩ ⟨0, by decide⟩ a s _ rfl _ rfl) ?_
  refine View.allAt_cons_unit _ _ _ _ _ (tabTile x0 x2 h g ⟨2, by decide⟩ ⟨3, by decide⟩ a s _ rfl _ rfl) ?_
  refine View.allAt_cons_unit _ _ _ _ _ (tabTile x0 x2 h g ⟨2, by decide⟩ ⟨2, by decide⟩ a s _ rfl _ rfl) ?_
  refine View.allAt_cons_unit _ _ _ _ _ (tabTile x0 x2 h g ⟨2, by decide⟩ ⟨1, by decide⟩ a s _ rfl _ rfl) ?_
  refine View.allAt_cons_unit _ _ _ _ _ (tabTile x0 x2 h g ⟨2, by decide⟩ ⟨0, by decide⟩ a s _ rfl _ rfl) ?_
  refine View.allAt_cons_unit _ _ _ _ _ (tabTile x0 x2 h g ⟨1, by decide⟩ ⟨3, by decide⟩ a s _ rfl _ rfl) ?_
  refine View.allAt_cons_unit _ _ _ _ _ (tabTile x0 x2 h g ⟨1, by decide⟩ ⟨2, by decide⟩ a s _ rfl _ rfl) ?_
  refine View.allAt_cons_unit _ _ _ _ _ (tabTile x0 x2 h g ⟨1, by decide⟩ ⟨1, by decide⟩ a s _ rfl _ rfl) ?_
  refine View.allAt_cons_unit _ _ _ _ _ (tabTile x0 x2 h g ⟨1, by decide⟩ ⟨0, by decide⟩ a s _ rfl _ rfl) ?_
  refine View.allAt_cons_unit _ _ _ _ _ (tabTile x0 x2 h g ⟨0, by decide⟩ ⟨3, by decide⟩ a s _ rfl _ rfl) ?_
  refine View.allAt_cons_unit _ _ _ _ _ (tabTile x0 x2 h g ⟨0, by decide⟩ ⟨2, by decide⟩ a s _ rfl _ rfl) ?_
  refine View.allAt_cons_unit _ _ _ _ _ (tabTile x0 x2 h g ⟨0, by decide⟩ ⟨1, by decide⟩ a s _ rfl _ rfl) ?_
  refine View.allAt_cons_unit _ _ _ _ _ (tabTile x0 x2 h g ⟨0, by decide⟩ ⟨0, by decide⟩ a s _ rfl _ rfl) ?_
  exact View.allAt_nil _ _

end Cert.Kernel8Ideal.Swa

end
-- ==== Proof.Swa.State.lean ====
/- Windowed attention: what each grid point reads and what it leaves. The blocks are rows of the projection and, before
   the first block, the first block itself under a penalty of minus infinity; the table is the same at every point. -/
module

public import proofs.«01_k».proof.Proof.Swa.OutA
public import proofs.«01_k».proof.Proof.Swa.Table
public import proofs.«01_k».proof.Proof.Gen.Kernel8Ideal.Value

@[expose] public section

set_option maxRecDepth 16384

noncomputable section

namespace Cert.Kernel8Ideal.Swa

open Cert.Kernel8Ideal Cert.Kernel8Ideal.Gen Idealize.ShloMosaic.TcCoe Idealize.ShloMosaic.ValueIdx Idealize.SL.Sem
open Idealize.ShloMosaic hiding ix0 ix1 ix2 ix3

section Result

variable (X : S8192x3584.Idx → EReal) (B : S32x16.Idx → EReal) (S : S16.Idx → EReal) (K : S128x256.Idx → BitVec 32)

/-- Row `a` of block `n` of 128 rows. -/
abbrev arow (n : Fin 64) (a : Fin 128) : Fin 8192 := ⟨128 * n.val + a.val, by omega⟩
/-- The block before, the first one before itself. -/
abbrev prev (n : Fin 64) : Fin 64 := ⟨n.val - 1, by omega⟩
/-- The projection's columns of a head's queries. -/
abbrev qcol (h g : Fin 4) (e : Fin 64) : Fin 3584 := ⟨256 * h.val + 64 * g.val + e.val, by omega⟩
/-- The projection's columns of a group's keys. -/
abbrev kcols (h : Fin 4) (e : Fin 64) : Fin 3584 := ⟨3072 + (64 * h.val + e.val), by omega⟩
/-- The projection's columns of a group's values. -/
abbrev vcols (h : Fin 4) (e : Fin 64) : Fin 3584 := ⟨3328 + (64 * h.val + e.val), by omega⟩

/-- The scaled score of row `a` of block `n` against row `s` of block `n'`. -/
def sdot (n n' : Fin 64) (h g : Fin 4) (a s : Fin 128) : EReal :=
  dotq (fun e => X (ix2 (arow n a) (qcol h g e))) (fun e => X (ix2 (arow n' s) (kcols h e)))

/-- The penalty of the block before: minus infinity at the first block. -/
def first (n : Fin 64) : EReal := if n.val = 0 then ⊥ else 0

/-- The result's entry: block `n`, row `a`, head `g` of group `h`, column `d`. -/
def res (n : Fin 64) (h g : Fin 4) (a : Fin 128) (d : Fin 64) : EReal :=
  att (fun s => sdot X n (prev n) h g a s + tab B K h g a ⟨s.val, by omega⟩ + first n)
    (fun s => sdot X n n h g a s + tab B K h g a ⟨128 + s.val, by omega⟩)
    (fun s => X (ix2 (arow (prev n) s) (vcols h d))) (fun s => X (ix2 (arow n s) (vcols h d))) (S (ix1 (head h g)))

end Result

variable (m : (ℓ : Loc nD τ sig) → Buf (Elt Ideal) ℓ) (ρ : Dev nD → PrngReg)

/-- The projection. -/
abbrev aX (c : Dev nD) : S8192x3584.Idx → EReal := m ((c : Thread nD τ).loc main_arg0)
/-- The biases of the buckets. -/
abbrev aB (c : Dev nD) : S32x16.Idx → EReal := m ((c : Thread nD τ).loc main_arg1)
/-- The sinks. -/
abbrev aS (c : Dev nD) : S16.Idx → EReal := m ((c : Thread nD τ).loc main_arg2)
/-- The buckets. -/
abbrev aK (c : Dev nD) : S128x256.Idx → BitVec 32 := m ((c : Thread nD τ).loc main_arg3)

/-- The windows' block indices over the 64 points. -/
theorem idx : ∀ t : Fin grid0.N,
    (grid0.coords t 0).val = t.val
    ∧ (win0_0.index t 0 = 0 ∧ win0_0.index t 1 = 0) ∧ win0_1.index t 0 = 0 ∧ (win0_2.index t 0 = 0 ∧ win0_2.index t 1 = 0)
    ∧ (win0_3.index t 0 = t.val ∧ win0_3.index t 1 = 0)
    ∧ (win0_4.index t 0 = t.val ∧ win0_4.index t 1 = 12) ∧ (win0_5.index t 0 = t.val - 1 ∧ win0_5.index t 1 = 12)
    ∧ (win0_6.index t 0 = t.val ∧ win0_6.index t 1 = 13) ∧ (win0_7.index t 0 = t.val - 1 ∧ win0_7.index t 1 = 13) := by
  decide +kernel

/-- A grid point as a block's number. -/
abbrev blkno (t : Fin cfg0.N) : Fin 64 := ⟨t.val, Nat.lt_of_lt_of_eq t.isLt Gen.N_0⟩

theorem blk0 (c : Dev nD) (t : Fin cfg0.N) (k : Fin 32) (j : Fin 16) : (iblk m c 0 t : Vec Ideal S32x16 .f32) (ix2 k j) = aB m c (ix2 k j) := by
  have e := (idx t).2.1
  unfold iblk
  rw [View.read_apply]
  show V m c main_arg1 _ = _
  rw [V_main_arg1 m c]
  refine congrArg (aB m c) (funext fun x => Fin.ext ?_)
  match x with
  | ⟨0, _⟩ => show win0_0.index t 0 * 32 + 1 * k.val = k.val; rw [e.1]; omega
  | ⟨1, _⟩ => show win0_0.index t 1 * 16 + 1 * j.val = j.val; rw [e.2]; omega

theorem blk1 (c : Dev nD) (t : Fin cfg0.N) (j : Fin 16) : (iblk m c 1 t : Vec Ideal S16 .f32) (ix1 j) = aS m c (ix1 j) := by
  have e := (idx t).2.2.1
  unfold iblk
  rw [View.read_apply]
  show V m c main_arg2 _ = _
  rw [V_main_arg2 m c]
  refine congrArg (aS m c) (funext fun x => Fin.ext ?_)
  match x with
  | ⟨0, _⟩ => show win0_1.index t 0 * 16 + 1 * j.val = j.val; rw [e]; omega

theorem blk2 (c : Dev nD) (t : Fin cfg0.N) (a : Fin 128) (s : Fin 256) : (iblk m c 2 t : Vec Ideal S128x256 .i32) (ix2 a s) = aK m c (ix2 a s) := by
  have e := (idx t).2.2.2.1
  unfold iblk
  rw [View.read_apply]
  show V m c main_arg3 _ = _
  rw [V_main_arg3 m c]
  refine congrArg (aK m c) (funext fun x => Fin.ext ?_)
  match x with
  | ⟨0, _⟩ => show win0_2.index t 0 * 128 + 1 * a.val = a.val; rw [e.1]; omega
  | ⟨1, _⟩ => show win0_2.index t 1 * 256 + 1 * s.val = s.val; rw [e.2]; omega

/-- The queries' block. -/
theorem blk3 (c : Dev nD) (t : Fin cfg0.N) (a : Fin 128) (h g : Fin 4) (e' : Fin 64) :
    (X0_3 m c t : Vec Ideal S128x1024 .f32) (ix2 a (col h g e')) = aX m c (ix2 (arow (blkno t) a) (qcol h g e')) := by
  have e := (idx t).2.2.2.2.1
  unfold X0_3 Pipeline.Window.fill
  rw [dif_pos (moved0_3 t _)]
  unfold iblk
  rw [View.read_apply]
  show V m c main_arg0 _ = _
  rw [V_main_arg0 m c]
  refine congrArg (aX m c) (funext fun x => Fin.ext ?_)
  match x with
  | ⟨0, _⟩ => show win0_3.index t 0 * 128 + 1 * a.val = 128 * t.val + a.val; rw [e.1]; omega
  | ⟨1, _⟩ => show win0_3.index t 1 * 1024 + 1 * (256 * h.val + 64 * g.val + e'.val) = 256 * h.val + 64 * g.val + e'.val; rw [e.2]; omega

/-- The keys of the block and of the block before. -/
theorem blk4 (c : Dev nD) (t : Fin cfg0.N) (s : Fin 128) (h : Fin 4) (e' : Fin 64) :
    (iblk m c 4 t : Vec Ideal S128x256 .f32) (ix2 s (kcol h e')) = aX m c (ix2 (arow (blkno t) s) (kcols h e')) := by
  have e := (idx t).2.2.2.2.2.1
  unfold iblk
  rw [View.read_apply]
  show V m c main_arg0 _ = _
  rw [V_main_arg0 m c]
  refine congrArg (aX m c) (funext fun x => Fin.ext ?_)
  match x with
  | ⟨0, _⟩ => show win0_4.index t 0 * 128 + 1 * s.val = 128 * t.val + s.val; rw [e.1]; omega
  | ⟨1, _⟩ => show win0_4.index t 1 * 256 + 1 * (64 * h.val + e'.val) = 3072 + (64 * h.val + e'.val); rw [e.2]; omega

theorem blk5 (c : Dev nD) (t : Fin cfg0.N) (s : Fin 128) (h : Fin 4) (e' : Fin 64) :
    (iblk m c 5 t : Vec Ideal S128x256 .f32) (ix2 s (kcol h e')) = aX m c (ix2 (arow (prev (blkno t)) s) (kcols h e')) := by
  have e := (idx t).2.2.2.2.2.2.1
  unfold iblk
  rw [View.read_apply]
  show V m c main_arg0 _ = _
  rw [V_main_arg0 m c]
  refine congrArg (aX m c) (funext fun x => Fin.ext ?_)
  match x with
  | ⟨0, _⟩ => show win0_5.index t 0 * 128 + 1 * s.val = 128 * (t.val - 1) + s.val; rw [e.1]; omega
  | ⟨1, _⟩ => show win0_5.index t 1 * 256 + 1 * (64 * h.val + e'.val) = 3072 + (64 * h.val + e'.val); rw [e.2]; omega

/-- The values of the block and of the block before. -/
theorem blk6 (c : Dev nD) (t : Fin cfg0.N) (s : Fin 128) (h : Fin 4) (e' : Fin 64) :
    (iblk m c 6 t : Vec Ideal S128x256 .f32) (ix2 s (kcol h e')) = aX m c (ix2 (arow (blkno t) s) (vcols h e')) := by
  have e := (idx t).2.2.2.2.2.2.2.1
  unfold iblk
  rw [View.read_apply]
  show V m c main_arg0 _ = _
  rw [V_main_arg0 m c]
  refine congrArg (aX m c) (funext fun x => Fin.ext ?_)
  match x with
  | ⟨0, _⟩ => show win0_6.index t 0 * 128 + 1 * s.val = 128 * t.val + s.val; rw [e.1]; omega
  | ⟨1, _⟩ => show win0_6.index t 1 * 256 + 1 * (64 * h.val + e'.val) = 3328 + (64 * h.val + e'.val); rw [e.2]; omega

theorem blk7 (c : Dev nD) (t : Fin cfg0.N) (s : Fin 128) (h : Fin 4) (e' : Fin 64) :
    (iblk m c 7 t : Vec Ideal S128x256 .f32) (ix2 s (kcol h e')) = aX m c (ix2 (arow (prev (blkno t)) s) (vcols h e')) := by
  have e := (idx t).2.2.2.2.2.2.2.2
  unfold iblk
  rw [View.read_apply]
  show V m c main_arg0 _ = _
  rw [V_main_arg0 m c]
  refine congrArg (aX m c) (funext fun x => Fin.ext ?_)
  match x with
  | ⟨0, _⟩ => show win0_7.index t 0 * 128 + 1 * s.val = 128 * (t.val - 1) + s.val; rw [e.1]; omega
  | ⟨1, _⟩ => show win0_7.index t 1 * 256 + 1 * (64 * h.val + e'.val) = 3328 + (64 * h.val + e'.val); rw [e.2]; omega

/-- The kernel's penalty is minus infinity at the first block and zero after it. -/
theorem pen_eq (t : Fin cfg0.N) : pen (grid0.coords t) = first (blkno t) := by
  have e := (idx t).1
  have ht : t.val < 64 := (blkno t).isLt
  unfold pen k0_pay150
  show Scalar.select (BitVec.ofBool (BitVec.ofNat 32 (grid0.coords t 0).val == 0#32))
    (Named.named (F := Ideal) κ "masked" (φ := .f32) 0xF149F2CA#32) (Ideal.ofBits .f32 0x00000000#32) = _
  rw [e, IdealRules.named_const.ideal_named_scalar _ _ _ _ rfl]
  unfold first
  show _ = if t.val = 0 then (⊥ : EReal) else 0
  by_cases h0 : t.val = 0
  · rw [h0, if_pos rfl]; rfl
  · have hne : BitVec.ofNat 32 t.val ≠ 0#32 := by
      intro h
      have := congrArg BitVec.toNat h
      simp at this
      omega
    rw [beq_eq_false_iff_ne.2 hne, if_neg h0]
    exact Ideal.ofBits_zero_f32

/-- An entry over the point's blocks and the table is the result's entry. -/
theorem entry_eq (c : Dev nD) (t : Fin cfg0.N) (T : Vec Ideal S4x512x256 .f32)
    (hT : ∀ (h g : Fin 4) (a : Fin 128) (s : Fin 256), T (ix3 h (row g a) s) = tab (aB m c) (aK m c) h g a s)
    (h g : Fin 4) (a : Fin 128) (d : Fin 64) :
    entry (grid0.coords t) (iblk m c 1 t) (X0_3 m c t) (iblk m c 4 t) (iblk m c 5 t) (iblk m c 6 t) (iblk m c 7 t) T h g a d
      = res (aX m c) (aB m c) (aS m c) (aK m c) (blkno t) h g a d := by
  unfold entry res scoreOf sdot
  rw [blk1 m c t, pen_eq t]
  simp only [blk3 m c t, blk4 m c t, blk5 m c t, blk6 m c t, blk7 m c t, hT]
  refine congrArg (fun f => att f _ _ _ _) (funext fun s => ?_)
  refine congrArg (fun x => _ + tab _ _ h g a x + _) (Fin.ext ?_)
  show 128 * 0 + s.val = s.val
  omega

/-- The first point's table, over the arguments. -/
theorem tab_eq (c : Dev nD) (t : Fin cfg0.N) (h g : Fin 4) (a : Fin 128) (s : Fin 256) :
    tab (iblk m c 0 t) (iblk m c 2 t) h g a s = tab (aB m c) (aK m c) h g a s := by
  unfold tab
  rw [blk2 m c t]
  exact congrArg (picked _ 32) (funext fun k => blk0 m c t k _)

/-- After every point the scratch holds the table. -/
theorem table (c : Dev nD) : ∀ (n : ℕ) (hn : n < cfg0.N) (h g : Fin 4) (a : Fin 128) (s : Fin 256),
    (outsAt0 m c n hn).2 (ix3 h (row g a) s) = tab (aB m c) (aK m c) h g a s
  | 0, hn, h, g, a, s => by
    rw [outsAt0_A m c ⟨0, hn⟩ (Nat.zero_mod _)]
    dsimp only
    rw [table_A]
    exact tab_eq m c _ h g a s
  | n + 1, hn, h, g, a, s => by
    have hN : n + 1 < 64 := Nat.lt_of_lt_of_eq hn Gen.N_0
    rw [outsAt0_B m c ⟨n + 1, hn⟩ (by show ¬(n + 1) % 64 = 0; omega)]
    exact table c n (Nat.lt_of_succ_lt hn) h g a s

/-- What a point leaves in the result's block. -/
theorem point_apply (c : Dev nD) (t : Fin cfg0.N) (h g : Fin 4) (a : Fin 128) (d : Fin 64) :
    (outsAt0 m c t.val t.isLt).1 (ix2 a (col h g d)) = res (aX m c) (aB m c) (aS m c) (aK m c) (blkno t) h g a d := by
  by_cases h0 : t.val % 64 = 0
  · rw [outsAt0_A m c t h0]
    dsimp only
    rw [out_A]
    refine entry_eq m c t _ (fun h g a s => ?_) h g a d
    rw [table_A]
    exact tab_eq m c _ h g a s
  · rw [outsAt0_B m c t h0]
    dsimp only
    rw [out_B]
    exact entry_eq m c t _ (fun h g a s => table m c _ _ h g a s) h g a d

end Cert.Kernel8Ideal.Swa

end
-- ==== Proof.Swa.Law.lean ====
/- Windowed attention, the mathematics alone: weights divided before the weighted sum are the weighted sum divided, where
   the largest score is finite; one maximum over both blocks is the larger of the blocks' maxima; a bucket picked by
   selects is the bucket's bias. -/
module

public import proofs.«01_k».proof.Proof.Swa.Table
public import proofs.«01_k».proof.Proof.Sb.Math

@[expose] public section

set_option maxRecDepth 16384

noncomputable section

namespace Cert.Kernel8Ideal.Swa

open Cert.StickBreaking Idealize.ShloMosaic.TcCoe
open Idealize.ShloMosaic hiding ix0 ix1 ix2 ix3

/-- A nonnegative real factor moves out of a sum. -/
theorem sum_mul_coe {ι : Type*} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- Scaling every query is scaling the sum. -/
theorem dotq_eq (q k : Fin 64 → EReal) : (∑ e, k e * q e) * Ideal.ofBits .f32 0x3E000000#32 = dotq q k := by
  have h8 : ∃ r : ℝ, 0 ≤ r ∧ Ideal.ofBits .f32 0x3E000000#32 = (r : EReal) := ⟨1 / 8, by norm_num, by
    simp [Ideal.ofBits, Ideal.ieee]; norm_num [← EReal.coe_mul]⟩
  obtain ⟨r, hr, e⟩ := h8
  unfold dotq
  rw [e, ← sum_mul_coe _ _ hr]
  exact Finset.sum_congr rfl fun i _ => by rw [mul_comm (k i) (q i), mul_right_comm]

/-- A score of finite queries and keys is finite. -/
theorem fin_dotq (q k : Fin 64 → EReal) (hq : ∀ e, Fin' (q e)) (hk : ∀ e, Fin' (k e)) : Fin' (dotq q k) := by
  have h8 : Fin' (Ideal.ofBits .f32 0x3E000000#32) := ⟨1 / 8, by
    simp [Ideal.ofBits, Ideal.ieee]; norm_num [← EReal.coe_mul]⟩
  exact fin_sum _ _ fun e _ => fin_mul (fin_mul (hq e) h8) (hk e)

/-- The picked bias is the bucket's, and minus infinity where the number names no bucket. -/
theorem picked_eq (b : BitVec 32) : ∀ (n : ℕ) (hn : n < 2 ^ 32) (f : Fin n → EReal), picked b n f = if h : b.toNat < n then f ⟨b.toNat, h⟩ else ⊥
  | 0, _, _ => rfl
  | n + 1, hn, f => by
    unfold picked
    rw [picked_eq b n (by omega)]
    have hb : b = BitVec.ofNat 32 n ↔ b.toNat = n := by
      rw [← BitVec.toNat_inj, BitVec.toNat_ofNat, Nat.mod_eq_of_lt (by omega)]
    by_cases h1 : b.toNat = n
    · rw [if_pos (hb.2 h1), dif_pos (by omega)]
      exact congrArg f (Fin.ext h1.symm)
    · rw [if_neg (mt hb.1 h1)]
      by_cases h2 : b.toNat < n
      · rw [dif_pos h2, dif_pos (by omega)]; rfl
      · rw [dif_neg h2, dif_neg (by omega)]

/-- Position `s` of the block before, and of the block itself, in the row of 256 keys. -/
abbrev lo (s : Fin 128) : Fin 256 := ⟨s.val, by omega⟩
/-- The same in the second half. -/
abbrev hi (s : Fin 128) : Fin 256 := ⟨128 + s.val, by omega⟩

theorem sum_halves (f : Fin 256 → EReal) : ∑ s, f s = (∑ s, f (lo s)) + ∑ s, f (hi s) :=
  Fin.sum_univ_add (a := 128) (b := 128) f

theorem top_le {n : ℕ} (f : Fin n → EReal) (c : EReal) : top f ≤ c ↔ ∀ s, f s ≤ c := by
  unfold top
  rw [Finset.fold_max_le]
  simp

theorem top_lt {n : ℕ} (f : Fin n → EReal) (h : ∀ s, f s ≠ ⊤) : top f ≠ ⊤ := by
  unfold top
  rw [← lt_top_iff_ne_top, Finset.fold_max_lt]
  exact ⟨bot_lt_top, fun s _ => lt_top_iff_ne_top.2 (h s)⟩

theorem top_halves (f : Fin 256 → EReal) : top f = max (top fun s => f (lo s)) (top fun s => f (hi s)) := by
  refine eq_of_forall_ge_iff fun c => ?_
  rw [max_le_iff, top_le, top_le, top_le]
  refine ⟨fun h => ⟨fun s => h _, fun s => h _⟩, fun h s => ?_⟩
  by_cases hs : s.val < 128
  · exact h.1 ⟨s.val, hs⟩
  · have e : s = hi ⟨s.val - 128, by omega⟩ := Fin.ext (by show s.val = 128 + (s.val - 128); omega)
    rw [e]
    exact h.2 _

/-- The exponential below a finite number is a nonnegative real. -/
theorem exp_real {x : EReal} (hx : x ≠ ⊤) (r : ℝ) : ∃ p : ℝ, 0 ≤ p ∧ Ideal.exp (x - (r : EReal)) = (p : EReal) := by
  induction x using EReal.rec with
  | bot => exact ⟨0, le_refl _, by rw [EReal.bot_sub]; rfl⟩
  | coe x => exact ⟨Real.exp (x - r), (Real.exp_pos _).le, by rw [← EReal.coe_sub]; rfl⟩
  | top => exact absurd rfl hx

/-- The reference's weighted sum is the kernel's: the scores and values agree by halves, the values only where the score is
    not minus infinity, no score is plus infinity and the sink is finite. -/
theorem att_eq (L V : Fin 256 → EReal) (lp lc vp vc : Fin 128 → EReal) (k : EReal)
    (hlp : ∀ s, L (lo s) = lp s) (hlc : ∀ s, L (hi s) = lc s) (hvp : ∀ s, lp s = ⊥ ∨ V (lo s) = vp s) (hvc : ∀ s, V (hi s) = vc s)
    (hL : ∀ s, L s ≠ ⊤) (hk : Fin' k) :
    ∑ s, V s * Ideal.div (Ideal.exp (L s - max (top L) k)) ((0 + ∑ s, Ideal.exp (L s - max (top L) k)) + Ideal.exp (k - max (top L) k))
      = att lp lc vp vc k := by
  obtain rfl : (fun s => L (lo s)) = lp := funext hlp
  obtain rfl : (fun s => L (hi s)) = lc := funext hlc
  obtain rfl : (fun s => V (hi s)) = vc := funext hvc
  unfold att mass
  have hc : crest (fun s => L (lo s)) (fun s => L (hi s)) k = max (top L) k := by
    unfold crest; rw [← top_halves L]
  rw [hc, zero_add, sum_halves fun s => Ideal.exp (L s - max (top L) k)]
  obtain ⟨x, rfl⟩ := hk
  obtain ⟨r, hr⟩ : ∃ r : ℝ, max (top L) (x : EReal) = r := by
    have h1 : max (top L) (x : EReal) ≠ ⊤ := by
      intro h
      rcases max_choice (top L) (x : EReal) with e | e
      · exact top_lt L hL (e ▸ h)
      · exact EReal.coe_ne_top x (e ▸ h)
    have h2 : max (top L) (x : EReal) ≠ ⊥ := fun h => EReal.coe_ne_bot x (le_bot_iff.1 (h ▸ le_max_right _ _))
    exact ⟨_, (EReal.coe_toReal h1 h2).symm⟩
  rw [hr]
  choose p hp0 hp using fun s => exp_real (hL s) r
  simp only [hp]
  have hs : Ideal.exp ((x : EReal) - (r : EReal)) = ((Real.exp (x - r) : ℝ) : EReal) := by rw [← EReal.coe_sub]; rfl
  have hsum : ∀ f : Fin 128 → ℝ, ∑ s, ((f s : ℝ) : EReal) = ((∑ s, f s : ℝ) : EReal) := fun f => by
    classical
    refine Finset.induction_on (Finset.univ : Finset (Fin 128)) (by simp) fun a t ha ih => ?_
    rw [Finset.sum_insert ha, Finset.sum_insert ha, ih, EReal.coe_add]
  rw [hs, hsum, hsum, ← EReal.coe_add, ← EReal.coe_add]
  generalize hD : (∑ s, p (lo s)) + (∑ s, p (hi s)) + Real.exp (x - r) = D
  have hDpos : 0 < D := by
    rw [← hD]
    exact add_pos_of_nonneg_of_pos (add_nonneg (Finset.sum_nonneg fun s _ => hp0 _) (Finset.sum_nonneg fun s _ => hp0 _)) (Real.exp_pos _)
  rw [Ideal.div_coe hDpos.ne']
  have hterm : ∀ s, V s * Ideal.div ((p s : ℝ) : EReal) ((D : ℝ) : EReal) = ((p s : ℝ) : EReal) * V s * ((1 / D : ℝ) : EReal) := fun s => by
    rw [Ideal.div_coe hDpos.ne', ← mul_assoc, mul_comm (V s)]
  simp only [hterm]
  rw [sum_mul_coe _ _ (by positivity), sum_halves]
  refine congrArg (fun y => (y + _) * _) (Finset.sum_congr rfl fun s _ => ?_)
  rcases hvp s with h | h
  · have hz : ((p (lo s) : ℝ) : EReal) = 0 := by
      rw [← hp (lo s), show L (lo s) = ⊥ from h, EReal.bot_sub]; rfl
    rw [hz, zero_mul, zero_mul]
  · rw [h]

end Cert.Kernel8Ideal.Swa

end
-- ==== Proof.Swa.Ref.lean ====
/- Windowed attention, the reference's side: the program's stages read at an index, ending in the same weighted sum over
   the block and the block before it as the kernel's, the arguments it divides by finite. -/
module

public import proofs.«01_k».proof.Proof.Swa.State
public import proofs.«01_k».proof.Proof.Swa.Law
public import proofs.«01_k».proof.Proof.Gen.Reference8Ideal.Read
public import Idealize.ShloMosaic.Lib.KernelVsHost

@[expose] public section

set_option maxRecDepth 16384

noncomputable section

namespace Cert.Reference8Ideal.Swa

open Cert.Reference8Ideal Cert.Reference8Ideal.Gen Cert.Reference8Ideal.Read Cert.StickBreaking Idealize.ShloMosaic.TcCoe Idealize.ShloMosaic.ValueIdx
open Idealize.ShloMosaic hiding ix0 ix1 ix2 ix3 ix4 ix5
open Cert.Kernel8Ideal.Swa (arow prev qcol kcols vcols head col lo hi dotq sdot first res tab picked picked_eq dotq_eq fin_dotq att_eq att top)

variable (x0 : (⟨S8192x3584, .f32⟩ : BufTy).Contents (Elt Ideal)) (x1 : (⟨S32x16, .f32⟩ : BufTy).Contents (Elt Ideal))
  (x2 : (⟨S16, .f32⟩ : BufTy).Contents (Elt Ideal)) (x3 : (⟨S128x256, .i32⟩ : BufTy).Contents (Elt Ideal))

theorem q_apply (n : Fin 64) (a : Fin 128) (h g : Fin 4) (e : Fin 64) : val_main_v1 (F := Ideal) x0 (ix5 n a h g e) = x0 (ix2 (arow n a) (qcol h g e)) := by
  rw [val_main_v1_apply, val_main_v0_apply]
  refine congrArg x0 (funext fun b => Fin.ext ?_)
  have := n.isLt; have := a.isLt; have := h.isLt; have := g.isLt; have := e.isLt
  match b with
  | ⟨0, _⟩ => show ((((n.val * 128 + a.val) * 4 + h.val) * 4 + g.val) * 64 + e.val) / 1024 = 128 * n.val + a.val; omega
  | ⟨1, _⟩ => show ((((n.val * 128 + a.val) * 4 + h.val) * 4 + g.val) * 64 + e.val) % 1024 = 256 * h.val + 64 * g.val + e.val; omega

theorem k_apply (n : Fin 64) (s : Fin 128) (h : Fin 4) (e : Fin 64) : val_main_v3 (F := Ideal) x0 (ix4 n s h e) = x0 (ix2 (arow n s) (kcols h e)) := by
  rw [val_main_v3_apply, val_main_v2_apply]
  refine congrArg x0 (funext fun b => Fin.ext ?_)
  have := n.isLt; have := s.isLt; have := h.isLt; have := e.isLt
  match b with
  | ⟨0, _⟩ => show (((n.val * 128 + s.val) * 4 + h.val) * 64 + e.val) / 256 = 128 * n.val + s.val; omega
  | ⟨1, _⟩ => show 3072 + (((n.val * 128 + s.val) * 4 + h.val) * 64 + e.val) % 256 = 3072 + (64 * h.val + e.val); omega

theorem v_apply (n : Fin 64) (s : Fin 128) (h : Fin 4) (e : Fin 64) : val_main_v5 (F := Ideal) x0 (ix4 n s h e) = x0 (ix2 (arow n s) (vcols h e)) := by
  rw [val_main_v5_apply, val_main_v4_apply]
  refine congrArg x0 (funext fun b => Fin.ext ?_)
  have := n.isLt; have := s.isLt; have := h.isLt; have := e.isLt
  match b with
  | ⟨0, _⟩ => show (((n.val * 128 + s.val) * 4 + h.val) * 64 + e.val) / 256 = 128 * n.val + s.val; omega
  | ⟨1, _⟩ => show 3328 + (((n.val * 128 + s.val) * 4 + h.val) * 64 + e.val) % 256 = 3328 + (64 * h.val + e.val); omega

/-- A block of something and then 63 blocks: past the first, the block before. -/
theorem shifted (z : S1x128x4x64.Idx → EReal) (y : S63x128x4x64.Idx → EReal)
    (hc : Shape.Concatenates (([⟨S1x128x4x64, z⟩, ⟨S63x128x4x64, y⟩] : List ((s : Shape) × (s.Idx → EReal))).map (·.1)) S64x128x4x64 0)
    (n : Fin 64) (hn : n.val ≠ 0) (s : Fin 128) (h : Fin 4) (e : Fin 64) :
    concatenate S64x128x4x64 0 [⟨S1x128x4x64, z⟩, ⟨S63x128x4x64, y⟩] hc (ix4 n s h e) = y (ix4 ⟨n.val - 1, by omega⟩ s h e) := by
  refine concatenate_apply_piece _ _ hc _ 1 (by show 1 < 2; decide) _ y rfl rfl 1 rfl (ix4 ⟨n.val - 1, by omega⟩ s h e) (fun b hb => ?_) ?_
  · match b with
    | ⟨0, _⟩ => exact absurd rfl hb
    | ⟨1, _⟩ => rfl
    | ⟨2, _⟩ => rfl
    | ⟨3, _⟩ => rfl
  · show 1 + (n.val - 1) = n.val
    omega

/-- Two blocks of rows side by side: the first one's rows. -/
theorem joined_lo (x y : S64x128x4x64.Idx → EReal)
    (hc : Shape.Concatenates (([⟨S64x128x4x64, x⟩, ⟨S64x128x4x64, y⟩] : List ((s : Shape) × (s.Idx → EReal))).map (·.1)) S64x256x4x64 1)
    (n : Fin 64) (s : Fin 128) (h : Fin 4) (e : Fin 64) :
    concatenate S64x256x4x64 1 [⟨S64x128x4x64, x⟩, ⟨S64x128x4x64, y⟩] hc (ix4 n (lo s) h e) = x (ix4 n s h e) := by
  refine concatenate_apply_piece _ _ hc _ 0 (by show 0 < 2; decide) _ x rfl rfl 0 rfl (ix4 n s h e) (fun b hb => ?_) ?_
  · match b with
    | ⟨0, _⟩ => rfl
    | ⟨1, _⟩ => exact absurd rfl hb
    | ⟨2, _⟩ => rfl
    | ⟨3, _⟩ => rfl
  · show 0 + s.val = s.val
    omega

/-- Two blocks of rows side by side: the second one's rows. -/
theorem joined_hi (x y : S64x128x4x64.Idx → EReal)
    (hc : Shape.Concatenates (([⟨S64x128x4x64, x⟩, ⟨S64x128x4x64, y⟩] : List ((s : Shape) × (s.Idx → EReal))).map (·.1)) S64x256x4x64 1)
    (n : Fin 64) (s : Fin 128) (h : Fin 4) (e : Fin 64) :
    concatenate S64x256x4x64 1 [⟨S64x128x4x64, x⟩, ⟨S64x128x4x64, y⟩] hc (ix4 n (hi s) h e) = y (ix4 n s h e) := by
  refine concatenate_apply_piece _ _ hc _ 1 (by show 1 < 2; decide) _ y rfl rfl 128 rfl (ix4 n s h e) (fun b hb => ?_) rfl
  match b with
  | ⟨0, _⟩ => rfl
  | ⟨1, _⟩ => exact absurd rfl hb
  | ⟨2, _⟩ => rfl
  | ⟨3, _⟩ => rfl

/-- The keys beside the block before's. -/
theorem keys_lo (n : Fin 64) (hn : n.val ≠ 0) (s : Fin 128) (h : Fin 4) (e : Fin 64) :
    val_main_v9 (F := Ideal) x0 (ix4 n (lo s) h e) = x0 (ix2 (arow (prev n) s) (kcols h e)) := by
  unfold val_main_v9
  rw [joined_lo]
  unfold val_main_v8
  rw [shifted _ _ _ n hn, val_main_v7_apply, ← k_apply x0]
  refine congrArg _ (funext fun b => ?_)
  match b with | ⟨0, _⟩ => rfl | ⟨1, _⟩ => rfl | ⟨2, _⟩ => rfl | ⟨3, _⟩ => rfl

theorem keys_hi (n : Fin 64) (s : Fin 128) (h : Fin 4) (e : Fin 64) :
    val_main_v9 (F := Ideal) x0 (ix4 n (hi s) h e) = x0 (ix2 (arow n s) (kcols h e)) := by
  unfold val_main_v9
  rw [joined_hi, k_apply]

/-- The values beside the block before's. -/
theorem vals_lo (n : Fin 64) (hn : n.val ≠ 0) (s : Fin 128) (h : Fin 4) (e : Fin 64) :
    val_main_v12 (F := Ideal) x0 (ix4 n (lo s) h e) = x0 (ix2 (arow (prev n) s) (vcols h e)) := by
  unfold val_main_v12
  rw [joined_lo]
  unfold val_main_v11
  rw [shifted _ _ _ n hn, val_main_v10_apply, ← v_apply x0]
  refine congrArg _ (funext fun b => ?_)
  match b with | ⟨0, _⟩ => rfl | ⟨1, _⟩ => rfl | ⟨2, _⟩ => rfl | ⟨3, _⟩ => rfl

theorem vals_hi (n : Fin 64) (s : Fin 128) (h : Fin 4) (e : Fin 64) :
    val_main_v12 (F := Ideal) x0 (ix4 n (hi s) h e) = x0 (ix2 (arow n s) (vcols h e)) := by
  unfold val_main_v12
  rw [joined_hi, v_apply]

/-- The scaled scores, at any of the 256 keys. -/
theorem score_apply (n : Fin 64) (h g : Fin 4) (a : Fin 128) (s : Fin 256) :
    val_main_v16 (F := Ideal) x0 (ix5 n h g a s)
      = dotq (fun e => x0 (ix2 (arow n a) (qcol h g e))) (fun e => val_main_v9 (F := Ideal) x0 (ix4 n s h e)) := by
  rw [val_main_v16_apply, val_main_v14_apply, val_main_v13_apply, ← dotq_eq]
  show (_ * Ideal.ofBits .f32 0x3E000000#32 : EReal) = _
  refine congrArg (· * _) (Finset.sum_congr rfl fun e _ => ?_)
  rw [← q_apply x0]
  refine congrArg₂ (fun x y : EReal => x * y) (congrArg _ (funext fun b => ?_)) (congrArg _ (funext fun b => ?_))
  · match b with | ⟨0, _⟩ => rfl | ⟨1, _⟩ => rfl | ⟨2, _⟩ => rfl | ⟨3, _⟩ => rfl
  · match b with | ⟨0, _⟩ => rfl | ⟨1, _⟩ => rfl | ⟨2, _⟩ => rfl | ⟨3, _⟩ => rfl | ⟨4, _⟩ => rfl

/-- The bucket's number against a bucket's: one where they are the same. -/
theorem hot_apply (a : Fin 128) (s : Fin 256) (k : Fin 32) :
    val_main_v23 (F := Ideal) x3 (ix3 a s k) = if (x3 (ix2 a s) : BitVec 32).toNat = k.val then (1 : EReal) else 0 := by
  rw [val_main_v23_apply, val_main_v22_apply, val_main_v20_apply, val_main_v17_apply, val_main_v21_apply, val_main_v19_apply, val_main_v18_apply]
  have e : idx_main_v17 (idx_main_v20 (ix3 a s k)) = ix2 a s := funext fun b => by
    match b with | ⟨0, _⟩ => rfl | ⟨1, _⟩ => rfl
  rw [e]
  show (((BitVec.ofBool ((x3 (ix2 a s) : BitVec 32) == BitVec.ofNat 32 k.val)).toNat : ℝ) : EReal) = _
  have hb : (x3 (ix2 a s) : BitVec 32) = BitVec.ofNat 32 k.val ↔ (x3 (ix2 a s) : BitVec 32).toNat = k.val := by
    rw [← BitVec.toNat_inj, BitVec.toNat_ofNat, Nat.mod_eq_of_lt (by omega)]
  by_cases h : (x3 (ix2 a s) : BitVec 32).toNat = k.val
  · rw [if_pos h, beq_iff_eq.2 (hb.2 h)]; simp
  · rw [if_neg h, beq_eq_false_iff_ne.2 (mt hb.1 h)]; simp

/-- The bias: the bucket's, and zero where the number names none. -/
theorem bias_apply (n : Fin 64) (h g : Fin 4) (a : Fin 128) (s : Fin 256) :
    val_main_v51 (F := Ideal) x1 x3 (ix5 n h g a s)
      = if hb : (x3 (ix2 a s) : BitVec 32).toNat < 32 then x1 (ix2 ⟨(x3 (ix2 a s) : BitVec 32).toNat, hb⟩ (head h g)) else 0 := by
  rw [val_main_v51_apply, val_main_v50_apply, val_main_v25_apply]
  have hr : ∀ k : Fin 32, (val_main_v23 (F := Ideal) x3) (ridx_main_v25 (idx_main_v50 (idx_main_v51 (ix5 n h g a s))) k)
      = if (x3 (ix2 a s) : BitVec 32).toNat = k.val then (1 : EReal) else 0 := fun k => by
    rw [← hot_apply x3]
    refine congrArg _ (funext fun b => ?_)
    match b with | ⟨0, _⟩ => rfl | ⟨1, _⟩ => rfl | ⟨2, _⟩ => rfl
  have hl : ∀ k : Fin 32, (val_main_v24 (F := Ideal) x1) (lidx_main_v25 (idx_main_v50 (idx_main_v51 (ix5 n h g a s))) k) = x1 (ix2 k (head h g)) := fun k => by
    rw [val_main_v24_apply]
    refine congrArg x1 (funext fun b => Fin.ext ?_)
    have := h.isLt; have := g.isLt; have := k.isLt
    match b with
    | ⟨0, _⟩ => show ((k.val * 4 + h.val) * 4 + g.val) / 16 = k.val; omega
    | ⟨1, _⟩ => show ((k.val * 4 + h.val) * 4 + g.val) % 16 = 4 * h.val + g.val; omega
  simp only [hr, hl]
  by_cases hb : (x3 (ix2 a s) : BitVec 32).toNat < 32
  · rw [dif_pos hb, Finset.sum_eq_single ⟨(x3 (ix2 a s) : BitVec 32).toNat, hb⟩]
    · rw [if_pos rfl, mul_one]
    · intro k _ hk
      rw [if_neg fun h' => hk (Fin.ext h'.symm), mul_zero]
    · exact fun hx => absurd (Finset.mem_univ _) hx
  · rw [dif_neg hb]
    refine Finset.sum_eq_zero fun k _ => ?_
    rw [if_neg (by omega), mul_zero]

/-- Which positions lie before the sequence: the first block's block before. -/
theorem before (n : Fin 64) (s : Fin 256) :
    IntOp.cmpi .sge (IntOp.subi (IntOp.addi (IntOp.muli (BitVec.ofNat 32 n.val) 128#32) (BitVec.ofNat 32 s.val)) 128#32) 0#32
      = BitVec.ofBool (decide (¬(n.val = 0 ∧ s.val < 128))) := by
  have : ∀ n : Fin 64, ∀ s : Fin 256,
    IntOp.cmpi .sge (IntOp.subi (IntOp.addi (IntOp.muli (BitVec.ofNat 32 n.val) 128#32) (BitVec.ofNat 32 s.val)) 128#32) 0#32
      = BitVec.ofBool (decide (¬(n.val = 0 ∧ s.val < 128))) := by decide +kernel
  exact this n s

theorem and_bits : ∀ p q : Bool, BitVec.ofBool p &&& BitVec.ofBool q = BitVec.ofBool (p && q) := by decide

/-- Which numbers name a bucket. -/
theorem names (b : BitVec 32) : IntOp.andi (IntOp.cmpi .sge b 0#32) (IntOp.cmpi .slt b 32#32) = BitVec.ofBool (decide (b.toNat < 32)) := by
  show BitVec.ofBool ((0#32).sle b) &&& BitVec.ofBool (b.slt 32#32) = _
  have hb := b.isLt
  have e1 : (0#32).sle b = decide (b.toNat < 2 ^ 31) := by
    rw [BitVec.sle_eq_decide, decide_eq_decide, BitVec.toInt_eq_toNat_cond, BitVec.toInt_eq_toNat_cond]
    simp only [BitVec.toNat_ofNat]
    split <;> omega
  have e2 : b.slt 32#32 = decide (b.toNat < 32 ∨ 2 ^ 31 ≤ b.toNat) := by
    rw [BitVec.slt_eq_decide, decide_eq_decide, BitVec.toInt_eq_toNat_cond, BitVec.toInt_eq_toNat_cond]
    simp only [BitVec.toNat_ofNat]
    split <;> omega
  rw [e1, e2, and_bits]
  congr 1
  rw [← Bool.decide_and, decide_eq_decide]
  omega

/-- The mask. -/
theorem mask_apply (n : Fin 64) (h g : Fin 4) (a : Fin 128) (s : Fin 256) :
    val_main_call0_v1 (F := Ideal) x3 (ix5 n h g a s) = BitVec.ofBool (decide ((x3 (ix2 a s) : BitVec 32).toNat < 32 ∧ ¬(n.val = 0 ∧ s.val < 128))) := by
  rw [val_main_call0_v1_apply, val_main_v49_apply, val_main_v48_apply, val_main_v46_apply, val_main_v42_apply, val_main_v41_apply, val_main_v38_apply,
    val_main_v40_apply, val_main_v47_apply, val_main_v45_apply, val_main_v44_apply, val_main_v36_apply, val_main_v34_apply, val_main_v32_apply,
    val_main_v29_apply, val_main_v27_apply, val_main_v26_apply, val_main_v33_apply, val_main_v31_apply, val_main_v30_apply, val_main_v37_apply,
    val_main_v39_apply, val_main_v28_apply, val_main_v35_apply, val_main_v43_apply]
  have e : idx_main_v42 (idx_main_v46 (idx_main_v49 (idx_main_call0_v1 (ix5 n h g a s)))) = ix2 a s := funext fun b => by
    match b with | ⟨0, _⟩ => rfl | ⟨1, _⟩ => rfl
  rw [e]
  show IntOp.andi (IntOp.andi (IntOp.cmpi .sge (x3 (ix2 a s) : BitVec 32) 0#32) (IntOp.cmpi .slt (x3 (ix2 a s) : BitVec 32) 32#32))
    (IntOp.cmpi .sge (IntOp.subi (IntOp.addi (IntOp.muli (BitVec.ofNat 32 n.val) 128#32) (BitVec.ofNat 32 s.val)) 128#32) 0#32) = _
  rw [names, before]
  show BitVec.ofBool _ &&& BitVec.ofBool _ = _
  rw [and_bits, Bool.decide_and]

theorem ofBits_bot : Ideal.ofBits .f32 0xFF800000#32 = ⊥ := by simp [Ideal.ofBits, Ideal.ieee]

/-- The masked scores. -/
def L (n : Fin 64) (h g : Fin 4) (a : Fin 128) (s : Fin 256) : EReal := val_main_v53 (F := Ideal) x0 x1 x3 (ix5 n h g a s)

theorem L_eq (n : Fin 64) (h g : Fin 4) (a : Fin 128) (s : Fin 256) :
    L x0 x1 x3 n h g a s
      = if ¬(n.val = 0 ∧ s.val < 128) then
          dotq (fun e => x0 (ix2 (arow n a) (qcol h g e))) (fun e => val_main_v9 (F := Ideal) x0 (ix4 n s h e)) + tab x1 x3 h g a s
        else ⊥ := by
  unfold L
  rw [val_main_v53_apply, mask_apply, val_main_v52_apply, score_apply, bias_apply]
  unfold tab
  rw [picked_eq _ 32 (by norm_num)]
  have hbot : val_main_call0_v2 (F := Ideal) (ix5 n h g a s) = (⊥ : EReal) := by
    rw [val_main_call0_v2_apply, val_main_call0_v0_apply, val_main_cst_5_apply]
    exact ofBits_bot
  rw [hbot]
  by_cases hb : (x3 (ix2 a s) : BitVec 32).toNat < 32
  · rw [dif_pos hb, dif_pos hb]
    by_cases hn : n.val = 0 ∧ s.val < 128
    · rw [if_neg (not_not.2 hn), decide_eq_false (fun h' => h'.2 hn)]; rfl
    · rw [if_pos hn, decide_eq_true ⟨hb, hn⟩]; rfl
  · rw [dif_neg hb, dif_neg hb, decide_eq_false (fun h' => hb h'.1), EReal.add_bot, ite_self]; rfl

/-- The sink of a head. -/
theorem sink_apply (n : Fin 64) (h g : Fin 4) (a : Fin 128) (u : Fin 1) : val_main_v58 (F := Ideal) x2 (ix5 n h g a u) = x2 (ix1 (head h g)) := by
  rw [val_main_v58_apply, val_main_v55_apply, val_main_v54_apply]
  refine congrArg x2 (funext fun b => Fin.ext ?_)
  match b with | ⟨0, _⟩ => show h.val * 4 + g.val = 4 * h.val + g.val; omega

theorem sink2_apply (n : Fin 64) (h g : Fin 4) (a : Fin 128) (u : Fin 1) : val_main_v65 (F := Ideal) x2 (ix5 n h g a u) = x2 (ix1 (head h g)) := by
  rw [val_main_v65_apply, val_main_v55_apply, val_main_v54_apply]
  refine congrArg x2 (funext fun b => Fin.ext ?_)
  match b with | ⟨0, _⟩ => show h.val * 4 + g.val = 4 * h.val + g.val; omega

/-- The largest score of a row. -/
theorem top_apply (n : Fin 64) (h g : Fin 4) (a : Fin 128) : val_main_v56 (F := Ideal) x0 x1 x3 (ix4 n h g a) = top (L x0 x1 x3 n h g a) := by
  unfold val_main_v56
  unfold L
  generalize val_main_v53 (F := Ideal) x0 x1 x3 = y
  rw [Host.reduce_eq_fold_single FloatOps.maximumf _ _ reducesTo_S64x4x4x128x256_S64x4x4x128_d4 (by decide) h_S_]
  show (Finset.univ : Finset (Fin 256)).fold max (Ideal.ofBits .f32 0xFF800000#32) _ = _
  rw [ofBits_bot]
  unfold top
  congr 1
  funext s
  refine congrArg _ (funext fun b => ?_)
  match b with | ⟨0, _⟩ => rfl | ⟨1, _⟩ => rfl | ⟨2, _⟩ => rfl | ⟨3, _⟩ => rfl | ⟨4, _⟩ => rfl

/-- The number the exponentials are taken below. -/
theorem crest_apply (n : Fin 64) (h g : Fin 4) (a : Fin 128) (u : Fin 1) :
    val_main_v59 (F := Ideal) x0 x1 x2 x3 (ix5 n h g a u) = max (top (L x0 x1 x3 n h g a)) (x2 (ix1 (head h g))) := by
  rw [val_main_v59_apply, sink_apply, val_main_v57_apply, ← top_apply]
  refine congrArg (fun i => max (val_main_v56 (F := Ideal) x0 x1 x3 i : EReal) _) (funext fun b => ?_)
  match b with | ⟨0, _⟩ => rfl | ⟨1, _⟩ => rfl | ⟨2, _⟩ => rfl | ⟨3, _⟩ => rfl

theorem exp_apply (n : Fin 64) (h g : Fin 4) (a : Fin 128) (s : Fin 256) :
    val_main_v62 (F := Ideal) x0 x1 x2 x3 (ix5 n h g a s)
      = Ideal.exp (L x0 x1 x3 n h g a s - max (top (L x0 x1 x3 n h g a)) (x2 (ix1 (head h g)))) := by
  rw [val_main_v62_apply, val_main_v61_apply, val_main_v60_apply, ← crest_apply x0 x1 x2 x3 n h g a 0]
  refine congrArg (fun i => Ideal.exp (L x0 x1 x3 n h g a s - (val_main_v59 (F := Ideal) x0 x1 x2 x3 i : EReal))) (funext fun b => ?_)
  match b with | ⟨0, _⟩ => rfl | ⟨1, _⟩ => rfl | ⟨2, _⟩ => rfl | ⟨3, _⟩ => rfl | ⟨4, _⟩ => rfl

theorem mass_apply (n : Fin 64) (h g : Fin 4) (a : Fin 128) (u : Fin 1) :
    val_main_v68 (F := Ideal) x0 x1 x2 x3 (ix5 n h g a u)
      = (0 + ∑ s, Ideal.exp (L x0 x1 x3 n h g a s - max (top (L x0 x1 x3 n h g a)) (x2 (ix1 (head h g)))))
        + Ideal.exp (x2 (ix1 (head h g)) - max (top (L x0 x1 x3 n h g a)) (x2 (ix1 (head h g)))) := by
  rw [val_main_v68_apply, val_main_v64_apply, val_main_v63_apply, val_main_v67_apply, val_main_v66_apply, sink2_apply, crest_apply]
  refine congrArg₂ (fun x y : EReal => x + y) (congrArg₂ (fun x y : EReal => x + y) ?_ (Finset.sum_congr rfl fun s _ => ?_)) rfl
  · show Ideal.ofBits .f32 0x00000000#32 = 0
    simp [Ideal.ofBits, Ideal.ieee]
  · rw [← exp_apply]
    refine congrArg _ (funext fun b => ?_)
    match b with | ⟨0, _⟩ => rfl | ⟨1, _⟩ => rfl | ⟨2, _⟩ => rfl | ⟨3, _⟩ => rfl | ⟨4, _⟩ => rfl

theorem weight_apply (n : Fin 64) (h g : Fin 4) (a : Fin 128) (s : Fin 256) :
    val_main_v70 (F := Ideal) x0 x1 x2 x3 (ix5 n h g a s)
      = Ideal.div (Ideal.exp (L x0 x1 x3 n h g a s - max (top (L x0 x1 x3 n h g a)) (x2 (ix1 (head h g)))))
          ((0 + ∑ s, Ideal.exp (L x0 x1 x3 n h g a s - max (top (L x0 x1 x3 n h g a)) (x2 (ix1 (head h g)))))
            + Ideal.exp (x2 (ix1 (head h g)) - max (top (L x0 x1 x3 n h g a)) (x2 (ix1 (head h g))))) := by
  rw [val_main_v70_apply, exp_apply, val_main_v69_apply, ← mass_apply x0 x1 x2 x3 n h g a 0]
  refine congrArg (fun i => Ideal.div _ (val_main_v68 (F := Ideal) x0 x1 x2 x3 i : EReal)) (funext fun b => ?_)
  match b with | ⟨0, _⟩ => rfl | ⟨1, _⟩ => rfl | ⟨2, _⟩ => rfl | ⟨3, _⟩ => rfl | ⟨4, _⟩ => rfl

/-- The result, as the weighted sum over the 256 keys. -/
theorem out_apply (n : Fin 64) (h g : Fin 4) (a : Fin 128) (d : Fin 64) :
    val_main_v74 (F := Ideal) x0 x1 x2 x3 (ix2 (arow n a) (col h g d))
      = ∑ s : Fin 256, val_main_v12 (F := Ideal) x0 (ix4 n s h d) * val_main_v70 (F := Ideal) x0 x1 x2 x3 (ix5 n h g a s) := by
  rw [val_main_v74_apply]
  show val_main_v73 (F := Ideal) x0 x1 x2 x3 (ix2 (arow n a) (col h g d)) = _
  rw [val_main_v73_apply]
  have e : idx_main_v73 (ix2 (arow n a) (col h g d)) = ix5 n a h g d := funext fun b => Fin.ext (by
    have := n.isLt; have := a.isLt; have := h.isLt; have := g.isLt; have := d.isLt
    match b with
    | ⟨0, _⟩ => show ((128 * n.val + a.val) * 1024 + (256 * h.val + 64 * g.val + d.val)) / 131072 = n.val; omega
    | ⟨1, _⟩ => show ((128 * n.val + a.val) * 1024 + (256 * h.val + 64 * g.val + d.val)) / 1024 % 128 = a.val; omega
    | ⟨2, _⟩ => show ((128 * n.val + a.val) * 1024 + (256 * h.val + 64 * g.val + d.val)) / 256 % 4 = h.val; omega
    | ⟨3, _⟩ => show ((128 * n.val + a.val) * 1024 + (256 * h.val + 64 * g.val + d.val)) / 64 % 4 = g.val; omega
    | ⟨4, _⟩ => show ((128 * n.val + a.val) * 1024 + (256 * h.val + 64 * g.val + d.val)) % 64 = d.val; omega)
  rw [e, val_main_v72_apply, val_main_v71_apply]
  refine Finset.sum_congr rfl fun s _ => congrArg₂ (fun x y : EReal => x * y) (congrArg _ (funext fun b => ?_)) (congrArg _ (funext fun b => ?_))
  · match b with | ⟨0, _⟩ => rfl | ⟨1, _⟩ => rfl | ⟨2, _⟩ => rfl | ⟨3, _⟩ => rfl
  · match b with | ⟨0, _⟩ => rfl | ⟨1, _⟩ => rfl | ⟨2, _⟩ => rfl | ⟨3, _⟩ => rfl | ⟨4, _⟩ => rfl

/-- The reference's entry is the kernel's, the queries, keys, biases and sinks finite. -/
theorem ref_apply (hq : ∀ r h g e, Fin' (x0 (ix2 r (qcol h g e)))) (hk : ∀ r h e, Fin' (x0 (ix2 r (kcols h e)))) (hb : ∀ i, Fin' (x1 i)) (hs : ∀ i, Fin' (x2 i))
    (n : Fin 64) (h g : Fin 4) (a : Fin 128) (d : Fin 64) :
    val_main_v74 (F := Ideal) x0 x1 x2 x3 (ix2 (arow n a) (col h g d)) = res x0 x1 x2 x3 n h g a d := by
  rw [out_apply]
  simp only [weight_apply]
  have htab : ∀ s, tab x1 x3 h g a s ≠ ⊤ := fun s => by
    unfold tab
    rw [picked_eq _ 32 (by norm_num)]
    split
    · obtain ⟨r, e⟩ := hb (ix2 _ (head h g))
      rw [e]; exact EReal.coe_ne_top r
    · exact bot_ne_top
  have hdot : ∀ n' s, sdot x0 n n' h g a s ≠ ⊤ := fun n' s => by
    obtain ⟨r, e⟩ := fin_dotq (fun e => x0 (ix2 (arow n a) (qcol h g e))) (fun e => x0 (ix2 (arow n' s) (kcols h e))) (fun e => hq _ h g e) fun e => hk _ h e
    unfold sdot
    rw [e]; exact EReal.coe_ne_top r
  have hhi : ∀ s : Fin 128, L x0 x1 x3 n h g a (hi s) = sdot x0 n n h g a s + tab x1 x3 h g a (hi s) := fun s => by
    rw [L_eq, if_pos (by show ¬(n.val = 0 ∧ 128 + s.val < 128); omega)]
    simp only [keys_hi]
    rfl
  have hlo : ∀ s : Fin 128, L x0 x1 x3 n h g a (lo s) = sdot x0 n (prev n) h g a s + tab x1 x3 h g a (lo s) + first n := fun s => by
    rw [L_eq]
    unfold first
    by_cases hn : n.val = 0
    · rw [if_neg (not_not.2 ⟨hn, s.isLt⟩), if_pos hn, EReal.add_bot]
    · rw [if_pos (fun h' => hn h'.1), if_neg hn, add_zero]
      simp only [keys_lo x0 n hn]
      rfl
  unfold res
  refine att_eq (L x0 x1 x3 n h g a) (fun s => val_main_v12 (F := Ideal) x0 (ix4 n s h d)) _ _ _ _ _ hlo hhi (fun s => ?_) (fun s => vals_hi x0 n s h d) (fun s => ?_) (hs _)
  · by_cases hn : n.val = 0
    · left
      unfold first
      rw [if_pos hn, EReal.add_bot]
    · right
      exact vals_lo x0 n hn s h d
  · by_cases h1 : s.val < 128
    · have e : s = lo ⟨s.val, h1⟩ := rfl
      rw [e, hlo]
      unfold first
      split
      · rw [EReal.add_bot]; exact bot_ne_top
      · rw [add_zero]; exact EReal.add_ne_top (hdot _ _) (htab _)
    · have e : s = hi ⟨s.val - 128, by omega⟩ := Fin.ext (by show s.val = 128 + (s.val - 128); omega)
      rw [e, hhi]
      exact EReal.add_ne_top (hdot _ _) (htab _)

end Cert.Reference8Ideal.Swa

end
-- ==== Proof.Swa.Final.lean ====
/- Windowed attention: the kernel's result array after its run is the reference's result, where queries, keys, biases and
   sinks are finite. Each grid point writes one block of 128 rows; the blocks tile the array. -/
module

public import proofs.«01_k».proof.Proof.Swa.Ref

@[expose] public section

set_option maxRecDepth 16384

noncomputable section

namespace Cert.Kernel8Ideal.Swa

open Cert.Kernel8Ideal Cert.Kernel8Ideal.Gen Cert.StickBreaking Idealize.ShloMosaic.TcCoe Idealize.ShloMosaic.ValueIdx Idealize.SL.Sem
open Idealize.ShloMosaic hiding ix0 ix1 ix2 ix3 ix4 ix5

variable (m : (ℓ : Loc nD τ sig) → Buf (Elt Ideal) ℓ) (ρ : Dev nD → PrngReg)

/-- The reference's result over the kernel's arguments. -/
abbrev G (c : Dev nD) : Buf (Elt Ideal) ((c : Thread nD τ).loc main_v0) :=
  Cert.Reference8Ideal.Read.val_main_v74 (F := Ideal) (aX m c) (aB m c) (aS m c) (aK m c)

/-- Queries, keys, biases and sinks finite: the precondition at one device, as a fact about extended reals. -/
def Finite (X : S8192x3584.Idx → EReal) (B : S32x16.Idx → EReal) (S : S16.Idx → EReal) : Prop :=
  (∀ (r : Fin 8192) (j : Fin 3584), j.val < 1024 → Fin' (X (ix2 r j))) ∧ (∀ (r : Fin 8192) (j : Fin 256), Fin' (X (ix2 r ⟨3072 + j.val, by omega⟩)))
    ∧ (∀ i, Fin' (B i)) ∧ ∀ i, Fin' (S i)

/-- The result's blocks follow the grid points. -/
theorem idx8 : ∀ t : Fin grid0.N, win0_8.index t 0 = t.val ∧ win0_8.index t 1 = 0 := by decide +kernel

/-- What a grid point writes back is its block of the reference's result. -/
theorem flushed_eq (c : Dev nD) (hx : Finite (aX m c) (aB m c) (aS m c)) (t : Fin cfg0.N) :
    (dats m 0 c).flushed 8 t = (win0_8.blk t).view.read (Elt Ideal) (G m c) := by
  have e := idx8 t
  rw [Value.flushed8]
  funext j
  obtain ⟨a, k, rfl⟩ : ∃ (a : Fin 128) (k : Fin 1024), j = ix2 a k := ⟨j 0, j 1, ValueIdx.eq_ix2 j⟩
  obtain ⟨h, g, d, rfl⟩ : ∃ (h g : Fin 4) (d : Fin 64), k = col h g d :=
    ⟨⟨k.val / 256, by omega⟩, ⟨k.val / 64 % 4, by omega⟩, ⟨k.val % 64, by omega⟩, Fin.ext (by
      show k.val = 256 * (k.val / 256) + 64 * (k.val / 64 % 4) + k.val % 64; omega)⟩
  rw [View.read_apply]
  have hG : G m c (((win0_8.blk t).view).emb (ix2 a (col h g d))) = G m c (ix2 (arow (blkno t) a) (col h g d)) := by
    refine congrArg (G m c) (funext fun b => Fin.ext ?_)
    match b with
    | ⟨0, _⟩ => show win0_8.index t 0 * 128 + 1 * a.val = 128 * t.val + a.val; rw [e.1]; omega
    | ⟨1, _⟩ => show win0_8.index t 1 * 1024 + 1 * (col h g d).val = (col h g d).val; rw [e.2]; omega
  refine Eq.trans ?_ (hG.trans (Cert.Reference8Ideal.Swa.ref_apply (aX m c) (aB m c) (aS m c) (aK m c)
    (fun r h g e => hx.1 r _ (by show 256 * h.val + 64 * g.val + e.val < 1024; omega)) (fun r h e => hx.2.1 r ⟨64 * h.val + e.val, by omega⟩)
    hx.2.2.1 hx.2.2.2 (blkno t) h g a d)).symm
  exact point_apply m c t h g a d

/-- The run: the result array at the reference's result, the arguments unchanged. -/
theorem run (hx : ∀ c, Finite (aX m c) (aB m c) (aS m c)) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 8 (G m c) (fun t _ => flushed_eq m c (hx c) t) fun i =>
      (Value.covered_iff8 i).2 (by have h0 : (i 0).val < 8192 := (i 0).isLt; have h1 : (i 1).val < 1024 := (i 1).isLt; omega)), (h c).2⟩)
    (Value.run_blocks m ρ)

end Cert.Kernel8Ideal.Swa

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Sb.Final
public import proofs.«01_k».proof.Proof.Dense.MlpFinal
public import proofs.«01_k».proof.Proof.Dense.MlpMid
public import proofs.«01_k».proof.Proof.Dense.ProjOdd
public import proofs.«01_k».proof.Proof.Dense.ProjEven
public import proofs.«01_k».proof.Proof.Dense.OutOdd
public import proofs.«01_k».proof.Proof.Dense.OutEven
public import proofs.«01_k».proof.Proof.Swa.Final
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The side conditions the precondition's operations state. -/
theorem preFacts : Cert.Pre_queries_and_keys_finite.Facts where
  slices_S8192x6144_S8192x4096_0_0 := by decide
  bitsLt_bf16_f32 := by decide
  bcast_S_S8192x4096 := by decide

/-- Where the absolute value is found below infinity, the extended real is a real number. -/
theorem fin_of_cmp (x : EReal) (e : Ideal.cmp .olt (max x (-x)) (Ideal.ofBits .f32 0x7F800000#32) = 1#1) : Cert.StickBreaking.Fin' x := by
  have et : Ideal.ofBits .f32 0x7F800000#32 = (⊤ : EReal) := by simp [Ideal.ofBits, Ideal.ieee]
  rw [et] at e
  refine Cert.StickBreaking.fin_of_abs_lt ?_
  by_contra hn
  simp [Ideal.cmp, hn] at e

/-- The precondition, as finiteness of the first 4096 columns. -/
theorem finite_of_pre [Cert.Pre_queries_and_keys_finite.Facts] (x : Cert.KernelIdeal.S8192x6144.Idx → EReal)
    (h : Cert.Pre_queries_and_keys_finite.fn (F := Ideal) x = fun _ => 1#1) : Cert.KernelIdeal.Sb.Finite x := by
  intro p j hj
  have e := congrFun h (ValueIdx.ix2 p (⟨j.val, hj⟩ : Fin 4096))
  have e1 : extractStridedSlice Cert.Pre_queries_and_keys_finite.S8192x4096 ![0, 0] x
      Cert.Pre_queries_and_keys_finite.Facts.slices_S8192x6144_S8192x4096_0_0 (ValueIdx.ix2 p (⟨j.val, hj⟩ : Fin 4096)) = x (ValueIdx.ix2 p j) := by
    refine congrArg x (funext fun a => Fin.ext ?_)
    match a with
    | ⟨0, _⟩ => show 0 + p.val = p.val; omega
    | ⟨1, _⟩ => show 0 + j.val = j.val; omega
  have e2 : Ideal.cmp .olt (max (x (ValueIdx.ix2 p j)) (-(x (ValueIdx.ix2 p j)))) (Ideal.ofBits .f32 0x7F800000#32) = 1#1 := by
    rw [← e1]; exact e
  exact fin_of_cmp _ e2

/-- The host reference's run read at its argument; it declares no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩) (Cert.ReferenceIdeal.Value.run m ρ)

/-- The kernel's attention is the reference's, on the extended reals, where queries and keys are finite. -/
theorem algebraic_sb [hpre : Cert.Pre_queries_and_keys_finite.Facts] :
    Cert.algebraic_KernelIdeal_ReferenceIdeal_pre_queries_and_keys_finite :=
  fun m ρ m' ρ' hp hag => ⟨fun c => Cert.KernelIdeal.Sb.G m c,
    Cert.KernelIdeal.Sb.run m ρ fun c => finite_of_pre _ (hp c),
    (θ_run _ _ _).mono (fun _ h c => ⟨(h c).1.trans ((Cert.ReferenceIdeal.Read.val_main_v29_eq m' c).trans
      (congrArg (Cert.ReferenceIdeal.Read.val_main_v29 (F := Ideal)) (hag c))), (h c).2⟩) (Cert.ReferenceIdeal.Value.run m' ρ')⟩

/-- The last squared-ReLU layer with the final normalisation: the reference's run keeps its arguments; it declares no semaphore. -/
theorem frame_ref2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, sem_eq_zero_of_no_sems (by decide) r.2⟩) (Cert.Reference2Ideal.Value.run m ρ)

/-- The last squared-ReLU layer with the final normalisation: the kernel's result is the reference's, on the extended reals. -/
theorem algebraic_mlp_final : Cert.algebraic_Kernel2Ideal_Reference2Ideal :=
  fun m ρ m' ρ' _ hag => ⟨fun c => Cert.Kernel2Ideal.Dense.R m c, Cert.Kernel2Ideal.Dense.run m ρ,
    (θ_run _ _ _).mono (fun _ h c => ⟨(h c).1.trans ((Cert.Reference2Ideal.Read.val_main_v30_eq m' c).trans (by
      obtain ⟨h0, h1, h2, h3, h4⟩ := hag c
      rw [h0, h1, h2, h3, h4])), (h c).2⟩) (Cert.Reference2Ideal.Value.run m' ρ')⟩

/-- The first squared-ReLU layer: the reference's run keeps its arguments; it declares no semaphore. -/
theorem frame_ref3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun r h => ⟨fun c => (h c).2, sem_eq_zero_of_no_sems (by decide) r.2⟩) (Cert.Reference3Ideal.Value.run m ρ)

/-- The first squared-ReLU layer: the kernel's result is the reference's, on the extended reals. -/
theorem algebraic_mlp_mid : Cert.algebraic_Kernel3Ideal_Reference3Ideal :=
  fun m ρ m' ρ' _ hag => ⟨fun c => Cert.Kernel3Ideal.Dense.R m c, Cert.Kernel3Ideal.Dense.run m ρ,
    (θ_run _ _ _).mono (fun _ h c => ⟨(h c).1.trans ((Cert.Reference3Ideal.Read.val_main_v17_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans (by
      obtain ⟨h0, h1, h2, h3⟩ := hag c
      rw [h0, h1, h2, h3])), (h c).2⟩) (Cert.Reference3Ideal.Value.run m' ρ')⟩

/-- The projection to the stick-breaking attention's queries, keys and values: the reference's run keeps its arguments; it declares no semaphore. -/
theorem frame_ref4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run _ _ _).mono (fun r h => ⟨fun c => (h c).2, sem_eq_zero_of_no_sems (by decide) r.2⟩) (Cert.Reference4Ideal.Value.run m ρ)

/-- The projection to the stick-breaking attention's queries, keys and values: the kernel's result is the reference's, on the extended reals. -/
theorem algebraic_proj_odd : Cert.algebraic_Kernel4Ideal_Reference4Ideal :=
  fun m ρ m' ρ' _ hag => ⟨fun c => Cert.Kernel4Ideal.Dense.R m c, Cert.Kernel4Ideal.Dense.run m ρ,
    (θ_run _ _ _).mono (fun _ h c => ⟨(h c).1.trans ((Cert.Reference4Ideal.Read.val_main_v14_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))).trans (by
      obtain ⟨h0, h1, h2⟩ := hag c
      rw [h0, h1, h2])), (h c).2⟩) (Cert.Reference4Ideal.Value.run m' ρ')⟩

/-- The projection into the two mixers of the other layer: the reference's run keeps its arguments; it declares no semaphore. -/
theorem frame_ref5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0) :=
  (θ_run _ _ _).mono (fun r h => ⟨fun c => (h c).2, sem_eq_zero_of_no_sems (by decide) r.2⟩) (Cert.Reference5Ideal.Value.run m ρ)

/-- The projection into the two mixers of the other layer: the kernel's result is the reference's, on the extended reals. -/
theorem algebraic_proj_even : Cert.algebraic_Kernel5Ideal_Reference5Ideal :=
  fun m ρ m' ρ' _ hag => ⟨fun c => Cert.Kernel5Ideal.Dense.R m c, Cert.Kernel5Ideal.Dense.run m ρ,
    (θ_run _ _ _).mono (fun _ h c => ⟨(h c).1.trans ((Cert.Reference5Ideal.Read.val_main_v13_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans (by
      obtain ⟨h0, h1, h2⟩ := hag c
      rw [h0, h1, h2])), (h c).2⟩) (Cert.Reference5Ideal.Value.run m' ρ')⟩

/-- The projection out of the stick-breaking attention: the reference's run keeps its arguments; it declares no semaphore. -/
theorem frame_ref6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2, sem_eq_zero_of_no_sems (by decide) r.2⟩) (Cert.Reference6Ideal.Value.run m ρ)

/-- The projection out of the stick-breaking attention: the kernel's result is the reference's, on the extended reals. -/
theorem algebraic_out_odd : Cert.algebraic_Kernel6Ideal_Reference6Ideal :=
  fun m ρ m' ρ' _ hag => ⟨fun c => Cert.Kernel6Ideal.Dense.G m c, Cert.Kernel6Ideal.Dense.run m ρ,
    (θ_run _ _ _).mono (fun _ h c => ⟨(h c).1.trans ((Cert.Reference6Ideal.Read.val_main_v2_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans (by
      obtain ⟨h0, h1, h2⟩ := hag c
      rw [h0, h1, h2])), (h c).2⟩) (Cert.Reference6Ideal.Value.run m' ρ')⟩

/-- The projection out of the two mixers of the other layer: the reference's run keeps its arguments; it declares no semaphore. -/
theorem frame_ref7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run _ _ _).mono (fun r h => ⟨fun c => (h c).2, sem_eq_zero_of_no_sems (by decide) r.2⟩) (Cert.Reference7Ideal.Value.run m ρ)

/-- The projection out of the two mixers of the other layer: the kernel's result is the reference's, on the extended reals. -/
theorem algebraic_out_even : Cert.algebraic_Kernel7Ideal_Reference7Ideal :=
  fun m ρ m' ρ' _ hag => ⟨fun c => Cert.Kernel7Ideal.Dense.G m c, Cert.Kernel7Ideal.Dense.run m ρ,
    (θ_run _ _ _).mono (fun _ h c => ⟨(h c).1.trans ((Cert.Reference7Ideal.Read.val_main_v3_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))).trans (by
      obtain ⟨h0, h1, h2, h3⟩ := hag c
      rw [h0, h1, h2, h3])), (h c).2⟩) (Cert.Reference7Ideal.Value.run m' ρ')⟩

/-- The side conditions the windowed attention's precondition's operations state. -/
theorem preFacts8 : Cert.Pre_scores_finite.Facts where
  slices_S8192x3584_S8192x1024_0_0 := by decide
  bcast_S_S8192x1024 := by decide
  slices_S8192x3584_S8192x256_0_3072 := by decide
  bcast_S_S8192x256 := by decide
  bcast_S_S32x16 := by decide
  bcast_S_S16 := by decide

/-- The windowed attention's precondition, as finiteness of its queries, keys, biases and sinks. -/
theorem finite_of_pre8 [Cert.Pre_scores_finite.Facts] (x : Cert.Kernel8Ideal.S8192x3584.Idx → EReal) (b : Cert.Kernel8Ideal.S32x16.Idx → EReal)
    (s : Cert.Kernel8Ideal.S16.Idx → EReal) (k : Cert.Kernel8Ideal.S128x256.Idx → BitVec 32)
    (h : (Cert.Pre_scores_finite.fn (F := Ideal) x b s k).1 = (fun _ => 1#1) ∧ (Cert.Pre_scores_finite.fn (F := Ideal) x b s k).2.1 = (fun _ => 1#1)
      ∧ (Cert.Pre_scores_finite.fn (F := Ideal) x b s k).2.2.1 = (fun _ => 1#1) ∧ (Cert.Pre_scores_finite.fn (F := Ideal) x b s k).2.2.2 = (fun _ => 1#1)) :
    Cert.Kernel8Ideal.Swa.Finite x b s := by
  obtain ⟨hq, hk, hb, hs⟩ := h
  refine ⟨fun p j hj => fin_of_cmp _ ?_, fun p j => fin_of_cmp _ ?_, fun i => fin_of_cmp _ (congrFun hb i), fun i => fin_of_cmp _ (congrFun hs i)⟩
  · have e1 : extractStridedSlice Cert.Pre_scores_finite.S8192x1024 ![0, 0] x
        Cert.Pre_scores_finite.Facts.slices_S8192x3584_S8192x1024_0_0 (ValueIdx.ix2 p (⟨j.val, hj⟩ : Fin 1024)) = x (ValueIdx.ix2 p j) := by
      refine congrArg x (funext fun a => Fin.ext ?_)
      match a with
      | ⟨0, _⟩ => show 0 + p.val = p.val; omega
      | ⟨1, _⟩ => show 0 + j.val = j.val; omega
    rw [← e1]; exact congrFun hq (ValueIdx.ix2 p (⟨j.val, hj⟩ : Fin 1024))
  · have e1 : extractStridedSlice Cert.Pre_scores_finite.S8192x256 ![0, 3072] x
        Cert.Pre_scores_finite.Facts.slices_S8192x3584_S8192x256_0_3072 (ValueIdx.ix2 p j) = x (ValueIdx.ix2 p ⟨3072 + j.val, by omega⟩) := by
      refine congrArg x (funext fun a => Fin.ext ?_)
      match a with
      | ⟨0, _⟩ => show 0 + p.val = p.val; omega
      | ⟨1, _⟩ => rfl
    rw [← e1]; exact congrFun hk (ValueIdx.ix2 p j)

/-- The windowed attention: the reference's run keeps its arguments; it declares no semaphore. -/
theorem frame_ref8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0) :=
  (θ_run _ _ _).mono (fun r h => ⟨fun c => (h c).2, sem_eq_zero_of_no_sems (by decide) r.2⟩) (Cert.Reference8Ideal.Value.run m ρ)

/-- The windowed attention: the kernel's result is the reference's, on the extended reals, where queries, keys, biases and sinks are finite. -/
theorem algebraic_swa [hpre : Cert.Pre_scores_finite.Facts] : Cert.algebraic_Kernel8Ideal_Reference8Ideal_pre_scores_finite :=
  fun m ρ m' ρ' hp hag => ⟨fun c => Cert.Kernel8Ideal.Swa.G m c, Cert.Kernel8Ideal.Swa.run m ρ fun c => finite_of_pre8 _ _ _ _ (hp c),
    (θ_run _ _ _).mono (fun _ h c => ⟨(h c).1.trans ((Cert.Reference8Ideal.Read.val_main_v74_eq m' c).trans (by
      obtain ⟨h0, h1, h2, h3⟩ := hag c
      rw [h0, h1, h2, h3])), (h c).2⟩) (Cert.Reference8Ideal.Value.run m' ρ')⟩

/-- The number standing for a masked score names −∞. -/
theorem preserves_swa : Cert.preserves_Kernel8_Kernel8Ideal := IdealRules.named_const.statement _ _ _ _ _ rfl

/-- Every claim made about the programs. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    preFacts, preFacts8,
    fun m ρ _ => Cert.Kernel.Gen.frame m ρ, fun m ρ _ => Cert.KernelIdeal.Gen.frame m ρ, fun m ρ _ => Cert.KernelIdeal.Gen.frame m ρ,
    fun m ρ _ => frame_ref m ρ, fun m ρ _ => frame_ref m ρ,
    fun m ρ _ => Cert.Kernel2.Gen.frame m ρ, fun m ρ _ => Cert.Kernel2Ideal.Gen.frame m ρ, fun m ρ _ => frame_ref2 m ρ,
    fun m ρ _ => Cert.Kernel3.Gen.frame m ρ, fun m ρ _ => Cert.Kernel3Ideal.Gen.frame m ρ, fun m ρ _ => frame_ref3 m ρ,
    fun m ρ _ => Cert.Kernel4.Gen.frame m ρ, fun m ρ _ => Cert.Kernel4Ideal.Gen.frame m ρ, fun m ρ _ => frame_ref4 m ρ,
    fun m ρ _ => Cert.Kernel5.Gen.frame m ρ, fun m ρ _ => Cert.Kernel5Ideal.Gen.frame m ρ, fun m ρ _ => frame_ref5 m ρ,
    fun m ρ _ => Cert.Kernel6.Gen.frame m ρ, fun m ρ _ => Cert.Kernel6Ideal.Gen.frame m ρ, fun m ρ _ => frame_ref6 m ρ,
    fun m ρ _ => Cert.Kernel7.Gen.frame m ρ, fun m ρ _ => Cert.Kernel7Ideal.Gen.frame m ρ, fun m ρ _ => frame_ref7 m ρ,
    fun m ρ _ => Cert.Kernel8.Gen.frame m ρ, fun m ρ _ => Cert.Kernel8Ideal.Gen.frame m ρ, fun m ρ _ => Cert.Kernel8Ideal.Gen.frame m ρ,
    fun m ρ _ => frame_ref8 m ρ, fun m ρ _ => frame_ref8 m ρ,
    trivial, algebraic_sb (hpre := preFacts),
    trivial, algebraic_mlp_final,
    trivial, algebraic_mlp_mid,
    trivial, algebraic_proj_odd,
    trivial, algebraic_proj_even,
    trivial, algebraic_out_odd,
    trivial, algebraic_out_even,
    preserves_swa, algebraic_swa (hpre := preFacts8)⟩

end Cert.Proof

end
